-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v2_0)) (v4 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_v2_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_0) = v0 c
          ∧ r.2.mem ((c.tc : Thread Cert.ReferenceIdeal.nD Cert.ReferenceIdeal.τ).loc Cert.ReferenceIdeal.main_v20_1) = v1 c
          ∧ r.2.mem ((c.tc : Thread Cert.ReferenceIdeal.nD Cert.ReferenceIdeal.τ).loc Cert.ReferenceIdeal.main_v20_2) = v2 c
          ∧ r.2.mem ((c.tc : Thread Cert.ReferenceIdeal.nD Cert.ReferenceIdeal.τ).loc Cert.ReferenceIdeal.main_v20_3) = v3 c
          ∧ r.2.mem ((c.tc : Thread Cert.ReferenceIdeal.nD Cert.ReferenceIdeal.τ).loc Cert.ReferenceIdeal.main_v20_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x1536x7168 : Shape := ⟨3, ![4, 1536, 7168]⟩
abbrev S7168 : Shape := ⟨1, ![7168]⟩
abbrev S6144x7168 : Shape := ⟨2, ![6144, 7168]⟩
abbrev S48x56 : Shape := ⟨2, ![48, 56]⟩
abbrev S4 : Shape := ⟨1, ![4]⟩
abbrev S_ : Shape := ⟨0, ![]⟩

class Facts : Prop where
  bitsLt_bf16_f32 : FTy.bits .bf16 < FTy.bits .f32
  bcast_S_S4x1536x7168 : S_.BroadcastsInDim S4x1536x7168 (![] : Fin 0 → Fin S4x1536x7168.rank)
  bcast_S_S7168 : S_.BroadcastsInDim S7168 (![] : Fin 0 → Fin S7168.rank)

variable [Facts]

def fn_part1 {F : FTy → Type} [FloatOps F] (main_v11 : IVec S4x1536x7168 1) (main_v13 : IVec S7168 1) (main_v15 : IVec S7168 1) (main_v17 : IVec S7168 1) : IVec S4x1536x7168 1 × IVec S7168 1 :=
  let main_v18 : IVec S7168 1 := andi main_v15 main_v17
  let main_v19 : IVec S7168 1 := ori main_v13 main_v18
  (main_v11, main_v19)

def fn {F : FTy → Type} [FloatOps F] (main_arg0 : FVec F S4x1536x7168 .bf16) (main_arg1 : FVec F S7168 .bf16) (main_arg2 : FVec F S6144x7168 .fp8e4m3) (main_arg3 : FVec F S48x56 .f32) (main_arg4 : IVec S4 32) : IVec S4x1536x7168 1 × IVec S7168 1 :=
  let main_v0 : FVec F S4x1536x7168 .f32 := (extf .f32 · bitsLt_bf16_f32) main_arg0
  let main_v1 : FVec F S4x1536x7168 .f32 := Host.absf main_v0
  let main_v2 : FVec F S7168 .f32 := (extf .f32 · bitsLt_bf16_f32) main_arg1
  let main_v3 : FVec F S7168 .f32 := Host.absf main_v2
  let main_cst : FVec F S_ .f32 := constant S_ .f32 0x00000000#32
  let main_v4 : FVec F S4x1536x7168 .f32 := broadcastInDim S4x1536x7168 ![] bcast_S_S4x1536x7168 main_cst
  let main_v5 : IVec S4x1536x7168 1 := cmpf .oeq main_v1 main_v4
  let main_cst_0 : FVec F S_ .f32 := constant S_ .f32 0x2B800000#32
  let main_v6 : FVec F S4x1536x7168 .f32 := broadcastInDim S4x1536x7168 ![] bcast_S_S4x1536x7168 main_cst_0
  let main_v7 : IVec S4x1536x7168 1 := cmpf .oge main_v1 main_v6
  let main_cst_1 : FVec F S_ .f32 := constant S_ .f32 0x5D800000#32
  let main_v8 : FVec F S4x1536x7168 .f32 := broadcastInDim S4x1536x7168 ![] bcast_S_S4x1536x7168 main_cst_1
  let main_v9 : IVec S4x1536x7168 1 := cmpf .ole main_v1 main_v8
  let main_v10 : IVec S4x1536x7168 1 := andi main_v7 main_v9
  let main_v11 : IVec S4x1536x7168 1 := ori main_v5 main_v10
  let main_cst_2 : FVec F S_ .f32 := constant S_ .f32 0x00000000#32
  let main_v12 : FVec F S7168 .f32 := broadcastInDim S7168 ![] bcast_S_S7168 main_cst_2
  let main_v13 : IVec S7168 1 := cmpf .oeq main_v3 main_v12
  let main_cst_3 : FVec F S_ .f32 := constant S_ .f32 0x3A800000#32
  let main_v14 : FVec F S7168 .f32 := broadcastInDim S7168 ![] bcast_S_S7168 main_cst_3
  let main_v15 : IVec S7168 1 := cmpf .oge main_v3 main_v14
  let main_cst_4 : FVec F S_ .f32 := constant S_ .f32 0x44800000#32
  let main_v16 : FVec F S7168 .f32 := broadcastInDim S7168 ![] bcast_S_S7168 main_cst_4
  let main_v17 : IVec S7168 1 := cmpf .ole main_v3 main_v16
  fn_part1 (F := F) main_v11 main_v13 main_v15 main_v17
-- ==== Kernel.lean ====
abbrev S4x1536x7168 : Shape := ⟨3, ![4, 1536, 7168]⟩
abbrev S7168 : Shape := ⟨1, ![7168]⟩
abbrev S6144x7168 : Shape := ⟨2, ![6144, 7168]⟩
abbrev S48x56 : Shape := ⟨2, ![48, 56]⟩
abbrev S4 : Shape := ⟨1, ![4]⟩
abbrev S1x7168 : Shape := ⟨2, ![1, 7168]⟩
abbrev S6144x56 : Shape := ⟨2, ![6144, 56]⟩
abbrev S128x7168 : Shape := ⟨2, ![128, 7168]⟩
abbrev S128x56 : Shape := ⟨2, ![128, 56]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S64 : Shape := ⟨1, ![64]⟩
abbrev S_ : Shape := ⟨0, ![]⟩
abbrev S4x1 : Shape := ⟨2, ![4, 1]⟩
abbrev S2 : Shape := ⟨1, ![2]⟩
abbrev S1x2 : Shape := ⟨2, ![1, 2]⟩
abbrev S4x2 : Shape := ⟨2, ![4, 2]⟩
abbrev S8 : Shape := ⟨1, ![8]⟩
abbrev S6144x2048 : Shape := ⟨2, ![6144, 2048]⟩
abbrev S768x7168 : Shape := ⟨2, ![768, 7168]⟩
abbrev S512x7168 : Shape := ⟨2, ![512, 7168]⟩
abbrev S768x512 : Shape := ⟨2, ![768, 512]⟩
abbrev S1x1 : Shape := ⟨2, ![1, 1]⟩
abbrev S768x128 : Shape := ⟨2, ![768, 128]⟩
abbrev S1 : Shape := ⟨1, ![1]⟩

abbrev nBuf : Space → Nat
  | .hbm => 38
  | .vmem => 21
  | .smem => 2
  | _ => 0

abbrev bufTy : (tb : Table) → Fin (tcTables nBuf tb) → BufTy
  | .hbm, ⟨0, _⟩ => ⟨S4x1536x7168, .bf16⟩
  | .hbm, ⟨1, _⟩ => ⟨S7168, .bf16⟩
  | .hbm, ⟨2, _⟩ => ⟨S6144x7168, .fp8e4m3⟩
  | .hbm, ⟨3, _⟩ => ⟨S48x56, .f32⟩
  | .hbm, ⟨4, _⟩ => ⟨S4, .i32⟩
  | .hbm, ⟨5, _⟩ => ⟨S6144x7168, .bf16⟩
  | .hbm, ⟨6, _⟩ => ⟨S1x7168, .bf16⟩
  | .hbm, ⟨7, _⟩ => ⟨S6144x7168, .fp8e4m3⟩
  | .hbm, ⟨8, _⟩ => ⟨S6144x56, .f32⟩
  | .hbm, ⟨9, _⟩ => ⟨S6144x7168, .bf16⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S128, .f32⟩
  | .hbm, ⟨25, _⟩ => ⟨S1x128, .f32⟩
  | .hbm, ⟨26, _⟩ => ⟨S4x1, .i32⟩
  | .hbm, ⟨27, _⟩ => ⟨S2, .i32⟩
  | .hbm, ⟨28, _⟩ => ⟨S_, .i32⟩
  | .hbm, ⟨29, _⟩ => ⟨S2, .i32⟩
  | .hbm, ⟨30, _⟩ => ⟨S2, .i32⟩
  | .hbm, ⟨31, _⟩ => ⟨S1x2, .i32⟩
  | .hbm, ⟨32, _⟩ => ⟨S4x2, .i32⟩
  | .hbm, ⟨33, _⟩ => ⟨S4x2, .i32⟩
  | .hbm, ⟨34, _⟩ => ⟨S4x2, .i32⟩
  | .hbm, ⟨35, _⟩ => ⟨S6144x2048, .bf16⟩
  | .hbm, ⟨36, _⟩ => ⟨S6144x2048, .bf16⟩
  | .hbm, ⟨37, _⟩ => ⟨S6144x2048, .bf16⟩
  | .local _ .vmem, ⟨0, _⟩ => ⟨S128x7168, .bf16⟩
  | .local _ .vmem, ⟨1, _⟩ => ⟨S128x7168, .bf16⟩
  | .local _ .vmem, ⟨2, _⟩ => ⟨S1x7168, .bf16⟩
  | .local _ .vmem, ⟨3, _⟩ => ⟨S128x7168, .fp8e4m3⟩
  | .local _ .vmem, ⟨4, _⟩ => ⟨S128x7168, .fp8e4m3⟩
  | .local _ .vmem, ⟨5, _⟩ => ⟨S128x56, .f32⟩
  | .local _ .vmem, ⟨6, _⟩ => ⟨S128x56, .f32⟩
  | .local _ .vmem, ⟨7, _⟩ => ⟨S128x7168, .bf16⟩
  | .local _ .vmem, ⟨8, _⟩ => ⟨S128x7168, .bf16⟩
  | .local _ .vmem, ⟨9, _⟩ => ⟨S768x7168, .bf16⟩
  | .local _ .vmem, ⟨10, _⟩ => ⟨S768x7168, .bf16⟩
  | .local _ .vmem, ⟨11, _⟩ => ⟨S512x7168, .fp8e4m3⟩
  | .local _ .vmem, ⟨12, _⟩ => ⟨S512x7168, .fp8e4m3⟩
  | .local _ .vmem, ⟨13, _⟩ => ⟨S1x128, .f32⟩
  | .local _ .vmem, ⟨14, _⟩ => ⟨S768x512, .bf16⟩
  | .local _ .vmem, ⟨15, _⟩ => ⟨S768x512, .bf16⟩
  | .local _ .vmem, ⟨16, _⟩ => ⟨S768x512, .bf16⟩
  | .local _ .vmem, ⟨17, _⟩ => ⟨S768x512, .bf16⟩
  | .local _ .vmem, ⟨18, _⟩ => ⟨S768x512, .bf16⟩
  | .local _ .vmem, ⟨19, _⟩ => ⟨S768x512, .bf16⟩
  | .local _ .vmem, ⟨20, _⟩ => ⟨S512x7168, .bf16⟩
  | .local _ .smem, ⟨0, _⟩ => ⟨S8, .i32⟩
  | .local _ .smem, ⟨1, _⟩ => ⟨S48x56, .f32⟩
  | _, _ => ⟨S4x1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v23 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 12], ![false, false]⟩

abbrev pre1 : Pipeline.Prefetch sig := ⟨1, ![main_v23.idx], fun | 0 => main_v23.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (c0_i32 : BitVec 32) : Fin 2 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  let c0 : Index := 0#32
  ![v2.toNat, 0]
def k1_off2 (i : grid1.Coords) (c0_i32_5 : BitVec 32) : Fin 2 → Nat :=
  let arg1 : BitVec 32 := BitVec.ofNat 32 (i 1).val
  let c4_i32_4 : BitVec 32 := 4#32
  let v12 : BitVec 32 := Scalar.muli arg1 c4_i32_4
  let v13 : BitVec 32 := Scalar.addi v12 c0_i32_5
  let v14 : Index := Scalar.indexCast v13
  let c1 : Index := 1#32
  ![v14.toNat, 1]
def k1_off3 (i : grid1.Coords) (c0_i32_10 : BitVec 32) : Fin 2 → Nat :=
  let arg1 : BitVec 32 := BitVec.ofNat 32 (i 1).val
  let c4_i32_9 : BitVec 32 := 4#32
  let v24 : BitVec 32 := Scalar.muli arg1 c4_i32_9
  let v25 : BitVec 32 := Scalar.addi v24 c0_i32_10
  let v26 : Index := Scalar.indexCast v25
  let c2 : Index := 2#32
  ![v26.toNat, 2]
def k1_off4 (i : grid1.Coords) (c0_i32_15 : BitVec 32) : Fin 2 → Nat :=
  let arg1 : BitVec 32 := BitVec.ofNat 32 (i 1).val
  let c4_i32_14 : BitVec 32 := 4#32
  let v36 : BitVec 32 := Scalar.muli arg1 c4_i32_14
  let v37 : BitVec 32 := Scalar.addi v36 c0_i32_15
  let v38 : Index := Scalar.indexCast v37
  let c3 : Index := 3#32
  ![v38.toNat, 3]
def k1_off5 (i : grid1.Coords) (c0_i32_20 : BitVec 32) : Fin 2 → Nat :=
  let arg1 : BitVec 32 := BitVec.ofNat 32 (i 1).val
  let c4_i32_19 : BitVec 32 := 4#32
  let v48 : BitVec 32 := Scalar.muli arg1 c4_i32_19
  let v49 : BitVec 32 := Scalar.addi v48 c0_i32_20
  let v50 : Index := Scalar.indexCast v49
  let c4 : Index := 4#32
  ![v50.toNat, 4]
def k1_off6 (i : grid1.Coords) (c0_i32_25 : BitVec 32) : Fin 2 → Nat :=
  let arg1 : BitVec 32 := BitVec.ofNat 32 (i 1).val
  let c4_i32_24 : BitVec 32 := 4#32
  let v60 : BitVec 32 := Scalar.muli arg1 c4_i32_24
  let v61 : BitVec 32 := Scalar.addi v60 c0_i32_25
  let v62 : Index := Scalar.indexCast v61
  let c5 : Index := 5#32
  ![v62.toNat, 5]
def k1_off7 (i : grid1.Coords) (c0_i32_30 : BitVec 32) : Fin 2 → Nat :=
  let arg1 : BitVec 32 := BitVec.ofNat 32 (i 1).val
  let c4_i32_29 : BitVec 32 := 4#32
  let v72 : BitVec 32 := Scalar.muli arg1 c4_i32_29
  let v73 : BitVec 32 := Scalar.addi v72 c0_i32_30
  let v74 : Index := Scalar.indexCast v73
  let c6 : Index := 6#32
  ![v74.toNat, 6]
def k1_off8 (i : grid1.Coords) (c0_i32_35 : BitVec 32) : Fin 2 → Nat :=
  let arg1 : BitVec 32 := BitVec.ofNat 32 (i 1).val
  let c4_i32_34 : BitVec 32 := 4#32
  let v84 : BitVec 32 := Scalar.muli arg1 c4_i32_34
  let v85 : BitVec 32 := Scalar.addi v84 c0_i32_35
  let v86 : Index := Scalar.indexCast v85
  let c7 : Index := 7#32
  ![v86.toNat, 7]
def k1_off9 (i : grid1.Coords) (c0_i32_40 : BitVec 32) : Fin 2 → Nat :=
  let arg1 : BitVec 32 := BitVec.ofNat 32 (i 1).val
  let c4_i32_39 : BitVec 32 := 4#32
  let v96 : BitVec 32 := Scalar.muli arg1 c4_i32_39
  let v97 : BitVec 32 := Scalar.addi v96 c0_i32_40
  let v98 : Index := Scalar.indexCast v97
  let c8 : Index := 8#32
  ![v98.toNat, 8]
def k1_off10 (i : grid1.Coords) (c0_i32_45 : BitVec 32) : Fin 2 → Nat :=
  let arg1 : BitVec 32 := BitVec.ofNat 32 (i 1).val
  let c4_i32_44 : BitVec 32 := 4#32
  let v108 : BitVec 32 := Scalar.muli arg1 c4_i32_44
  let v109 : BitVec 32 := Scalar.addi v108 c0_i32_45
  let v110 : Index := Scalar.indexCast v109
  let c9 : Index := 9#32
  ![v110.toNat, 9]
def k1_off11 (i : grid1.Coords) (c0_i32_50 : BitVec 32) : Fin 2 → Nat :=
  let arg1 : BitVec 32 := BitVec.ofNat 32 (i 1).val
  let c4_i32_49 : BitVec 32 := 4#32
  let v120 : BitVec 32 := Scalar.muli arg1 c4_i32_49
  let v121 : BitVec 32 := Scalar.addi v120 c0_i32_50
  let v122 : Index := Scalar.indexCast v121
  let c10 : Index := 10#32
  ![v122.toNat, 10]
def k1_off12 (i : grid1.Coords) (c0_i32_55 : BitVec 32) : Fin 2 → Nat :=
  let arg1 : BitVec 32 := BitVec.ofNat 32 (i 1).val
  let c4_i32_54 : BitVec 32 := 4#32
  let v132 : BitVec 32 := Scalar.muli arg1 c4_i32_54
  let v133 : BitVec 32 := Scalar.addi v132 c0_i32_55
  let v134 : Index := Scalar.indexCast v133
  let c11 : Index := 11#32
  ![v134.toNat, 11]
def k1_off13 (i : grid1.Coords) (c0_i32_60 : BitVec 32) : Fin 2 → Nat :=
  let arg1 : BitVec 32 := BitVec.ofNat 32 (i 1).val
  let c4_i32_59 : BitVec 32 := 4#32
  let v144 : BitVec 32 := Scalar.muli arg1 c4_i32_59
  let v145 : BitVec 32 := Scalar.addi v144 c0_i32_60
  let v146 : Index := Scalar.indexCast v145
  let c12 : Index := 12#32
  ![v146.toNat, 12]
def k1_off14 (i : grid1.Coords) (c0_i32_65 : BitVec 32) : Fin 2 → Nat :=
  let arg1 : BitVec 32 := BitVec.ofNat 32 (i 1).val
  let c4_i32_64 : BitVec 32 := 4#32
  let v156 : BitVec 32 := Scalar.muli arg1 c4_i32_64
  let v157 : BitVec 32 := Scalar.addi v156 c0_i32_65
  let v158 : Index := Scalar.indexCast v157
  let c13 : Index := 13#32
  ![v158.toNat, 13]
def k1_off15 (i : grid1.Coords) (c0_i32_70 : BitVec 32) : Fin 2 → Nat :=
  let arg1 : BitVec 32 := BitVec.ofNat 32 (i 1).val
  let c4_i32_69 : BitVec 32 := 4#32
  let v168 : BitVec 32 := Scalar.muli arg1 c4_i32_69
  let v169 : BitVec 32 := Scalar.addi v168 c0_i32_70
  let v170 : Index := Scalar.indexCast v169
  let c14 : Index := 14#32
  ![v170.toNat, 14]
def k1_off16 (i : grid1.Coords) (c0_i32_75 : BitVec 32) : Fin 2 → Nat :=
  let arg1 : BitVec 32 := BitVec.ofNat 32 (i 1).val
  let c4_i32_74 : BitVec 32 := 4#32
  let v180 : BitVec 32 := Scalar.muli arg1 c4_i32_74
  let v181 : BitVec 32 := Scalar.addi v180 c0_i32_75
  let v182 : Index := Scalar.indexCast v181
  let c15 : Index := 15#32
  ![v182.toNat, 15]
def k1_off17 (i : grid1.Coords) (c0_i32_80 : BitVec 32) : Fin 2 → Nat :=
  let arg1 : BitVec 32 := BitVec.ofNat 32 (i 1).val
  let c4_i32_79 : BitVec 32 := 4#32
  let v192 : BitVec 32 := Scalar.muli arg1 c4_i32_79
  let v193 : BitVec 32 := Scalar.addi v192 c0_i32_80
  let v194 : Index := Scalar.indexCast v193
  let c16 : Index := 16#32
  ![v194.toNat, 16]
def k1_off18 (i : grid1.Coords) (c0_i32_85 : BitVec 32) : Fin 2 → Nat :=
  let arg1 : BitVec 32 := BitVec.ofNat 32 (i 1).val
  let c4_i32_84 : BitVec 32 := 4#32
  let v204 : BitVec 32 := Scalar.muli arg1 c4_i32_84
  let v205 : BitVec 32 := Scalar.addi v204 c0_i32_85
  let v206 : Index := Scalar.indexCast v205
  let c17 : Index := 17#32
  ![v206.toNat, 17]
def k1_off19 (i : grid1.Coords) (c0_i32_90 : BitVec 32) : Fin 2 → Nat :=
  let arg1 : BitVec 32 := BitVec.ofNat 32 (i 1).val
  let c4_i32_89 : BitVec 32 := 4#32
  let v216 : BitVec 32 := Scalar.muli arg1 c4_i32_89
  let v217 : BitVec 32 := Scalar.addi v216 c0_i32_90
  let v218 : Index := Scalar.indexCast v217
  let c18 : Index := 18#32
  ![v218.toNat, 18]
def k1_off20 (i : grid1.Coords) (c0_i32_95 : BitVec 32) : Fin 2 → Nat :=
  let arg1 : BitVec 32 := BitVec.ofNat 32 (i 1).val
  let c4_i32_94 : BitVec 32 := 4#32
  let v228 : BitVec 32 := Scalar.muli arg1 c4_i32_94
  let v229 : BitVec 32 := Scalar.addi v228 c0_i32_95
  let v230 : Index := Scalar.indexCast v229
  let c19 : Index := 19#32
  ![v230.toNat, 19]
def k1_off21 (i : grid1.Coords) (c0_i32_100 : BitVec 32) : Fin 2 → Nat :=
  let arg1 : BitVec 32 := BitVec.ofNat 32 (i 1).val
  let c4_i32_99 : BitVec 32 := 4#32
  let v240 : BitVec 32 := Scalar.muli arg1 c4_i32_99
  let v241 : BitVec 32 := Scalar.addi v240 c0_i32_100
  let v242 : Index := Scalar.indexCast v241
  let c20 : Index := 20#32
  ![v242.toNat, 20]
def k1_off22 (i : grid1.Coords) (c0_i32_105 : BitVec 32) : Fin 2 → Nat :=
  let arg1 : BitVec 32 := BitVec.ofNat 32 (i 1).val
  let c4_i32_104 : BitVec 32 := 4#32
  let v252 : BitVec 32 := Scalar.muli arg1 c4_i32_104
  let v253 : BitVec 32 := Scalar.addi v252 c0_i32_105
  let v254 : Index := Scalar.indexCast v253
  let c21 : Index := 21#32
  ![v254.toNat, 21]
def k1_off23 (i : grid1.Coords) (c0_i32_110 : BitVec 32) : Fin 2 → Nat :=
  let arg1 : BitVec 32 := BitVec.ofNat 32 (i 1).val
  let c4_i32_109 : BitVec 32 := 4#32
  let v264 : BitVec 32 := Scalar.muli arg1 c4_i32_109
  let v265 : BitVec 32 := Scalar.addi v264 c0_i32_110
  let v266 : Index := Scalar.indexCast v265
  let c22 : Index := 22#32
  ![v266.toNat, 22]
def k1_off24 (i : grid1.Coords) (c0_i32_115 : BitVec 32) : Fin 2 → Nat :=
  let arg1 : BitVec 32 := BitVec.ofNat 32 (i 1).val
  let c4_i32_114 : BitVec 32 := 4#32
  let v276 : BitVec 32 := Scalar.muli arg1 c4_i32_114
  let v277 : BitVec 32 := Scalar.addi v276 c0_i32_115
  let v278 : Index := Scalar.indexCast v277
  let c23 : Index := 23#32
  ![v278.toNat, 23]
def k1_off25 (i : grid1.Coords) (c0_i32_120 : BitVec 32) : Fin 2 → Nat :=
  let arg1 : BitVec 32 := BitVec.ofNat 32 (i 1).val
  let c4_i32_119 : BitVec 32 := 4#32
  let v288 : BitVec 32 := Scalar.muli arg1 c4_i32_119
  let v289 : BitVec 32 := Scalar.addi v288 c0_i32_120
  let v290 : Index := Scalar.indexCast v289
  let c24 : Index := 24#32
  ![v290.toNat, 24]
def k1_off26 (i : grid1.Coords) (c0_i32_125 : BitVec 32) : Fin 2 → Nat :=
  let arg1 : BitVec 32 := BitVec.ofNat 32 (i 1).val
  let c4_i32_124 : BitVec 32 := 4#32
  let v300 : BitVec 32 := Scalar.muli arg1 c4_i32_124
  let v301 : BitVec 32 := Scalar.addi v300 c0_i32_125
  let v302 : Index := Scalar.indexCast v301
  let c25 : Index := 25#32
  ![v302.toNat, 25]
def k1_off27 (i : grid1.Coords) (c0_i32_130 : BitVec 32) : Fin 2 → Nat :=
  let arg1 : BitVec 32 := BitVec.ofNat 32 (i 1).val
  let c4_i32_129 : BitVec 32 := 4#32
  let v312 : BitVec 32 := Scalar.muli arg1 c4_i32_129
  let v313 : BitVec 32 := Scalar.addi v312 c0_i32_130
  let v314 : Index := Scalar.indexCast v313
  let c26 : Index := 26#32
  ![v314.toNat, 26]
def k1_off28 (i : grid1.Coords) (c0_i32_135 : BitVec 32) : Fin 2 → Nat :=
  let arg1 : BitVec 32 := BitVec.ofNat 32 (i 1).val
  let c4_i32_134 : BitVec 32 := 4#32
  let v324 : BitVec 32 := Scalar.muli arg1 c4_i32_134
  let v325 : BitVec 32 := Scalar.addi v324 c0_i32_135
  let v326 : Index := Scalar.indexCast v325
  let c27 : Index := 27#32
  ![v326.toNat, 27]
def k1_off29 (i : grid1.Coords) (c0_i32_140 : BitVec 32) : Fin 2 → Nat :=
  let arg1 : BitVec 32 := BitVec.ofNat 32 (i 1).val
  let c4_i32_139 : BitVec 32 := 4#32
  let v336 : BitVec 32 := Scalar.muli arg1 c4_i32_139
  let v337 : BitVec 32 := Scalar.addi v336 c0_i32_140
  let v338 : Index := Scalar.indexCast v337
  let c28 : Index := 28#32
  ![v338.toNat, 28]
def k1_off30 (i : grid1.Coords) (c0_i32_145 : BitVec 32) : Fin 2 → Nat :=
  let arg1 : BitVec 32 := BitVec.ofNat 32 (i 1).val
  let c4_i32_144 : BitVec 32 := 4#32
  let v348 : BitVec 32 := Scalar.muli arg1 c4_i32_144
  let v349 : BitVec 32 := Scalar.addi v348 c0_i32_145
  let v350 : Index := Scalar.indexCast v349
  let c29 : Index := 29#32
  ![v350.toNat, 29]
def k1_off31 (i : grid1.Coords) (c0_i32_150 : BitVec 32) : Fin 2 → Nat :=
  let arg1 : BitVec 32 := BitVec.ofNat 32 (i 1).val
  let c4_i32_149 : BitVec 32 := 4#32
  let v360 : BitVec 32 := Scalar.muli arg1 c4_i32_149
  let v361 : BitVec 32 := Scalar.addi v360 c0_i32_150
  let v362 : Index := Scalar.indexCast v361
  let c30 : Index := 30#32
  ![v362.toNat, 30]
def k1_off32 (i : grid1.Coords) (c0_i32_155 : BitVec 32) : Fin 2 → Nat :=
  let arg1 : BitVec 32 := BitVec.ofNat 32 (i 1).val
  let c4_i32_154 : BitVec 32 := 4#32
  let v372 : BitVec 32 := Scalar.muli arg1 c4_i32_154
  let v373 : BitVec 32 := Scalar.addi v372 c0_i32_155
  let v374 : Index := Scalar.indexCast v373
  let c31 : Index := 31#32
  ![v374.toNat, 31]
def k1_off33 (i : grid1.Coords) (c0_i32_160 : BitVec 32) : Fin 2 → Nat :=
  let arg1 : BitVec 32 := BitVec.ofNat 32 (i 1).val
  let c4_i32_159 : BitVec 32 := 4#32
  let v384 : BitVec 32 := Scalar.muli arg1 c4_i32_159
  let v385 : BitVec 32 := Scalar.addi v384 c0_i32_160
  let v386 : Index := Scalar.indexCast v385
  let c32 : Index := 32#32
  ![v386.toNat, 32]
def k1_off34 (i : grid1.Coords) (c0_i32_165 : BitVec 32) : Fin 2 → Nat :=
  let arg1 : BitVec 32 := BitVec.ofNat 32 (i 1).val
  let c4_i32_164 : BitVec 32 := 4#32
  let v396 : BitVec 32 := Scalar.muli arg1 c4_i32_164
  let v397 : BitVec 32 := Scalar.addi v396 c0_i32_165
  let v398 : Index := Scalar.indexCast v397
  let c33 : Index := 33#32
  ![v398.toNat, 33]
def k1_off35 (i : grid1.Coords) (c0_i32_170 : BitVec 32) : Fin 2 → Nat :=
  let arg1 : BitVec 32 := BitVec.ofNat 32 (i 1).val
  let c4_i32_169 : BitVec 32 := 4#32
  let v408 : BitVec 32 := Scalar.muli arg1 c4_i32_169
  let v409 : BitVec 32 := Scalar.addi v408 c0_i32_170
  let v410 : Index := Scalar.indexCast v409
  let c34 : Index := 34#32
  ![v410.toNat, 34]
def k1_off36 (i : grid1.Coords) (c0_i32_175 : BitVec 32) : Fin 2 → Nat :=
  let arg1 : BitVec 32 := BitVec.ofNat 32 (i 1).val
  let c4_i32_174 : BitVec 32 := 4#32
  let v420 : BitVec 32 := Scalar.muli arg1 c4_i32_174
  let v421 : BitVec 32 := Scalar.addi v420 c0_i32_175
  let v422 : Index := Scalar.indexCast v421
  let c35 : Index := 35#32
  ![v422.toNat, 35]
def k1_off37 (i : grid1.Coords) (c0_i32_180 : BitVec 32) : Fin 2 → Nat :=
  let arg1 : BitVec 32 := BitVec.ofNat 32 (i 1).val
  let c4_i32_179 : BitVec 32 := 4#32
  let v432 : BitVec 32 := Scalar.muli arg1 c4_i32_179
  let v433 : BitVec 32 := Scalar.addi v432 c0_i32_180
  let v434 : Index := Scalar.indexCast v433
  let c36 : Index := 36#32
  ![v434.toNat, 36]
def k1_off38 (i : grid1.Coords) (c0_i32_185 : BitVec 32) : Fin 2 → Nat :=
  let arg1 : BitVec 32 := BitVec.ofNat 32 (i 1).val
  let c4_i32_184 : BitVec 32 := 4#32
  let v444 : BitVec 32 := Scalar.muli arg1 c4_i32_184
  let v445 : BitVec 32 := Scalar.addi v444 c0_i32_185
  let v446 : Index := Scalar.indexCast v445
  let c37 : Index := 37#32
  ![v446.toNat, 37]
def k1_off39 (i : grid1.Coords) (c0_i32_190 : BitVec 32) : Fin 2 → Nat :=
  let arg1 : BitVec 32 := BitVec.ofNat 32 (i 1).val
  let c4_i32_189 : BitVec 32 := 4#32
  let v456 : BitVec 32 := Scalar.muli arg1 c4_i32_189
  let v457 : BitVec 32 := Scalar.addi v456 c0_i32_190
  let v458 : Index := Scalar.indexCast v457
  let c38 : Index := 38#32
  ![v458.toNat, 38]
def k1_off40 (i : grid1.Coords) (c0_i32_195 : BitVec 32) : Fin 2 → Nat :=
  let arg1 : BitVec 32 := BitVec.ofNat 32 (i 1).val
  let c4_i32_194 : BitVec 32 := 4#32
  let v468 : BitVec 32 := Scalar.muli arg1 c4_i32_194
  let v469 : BitVec 32 := Scalar.addi v468 c0_i32_195
  let v470 : Index := Scalar.indexCast v469
  let c39 : Index := 39#32
  ![v470.toNat, 39]
def k1_off41 (i : grid1.Coords) (c0_i32_200 : BitVec 32) : Fin 2 → Nat :=
  let arg1 : BitVec 32 := BitVec.ofNat 32 (i 1).val
  let c4_i32_199 : BitVec 32 := 4#32
  let v480 : BitVec 32 := Scalar.muli arg1 c4_i32_199
  let v481 : BitVec 32 := Scalar.addi v480 c0_i32_200
  let v482 : Index := Scalar.indexCast v481
  let c40 : Index := 40#32
  ![v482.toNat, 40]
def k1_off42 (i : grid1.Coords) (c0_i32_205 : BitVec 32) : Fin 2 → Nat :=
  let arg1 : BitVec 32 := BitVec.ofNat 32 (i 1).val
  let c4_i32_204 : BitVec 32 := 4#32
  let v492 : BitVec 32 := Scalar.muli arg1 c4_i32_204
  let v493 : BitVec 32 := Scalar.addi v492 c0_i32_205
  let v494 : Index := Scalar.indexCast v493
  let c41 : Index := 41#32
  ![v494.toNat, 41]
def k1_off43 (i : grid1.Coords) (c0_i32_210 : BitVec 32) : Fin 2 → Nat :=
  let arg1 : BitVec 32 := BitVec.ofNat 32 (i 1).val
  let c4_i32_209 : BitVec 32 := 4#32
  let v504 : BitVec 32 := Scalar.muli arg1 c4_i32_209
  let v505 : BitVec 32 := Scalar.addi v504 c0_i32_210
  let v506 : Index := Scalar.indexCast v505
  let c42 : Index := 42#32
  ![v506.toNat, 42]
def k1_off44 (i : grid1.Coords) (c0_i32_215 : BitVec 32) : Fin 2 → Nat :=
  let arg1 : BitVec 32 := BitVec.ofNat 32 (i 1).val
  let c4_i32_214 : BitVec 32 := 4#32
  let v516 : BitVec 32 := Scalar.muli arg1 c4_i32_214
  let v517 : BitVec 32 := Scalar.addi v516 c0_i32_215
  let v518 : Index := Scalar.indexCast v517
  let c43 : Index := 43#32
  ![v518.toNat, 43]
def k1_off45 (i : grid1.Coords) (c0_i32_220 : BitVec 32) : Fin 2 → Nat :=
  let arg1 : BitVec 32 := BitVec.ofNat 32 (i 1).val
  let c4_i32_219 : BitVec 32 := 4#32
  let v528 : BitVec 32 := Scalar.muli arg1 c4_i32_219
  let v529 : BitVec 32 := Scalar.addi v528 c0_i32_220
  let v530 : Index := Scalar.indexCast v529
  let c44 : Index := 44#32
  ![v530.toNat, 44]
def k1_off46 (i : grid1.Coords) (c0_i32_225 : BitVec 32) : Fin 2 → Nat :=
  let arg1 : BitVec 32 := BitVec.ofNat 32 (i 1).val
  let c4_i32_224 : BitVec 32 := 4#32
  let v540 : BitVec 32 := Scalar.muli arg1 c4_i32_224
  let v541 : BitVec 32 := Scalar.addi v540 c0_i32_225
  let v542 : Index := Scalar.indexCast v541
  let c45 : Index := 45#32
  ![v542.toNat, 45]
def k1_off47 (i : grid1.Coords) (c0_i32_230 : BitVec 32) : Fin 2 → Nat :=
  let arg1 : BitVec 32 := BitVec.ofNat 32 (i 1).val
  let c4_i32_229 : BitVec 32 := 4#32
  let v552 : BitVec 32 := Scalar.muli arg1 c4_i32_229
  let v553 : BitVec 32 := Scalar.addi v552 c0_i32_230
  let v554 : Index := Scalar.indexCast v553
  let c46 : Index := 46#32
  ![v554.toNat, 46]
def k1_off48 (i : grid1.Coords) (c0_i32_235 : BitVec 32) : Fin 2 → Nat :=
  let arg1 : BitVec 32 := BitVec.ofNat 32 (i 1).val
  let c4_i32_234 : BitVec 32 := 4#32
  let v564 : BitVec 32 := Scalar.muli arg1 c4_i32_234
  let v565 : BitVec 32 := Scalar.addi v564 c0_i32_235
  let v566 : Index := Scalar.indexCast v565
  let c47 : Index := 47#32
  ![v566.toNat, 47]
def k1_off49 (i : grid1.Coords) (c0_i32_240 : BitVec 32) : Fin 2 → Nat :=
  let arg1 : BitVec 32 := BitVec.ofNat 32 (i 1).val
  let c4_i32_239 : BitVec 32 := 4#32
  let v576 : BitVec 32 := Scalar.muli arg1 c4_i32_239
  let v577 : BitVec 32 := Scalar.addi v576 c0_i32_240
  let v578 : Index := Scalar.indexCast v577
  let c48 : Index := 48#32
  ![v578.toNat, 48]
def k1_off50 (i : grid1.Coords) (c0_i32_245 : BitVec 32) : Fin 2 → Nat :=
  let arg1 : BitVec 32 := BitVec.ofNat 32 (i 1).val
  let c4_i32_244 : BitVec 32 := 4#32
  let v588 : BitVec 32 := Scalar.muli arg1 c4_i32_244
  let v589 : BitVec 32 := Scalar.addi v588 c0_i32_245
  let v590 : Index := Scalar.indexCast v589
  let c49 : Index := 49#32
  ![v590.toNat, 49]
def k1_off51 (i : grid1.Coords) (c0_i32_250 : BitVec 32) : Fin 2 → Nat :=
  let arg1 : BitVec 32 := BitVec.ofNat 32 (i 1).val
  let c4_i32_249 : BitVec 32 := 4#32
  let v600 : BitVec 32 := Scalar.muli arg1 c4_i32_249
  let v601 : BitVec 32 := Scalar.addi v600 c0_i32_250
  let v602 : Index := Scalar.indexCast v601
  let c50 : Index := 50#32
  ![v602.toNat, 50]
def k1_off52 (i : grid1.Coords) (c0_i32_255 : BitVec 32) : Fin 2 → Nat :=
  let arg1 : BitVec 32 := BitVec.ofNat 32 (i 1).val
  let c4_i32_254 : BitVec 32 := 4#32
  let v612 : BitVec 32 := Scalar.muli arg1 c4_i32_254
  let v613 : BitVec 32 := Scalar.addi v612 c0_i32_255
  let v614 : Index := Scalar.indexCast v613
  let c51 : Index := 51#32
  ![v614.toNat, 51]
def k1_off53 (i : grid1.Coords) (c0_i32_260 : BitVec 32) : Fin 2 → Nat :=
  let arg1 : BitVec 32 := BitVec.ofNat 32 (i 1).val
  let c4_i32_259 : BitVec 32 := 4#32
  let v624 : BitVec 32 := Scalar.muli arg1 c4_i32_259
  let v625 : BitVec 32 := Scalar.addi v624 c0_i32_260
  let v626 : Index := Scalar.indexCast v625
  let c52 : Index := 52#32
  ![v626.toNat, 52]
def k1_off54 (i : grid1.Coords) (c0_i32_265 : BitVec 32) : Fin 2 → Nat :=
  let arg1 : BitVec 32 := BitVec.ofNat 32 (i 1).val
  let c4_i32_264 : BitVec 32 := 4#32
  let v636 : BitVec 32 := Scalar.muli arg1 c4_i32_264
  let v637 : BitVec 32 := Scalar.addi v636 c0_i32_265
  let v638 : Index := Scalar.indexCast v637
  let c53 : Index := 53#32
  ![v638.toNat, 53]
def k1_off55 (i : grid1.Coords) (c0_i32_270 : BitVec 32) : Fin 2 → Nat :=
  let arg1 : BitVec 32 := BitVec.ofNat 32 (i 1).val
  let c4_i32_269 : BitVec 32 := 4#32
  let v648 : BitVec 32 := Scalar.muli arg1 c4_i32_269
  let v649 : BitVec 32 := Scalar.addi v648 c0_i32_270
  let v650 : Index := Scalar.indexCast v649
  let c54 : Index := 54#32
  ![v650.toNat, 54]
def k1_off56 (i : grid1.Coords) (c0_i32_275 : BitVec 32) : Fin 2 → Nat :=
  let arg1 : BitVec 32 := BitVec.ofNat 32 (i 1).val
  let c4_i32_274 : BitVec 32 := 4#32
  let v660 : BitVec 32 := Scalar.muli arg1 c4_i32_274
  let v661 : BitVec 32 := Scalar.addi v660 c0_i32_275
  let v662 : Index := Scalar.indexCast v661
  let c55 : Index := 55#32
  ![v662.toNat, 55]
def k1_cond1 (i : grid1.Coords) : BitVec 1 :=
  let arg1 : BitVec 32 := BitVec.ofNat 32 (i 1).val
  let c4_i32_1456 : BitVec 32 := 4#32
  let v2692 : BitVec 1 := Scalar.cmpi .slt arg1 c4_i32_1456
  let v2693 : BitVec 32 := Scalar.extui v2692
  let c0_i32_1457 : BitVec 32 := 0#32
  let v2694 : BitVec 1 := Scalar.cmpi .ne v2693 c0_i32_1457
  v2694

def k1_off57 (i : grid1.Coords) : Fin 1 → Nat :=
  let arg0 : BitVec 32 := BitVec.ofNat 32 (i 0).val
  let v2705 : Index := Scalar.indexCast arg0
  ![v2705.toNat]
def k1_cond2 (i : grid1.Coords) : BitVec 1 :=
  let arg1 : BitVec 32 := BitVec.ofNat 32 (i 1).val
  let c4_i32_1458 : BitVec 32 := 4#32
  let v2695 : BitVec 1 := Scalar.cmpi .sge arg1 c4_i32_1458
  let c8_i32 : BitVec 32 := 8#32
  let v2696 : BitVec 1 := Scalar.cmpi .slt arg1 c8_i32
  let v2697 : BitVec 1 := Scalar.andi v2695 v2696
  let v2698 : BitVec 32 := Scalar.extui v2697
  let c0_i32_1459 : BitVec 32 := 0#32
  let v2699 : BitVec 1 := Scalar.cmpi .ne v2698 c0_i32_1459
  v2699

def k1_off58 (i : grid1.Coords) : Fin 1 → Nat :=
  let arg0 : BitVec 32 := BitVec.ofNat 32 (i 0).val
  let v2705 : Index := Scalar.indexCast arg0
  ![v2705.toNat]
def k1_cond3 (i : grid1.Coords) : BitVec 1 :=
  let arg1 : BitVec 32 := BitVec.ofNat 32 (i 1).val
  let c8_i32_1460 : BitVec 32 := 8#32
  let v2700 : BitVec 1 := Scalar.cmpi .sge arg1 c8_i32_1460
  let v2701 : BitVec 32 := Scalar.extui v2700
  let c0_i32_1461 : BitVec 32 := 0#32
  let v2702 : BitVec 1 := Scalar.cmpi .ne v2701 c0_i32_1461
  v2702

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage1_0 : Fin 1 → Memref sig .tc .smem S48x56 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S768x7168 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x7168 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S768x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S768x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S768x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S4x1536x7168 : Shape := ⟨3, ![4, 1536, 7168]⟩
abbrev S7168 : Shape := ⟨1, ![7168]⟩
abbrev S6144x7168 : Shape := ⟨2, ![6144, 7168]⟩
abbrev S48x56 : Shape := ⟨2, ![48, 56]⟩
abbrev S4 : Shape := ⟨1, ![4]⟩
abbrev S4x1 : Shape := ⟨2, ![4, 1]⟩
abbrev S1536 : Shape := ⟨1, ![1536]⟩
abbrev S1x1536 : Shape := ⟨2, ![1, 1536]⟩
abbrev S4x1536 : Shape := ⟨2, ![4, 1536]⟩
abbrev S64 : Shape := ⟨1, ![64]⟩
abbrev S_ : Shape := ⟨0, ![]⟩
abbrev S1x7168 : Shape := ⟨2, ![1, 7168]⟩
abbrev S6144x1 : Shape := ⟨2, ![6144, 1]⟩
abbrev S1x64 : Shape := ⟨2, ![1, 64]⟩
abbrev S6144x2048 : Shape := ⟨2, ![6144, 2048]⟩
abbrev S6144x56 : Shape := ⟨2, ![6144, 56]⟩
abbrev S6144 : Shape := ⟨1, ![6144]⟩
abbrev S6144x56x128 : Shape := ⟨3, ![6144, 56, 128]⟩
abbrev S6144x56x1 : Shape := ⟨3, ![6144, 56, 1]⟩
abbrev S48x128x56x128 : Shape := ⟨4, ![48, 128, 56, 128]⟩
abbrev S48x1x56x1 : Shape := ⟨4, ![48, 1, 56, 1]⟩
abbrev S6144x6144 : Shape := ⟨2, ![6144, 6144]⟩
abbrev S6144x48x128 : Shape := ⟨3, ![6144, 48, 128]⟩
abbrev S6144x64 : Shape := ⟨2, ![6144, 64]⟩
abbrev S6144x128 : Shape := ⟨2, ![6144, 128]⟩
abbrev S6144x1x128 : Shape := ⟨3, ![6144, 1, 128]⟩
abbrev S6144x16x128 : Shape := ⟨3, ![6144, 16, 128]⟩
abbrev S6144x16x64 : Shape := ⟨3, ![6144, 16, 64]⟩

abbrev nBuf : Space → Nat
  | .hbm => 34
  | .vmem => 11
  | .smem => 0
  | _ => 0

abbrev bufTy : (tb : Table) → Fin (tcTables nBuf tb) → BufTy
  | .hbm, ⟨0, _⟩ => ⟨S4x1536x7168, .bf16⟩
  | .hbm, ⟨1, _⟩ => ⟨S7168, .bf16⟩
  | .hbm, ⟨2, _⟩ => ⟨S6144x7168, .fp8e4m3⟩
  | .hbm, ⟨3, _⟩ => ⟨S48x56, .f32⟩
  | .hbm, ⟨4, _⟩ => ⟨S4, .i32⟩
  | .hbm, ⟨5, _⟩ => ⟨S4x1, .i32⟩
  | .hbm, ⟨6, _⟩ => ⟨S1536, .i32⟩
  | .hbm, ⟨7, _⟩ => ⟨S1x1536, .i32⟩
  | .hbm, ⟨8, _⟩ => ⟨S4x1536, .i32⟩
  | .hbm, ⟨9, _⟩ => ⟨S4x1536, .i32⟩
  | .hbm, ⟨10, _⟩ => ⟨S4x1536, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S6144x7168, .bf16⟩
  | .hbm, ⟨26, _⟩ => ⟨S1x7168, .bf16⟩
  | .hbm, ⟨27, _⟩ => ⟨S6144x1, .i32⟩
  | .hbm, ⟨28, _⟩ => ⟨S1x64, .f32⟩
  | .hbm, ⟨29, _⟩ => ⟨S6144x2048, .bf16⟩
  | .hbm, ⟨30, _⟩ => ⟨S6144x2048, .bf16⟩
  | .hbm, ⟨31, _⟩ => ⟨S6144x2048, .bf16⟩
  | .hbm, ⟨32, _⟩ => ⟨S6144x7168, .fp8e4m3⟩
  | .hbm, ⟨33, _⟩ => ⟨S6144x56, .f32⟩
  | .local _ .vmem, ⟨0, _⟩ => ⟨S6144x7168, .bf16⟩
  | .local _ .vmem, ⟨1, _⟩ => ⟨S1x7168, .bf16⟩
  | .local _ .vmem, ⟨2, _⟩ => ⟨S6144x7168, .fp8e4m3⟩
  | .local _ .vmem, ⟨3, _⟩ => ⟨S48x56, .f32⟩
  | .local _ .vmem, ⟨4, _⟩ => ⟨S6144x1, .i32⟩
  | .local _ .vmem, ⟨5, _⟩ => ⟨S1x64, .f32⟩
  | .local _ .vmem, ⟨6, _⟩ => ⟨S6144x2048, .bf16⟩
  | .local _ .vmem, ⟨7, _⟩ => ⟨S6144x2048, .bf16⟩
  | .local _ .vmem, ⟨8, _⟩ => ⟨S6144x2048, .bf16⟩
  | .local _ .vmem, ⟨9, _⟩ => ⟨S6144x7168, .fp8e4m3⟩
  | .local _ .vmem, ⟨10, _⟩ => ⟨S6144x56, .f32⟩
  | _, _ => ⟨S4x1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6144x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x56 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelQuant.lean ====
/- What the quantising call does: the blocks its body finds, what its stores leave in each output buffer, and its run at every grid point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

/-! # REGION 0 of @main: custom_call 0, `cc0_rms_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x7168 := Rect.unit (s := S128x7168) ![0, 0] S128x7168.size inb_S128x7168_S128x7168_0_0
abbrev r0_1 : Rect S128x7168 := Rect.unit (s := S128x7168) ![0, 0] S128x128.size inb_S128x7168_S128x128_0_0
abbrev r0_2 : Rect S1x7168 := Rect.unit (s := S1x7168) ![0, 0] S1x128.size inb_S1x7168_S1x128_0_0
abbrev r0_3 : Rect S128x7168 := Rect.unit (s := S128x7168) ![0, 128] S128x128.size inb_S128x7168_S128x128_0_128
abbrev r0_4 : Rect S1x7168 := Rect.unit (s := S1x7168) ![0, 128] S1x128.size inb_S1x7168_S1x128_0_128
abbrev r0_5 : Rect S128x7168 := Rect.unit (s := S128x7168) ![0, 256] S128x128.size inb_S128x7168_S128x128_0_256
abbrev r0_6 : Rect S1x7168 := Rect.unit (s := S1x7168) ![0, 256] S1x128.size inb_S1x7168_S1x128_0_256
abbrev r0_7 : Rect S128x7168 := Rect.unit (s := S128x7168) ![0, 384] S128x128.size inb_S128x7168_S128x128_0_384
abbrev r0_8 : Rect S1x7168 := Rect.unit (s := S1x7168) ![0, 384] S1x128.size inb_S1x7168_S1x128_0_384
abbrev r0_9 : Rect S128x7168 := Rect.unit (s := S128x7168) ![0, 512] S128x128.size inb_S128x7168_S128x128_0_512
abbrev r0_10 : Rect S1x7168 := Rect.unit (s := S1x7168) ![0, 512] S1x128.size inb_S1x7168_S1x128_0_512
abbrev r0_11 : Rect S128x7168 := Rect.unit (s := S128x7168) ![0, 640] S128x128.size inb_S128x7168_S128x128_0_640
abbrev r0_12 : Rect S1x7168 := Rect.unit (s := S1x7168) ![0, 640] S1x128.size inb_S1x7168_S1x128_0_640
abbrev r0_13 : Rect S128x7168 := Rect.unit (s := S128x7168) ![0, 768] S128x128.size inb_S128x7168_S128x128_0_768
abbrev r0_14 : Rect S1x7168 := Rect.unit (s := S1x7168) ![0, 768] S1x128.size inb_S1x7168_S1x128_0_768
abbrev r0_15 : Rect S128x7168 := Rect.unit (s := S128x7168) ![0, 896] S128x128.size inb_S128x7168_S128x128_0_896
abbrev r0_16 : Rect S1x7168 := Rect.unit (s := S1x7168) ![0, 896] S1x128.size inb_S1x7168_S1x128_0_896
abbrev r0_17 : Rect S128x7168 := Rect.unit (s := S128x7168) ![0, 1024] S128x128.size inb_S128x7168_S128x128_0_1024
abbrev r0_18 : Rect S1x7168 := Rect.unit (s := S1x7168) ![0, 1024] S1x128.size inb_S1x7168_S1x128_0_1024
abbrev r0_19 : Rect S128x7168 := Rect.unit (s := S128x7168) ![0, 1152] S128x128.size inb_S128x7168_S128x128_0_1152
abbrev r0_20 : Rect S1x7168 := Rect.unit (s := S1x7168) ![0, 1152] S1x128.size inb_S1x7168_S1x128_0_1152
abbrev r0_21 : Rect S128x7168 := Rect.unit (s := S128x7168) ![0, 1280] S128x128.size inb_S128x7168_S128x128_0_1280
abbrev r0_22 : Rect S1x7168 := Rect.unit (s := S1x7168) ![0, 1280] S1x128.size inb_S1x7168_S1x128_0_1280
abbrev r0_23 : Rect S128x7168 := Rect.unit (s := S128x7168) ![0, 1408] S128x128.size inb_S128x7168_S128x128_0_1408
abbrev r0_24 : Rect S1x7168 := Rect.unit (s := S1x7168) ![0, 1408] S1x128.size inb_S1x7168_S1x128_0_1408
abbrev r0_25 : Rect S128x7168 := Rect.unit (s := S128x7168) ![0, 1536] S128x128.size inb_S128x7168_S128x128_0_1536
abbrev r0_26 : Rect S1x7168 := Rect.unit (s := S1x7168) ![0, 1536] S1x128.size inb_S1x7168_S1x128_0_1536
abbrev r0_27 : Rect S128x7168 := Rect.unit (s := S128x7168) ![0, 1664] S128x128.size inb_S128x7168_S128x128_0_1664
abbrev r0_28 : Rect S1x7168 := Rect.unit (s := S1x7168) ![0, 1664] S1x128.size inb_S1x7168_S1x128_0_1664
abbrev r0_29 : Rect S128x7168 := Rect.unit (s := S128x7168) ![0, 1792] S128x128.size inb_S128x7168_S128x128_0_1792
abbrev r0_30 : Rect S1x7168 := Rect.unit (s := S1x7168) ![0, 1792] S1x128.size inb_S1x7168_S1x128_0_1792
abbrev r0_31 : Rect S128x7168 := Rect.unit (s := S128x7168) ![0, 1920] S128x128.size inb_S128x7168_S128x128_0_1920
abbrev r0_32 : Rect S1x7168 := Rect.unit (s := S1x7168) ![0, 1920] S1x128.size inb_S1x7168_S1x128_0_1920
abbrev r0_33 : Rect S128x7168 := Rect.unit (s := S128x7168) ![0, 2048] S128x128.size inb_S128x7168_S128x128_0_2048
abbrev r0_34 : Rect S1x7168 := Rect.unit (s := S1x7168) ![0, 2048] S1x128.size inb_S1x7168_S1x128_0_2048
abbrev r0_35 : Rect S128x7168 := Rect.unit (s := S128x7168) ![0, 2176] S128x128.size inb_S128x7168_S128x128_0_2176
abbrev r0_36 : Rect S1x7168 := Rect.unit (s := S1x7168) ![0, 2176] S1x128.size inb_S1x7168_S1x128_0_2176
abbrev r0_37 : Rect S128x7168 := Rect.unit (s := S128x7168) ![0, 2304] S128x128.size inb_S128x7168_S128x128_0_2304
abbrev r0_38 : Rect S1x7168 := Rect.unit (s := S1x7168) ![0, 2304] S1x128.size inb_S1x7168_S1x128_0_2304
abbrev r0_39 : Rect S128x7168 := Rect.unit (s := S128x7168) ![0, 2432] S128x128.size inb_S128x7168_S128x128_0_2432
abbrev r0_40 : Rect S1x7168 := Rect.unit (s := S1x7168) ![0, 2432] S1x128.size inb_S1x7168_S1x128_0_2432
abbrev r0_41 : Rect S128x7168 := Rect.unit (s := S128x7168) ![0, 2560] S128x128.size inb_S128x7168_S128x128_0_2560
abbrev r0_42 : Rect S1x7168 := Rect.unit (s := S1x7168) ![0, 2560] S1x128.size inb_S1x7168_S1x128_0_2560
abbrev r0_43 : Rect S128x7168 := Rect.unit (s := S128x7168) ![0, 2688] S128x128.size inb_S128x7168_S128x128_0_2688
abbrev r0_44 : Rect S1x7168 := Rect.unit (s := S1x7168) ![0, 2688] S1x128.size inb_S1x7168_S1x128_0_2688
abbrev r0_45 : Rect S128x7168 := Rect.unit (s := S128x7168) ![0, 2816] S128x128.size inb_S128x7168_S128x128_0_2816
abbrev r0_46 : Rect S1x7168 := Rect.unit (s := S1x7168) ![0, 2816] S1x128.size inb_S1x7168_S1x128_0_2816
abbrev r0_47 : Rect S128x7168 := Rect.unit (s := S128x7168) ![0, 2944] S128x128.size inb_S128x7168_S128x128_0_2944
abbrev r0_48 : Rect S1x7168 := Rect.unit (s := S1x7168) ![0, 2944] S1x128.size inb_S1x7168_S1x128_0_2944
abbrev r0_49 : Rect S128x7168 := Rect.unit (s := S128x7168) ![0, 3072] S128x128.size inb_S128x7168_S128x128_0_3072
abbrev r0_50 : Rect S1x7168 := Rect.unit (s := S1x7168) ![0, 3072] S1x128.size inb_S1x7168_S1x128_0_3072
abbrev r0_51 : Rect S128x7168 := Rect.unit (s := S128x7168) ![0, 3200] S128x128.size inb_S128x7168_S128x128_0_3200
abbrev r0_52 : Rect S1x7168 := Rect.unit (s := S1x7168) ![0, 3200] S1x128.size inb_S1x7168_S1x128_0_3200
abbrev r0_53 : Rect S128x7168 := Rect.unit (s := S128x7168) ![0, 3328] S128x128.size inb_S128x7168_S128x128_0_3328
abbrev r0_54 : Rect S1x7168 := Rect.unit (s := S1x7168) ![0, 3328] S1x128.size inb_S1x7168_S1x128_0_3328
abbrev r0_55 : Rect S128x7168 := Rect.unit (s := S128x7168) ![0, 3456] S128x128.size inb_S128x7168_S128x128_0_3456
abbrev r0_56 : Rect S1x7168 := Rect.unit (s := S1x7168) ![0, 3456] S1x128.size inb_S1x7168_S1x128_0_3456
abbrev r0_57 : Rect S128x7168 := Rect.unit (s := S128x7168) ![0, 3584] S128x128.size inb_S128x7168_S128x128_0_3584
abbrev r0_58 : Rect S1x7168 := Rect.unit (s := S1x7168) ![0, 3584] S1x128.size inb_S1x7168_S1x128_0_3584
abbrev r0_59 : Rect S128x7168 := Rect.unit (s := S128x7168) ![0, 3712] S128x128.size inb_S128x7168_S128x128_0_3712
abbrev r0_60 : Rect S1x7168 := Rect.unit (s := S1x7168) ![0, 3712] S1x128.size inb_S1x7168_S1x128_0_3712
abbrev r0_61 : Rect S128x7168 := Rect.unit (s := S128x7168) ![0, 3840] S128x128.size inb_S128x7168_S128x128_0_3840
abbrev r0_62 : Rect S1x7168 := Rect.unit (s := S1x7168) ![0, 3840] S1x128.size inb_S1x7168_S1x128_0_3840
abbrev r0_63 : Rect S128x7168 := Rect.unit (s := S128x7168) ![0, 3968] S128x128.size inb_S128x7168_S128x128_0_3968
abbrev r0_64 : Rect S1x7168 := Rect.unit (s := S1x7168) ![0, 3968] S1x128.size inb_S1x7168_S1x128_0_3968
abbrev r0_65 : Rect S128x7168 := Rect.unit (s := S128x7168) ![0, 4096] S128x128.size inb_S128x7168_S128x128_0_4096
abbrev r0_66 : Rect S1x7168 := Rect.unit (s := S1x7168) ![0, 4096] S1x128.size inb_S1x7168_S1x128_0_4096
abbrev r0_67 : Rect S128x7168 := Rect.unit (s := S128x7168) ![0, 4224] S128x128.size inb_S128x7168_S128x128_0_4224
abbrev r0_68 : Rect S1x7168 := Rect.unit (s := S1x7168) ![0, 4224] S1x128.size inb_S1x7168_S1x128_0_4224
abbrev r0_69 : Rect S128x7168 := Rect.unit (s := S128x7168) ![0, 4352] S128x128.size inb_S128x7168_S128x128_0_4352
abbrev r0_70 : Rect S1x7168 := Rect.unit (s := S1x7168) ![0, 4352] S1x128.size inb_S1x7168_S1x128_0_4352
abbrev r0_71 : Rect S128x7168 := Rect.unit (s := S128x7168) ![0, 4480] S128x128.size inb_S128x7168_S128x128_0_4480
abbrev r0_72 : Rect S1x7168 := Rect.unit (s := S1x7168) ![0, 4480] S1x128.size inb_S1x7168_S1x128_0_4480
abbrev r0_73 : Rect S128x7168 := Rect.unit (s := S128x7168) ![0, 4608] S128x128.size inb_S128x7168_S128x128_0_4608
abbrev r0_74 : Rect S1x7168 := Rect.unit (s := S1x7168) ![0, 4608] S1x128.size inb_S1x7168_S1x128_0_4608
abbrev r0_75 : Rect S128x7168 := Rect.unit (s := S128x7168) ![0, 4736] S128x128.size inb_S128x7168_S128x128_0_4736
abbrev r0_76 : Rect S1x7168 := Rect.unit (s := S1x7168) ![0, 4736] S1x128.size inb_S1x7168_S1x128_0_4736
abbrev r0_77 : Rect S128x7168 := Rect.unit (s := S128x7168) ![0, 4864] S128x128.size inb_S128x7168_S128x128_0_4864
abbrev r0_78 : Rect S1x7168 := Rect.unit (s := S1x7168) ![0, 4864] S1x128.size inb_S1x7168_S1x128_0_4864
abbrev r0_79 : Rect S128x7168 := Rect.unit (s := S128x7168) ![0, 4992] S128x128.size inb_S128x7168_S128x128_0_4992
abbrev r0_80 : Rect S1x7168 := Rect.unit (s := S1x7168) ![0, 4992] S1x128.size inb_S1x7168_S1x128_0_4992
abbrev r0_81 : Rect S128x7168 := Rect.unit (s := S128x7168) ![0, 5120] S128x128.size inb_S128x7168_S128x128_0_5120
abbrev r0_82 : Rect S1x7168 := Rect.unit (s := S1x7168) ![0, 5120] S1x128.size inb_S1x7168_S1x128_0_5120
abbrev r0_83 : Rect S128x7168 := Rect.unit (s := S128x7168) ![0, 5248] S128x128.size inb_S128x7168_S128x128_0_5248
abbrev r0_84 : Rect S1x7168 := Rect.unit (s := S1x7168) ![0, 5248] S1x128.size inb_S1x7168_S1x128_0_5248
abbrev r0_85 : Rect S128x7168 := Rect.unit (s := S128x7168) ![0, 5376] S128x128.size inb_S128x7168_S128x128_0_5376
abbrev r0_86 : Rect S1x7168 := Rect.unit (s := S1x7168) ![0, 5376] S1x128.size inb_S1x7168_S1x128_0_5376
abbrev r0_87 : Rect S128x7168 := Rect.unit (s := S128x7168) ![0, 5504] S128x128.size inb_S128x7168_S128x128_0_5504
abbrev r0_88 : Rect S1x7168 := Rect.unit (s := S1x7168) ![0, 5504] S1x128.size inb_S1x7168_S1x128_0_5504
abbrev r0_89 : Rect S128x7168 := Rect.unit (s := S128x7168) ![0, 5632] S128x128.size inb_S128x7168_S128x128_0_5632
abbrev r0_90 : Rect S1x7168 := Rect.unit (s := S1x7168) ![0, 5632] S1x128.size inb_S1x7168_S1x128_0_5632
abbrev r0_91 : Rect S128x7168 := Rect.unit (s := S128x7168) ![0, 5760] S128x128.size inb_S128x7168_S128x128_0_5760
abbrev r0_92 : Rect S1x7168 := Rect.unit (s := S1x7168) ![0, 5760] S1x128.size inb_S1x7168_S1x128_0_5760
abbrev r0_93 : Rect S128x7168 := Rect.unit (s := S128x7168) ![0, 5888] S128x128.size inb_S128x7168_S128x128_0_5888
abbrev r0_94 : Rect S1x7168 := Rect.unit (s := S1x7168) ![0, 5888] S1x128.size inb_S1x7168_S1x128_0_5888
abbrev r0_95 : Rect S128x7168 := Rect.unit (s := S128x7168) ![0, 6016] S128x128.size inb_S128x7168_S128x128_0_6016
abbrev r0_96 : Rect S1x7168 := Rect.unit (s := S1x7168) ![0, 6016] S1x128.size inb_S1x7168_S1x128_0_6016
abbrev r0_97 : Rect S128x7168 := Rect.unit (s := S128x7168) ![0, 6144] S128x128.size inb_S128x7168_S128x128_0_6144
abbrev r0_98 : Rect S1x7168 := Rect.unit (s := S1x7168) ![0, 6144] S1x128.size inb_S1x7168_S1x128_0_6144
abbrev r0_99 : Rect S128x7168 := Rect.unit (s := S128x7168) ![0, 6272] S128x128.size inb_S128x7168_S128x128_0_6272
abbrev r0_100 : Rect S1x7168 := Rect.unit (s := S1x7168) ![0, 6272] S1x128.size inb_S1x7168_S1x128_0_6272
abbrev r0_101 : Rect S128x7168 := Rect.unit (s := S128x7168) ![0, 6400] S128x128.size inb_S128x7168_S128x128_0_6400
abbrev r0_102 : Rect S1x7168 := Rect.unit (s := S1x7168) ![0, 6400] S1x128.size inb_S1x7168_S1x128_0_6400
abbrev r0_103 : Rect S128x7168 := Rect.unit (s := S128x7168) ![0, 6528] S128x128.size inb_S128x7168_S128x128_0_6528
abbrev r0_104 : Rect S1x7168 := Rect.unit (s := S1x7168) ![0, 6528] S1x128.size inb_S1x7168_S1x128_0_6528
abbrev r0_105 : Rect S128x7168 := Rect.unit (s := S128x7168) ![0, 6656] S128x128.size inb_S128x7168_S128x128_0_6656
abbrev r0_106 : Rect S1x7168 := Rect.unit (s := S1x7168) ![0, 6656] S1x128.size inb_S1x7168_S1x128_0_6656
abbrev r0_107 : Rect S128x7168 := Rect.unit (s := S128x7168) ![0, 6784] S128x128.size inb_S128x7168_S128x128_0_6784
abbrev r0_108 : Rect S1x7168 := Rect.unit (s := S1x7168) ![0, 6784] S1x128.size inb_S1x7168_S1x128_0_6784
abbrev r0_109 : Rect S128x7168 := Rect.unit (s := S128x7168) ![0, 6912] S128x128.size inb_S128x7168_S128x128_0_6912
abbrev r0_110 : Rect S1x7168 := Rect.unit (s := S1x7168) ![0, 6912] S1x128.size inb_S1x7168_S1x128_0_6912
abbrev r0_111 : Rect S128x7168 := Rect.unit (s := S128x7168) ![0, 7040] S128x128.size inb_S128x7168_S128x128_0_7040
abbrev r0_112 : Rect S1x7168 := Rect.unit (s := S1x7168) ![0, 7040] S1x128.size inb_S1x7168_S1x128_0_7040
abbrev r0_113 : Rect S128x56 := Rect.unit (s := S128x56) ![0, 0] S128x56.size inb_S128x56_S128x56_0_0

/-! ## What the body leaves in each output window's buffer -/

/-! ### Values of the body that the stores' payloads, spelt out, would write more than once

    Each is a vector the body binds (often a part call's result), stated over the input windows' blocks and
    numbered on from the skeleton's payload functions (`k0_pay382` …, after `k0_pay381`), so that
    `out0_W` and the values after it name it instead of spelling it out (`unfold_out out0_W` opens a canon
    with them, `unfold_payloads` opens them with the payloads); the comment after each is the printed function's
    name for the value (a count appended where that name is bound again). -/

def k0_pay382 (x0 : Vec F S128x7168 .bf16) (x1 : Vec F S1x7168 .bf16) : FVec F S128x1 .f32 :=
  k0_pay4 (View.ld x0 r0_0) -- `v10`
def k0_pay383 (x0 : Vec F S128x7168 .bf16) (x1 : Vec F S1x7168 .bf16) : FVec F S128x128 .f32 :=
  k0_pay5 (View.ld x0 r0_0) (View.ld x0 r0_1) (View.ld x1 r0_2) -- `v20`
def k0_pay384 (x0 : Vec F S128x7168 .bf16) (x1 : Vec F S1x7168 .bf16) : IVec S128x1 32 :=
  k0_pay6 (View.ld x0 r0_0) (View.ld x0 r0_1) (View.ld x1 r0_2) -- `v37`
def k0_pay385 (x0 : Vec F S128x7168 .bf16) (x1 : Vec F S1x7168 .bf16) : IVec S128x1 32 :=
  k0_pay7 (View.ld x0 r0_0) (View.ld x0 r0_1) (View.ld x1 r0_2) -- `v41`
def k0_pay386 (x0 : Vec F S128x7168 .bf16) (x1 : Vec F S1x7168 .bf16) : FVec F S128x128 .f32 :=
  k0_pay11 (k0_pay382 x0 x1) (View.ld x0 r0_3) (View.ld x1 r0_4) -- `v70`
def k0_pay387 (x0 : Vec F S128x7168 .bf16) (x1 : Vec F S1x7168 .bf16) : IVec S128x1 1 :=
  k0_pay13 (k0_pay382 x0 x1) (View.ld x0 r0_3) (View.ld x1 r0_4) -- `v77`
def k0_pay388 (x0 : Vec F S128x7168 .bf16) (x1 : Vec F S1x7168 .bf16) : IVec S128x1 32 :=
  k0_pay14 (k0_pay382 x0 x1) (View.ld x0 r0_3) (View.ld x1 r0_4) -- `v83`
def k0_pay389 (x0 : Vec F S128x7168 .bf16) (x1 : Vec F S1x7168 .bf16) : FVec F S128x128 .f32 :=
  k0_pay19 (k0_pay382 x0 x1) (View.ld x0 r0_5) (View.ld x1 r0_6) -- `v120`
def k0_pay390 (x0 : Vec F S128x7168 .bf16) (x1 : Vec F S1x7168 .bf16) : FVec F S128x1 .f32 :=
  k0_pay20 (k0_pay382 x0 x1) (View.ld x0 r0_5) (View.ld x1 r0_6) -- `v123`
def k0_pay391 (x0 : Vec F S128x7168 .bf16) (x1 : Vec F S1x7168 .bf16) : FVec F S128x128 .f32 :=
  k0_pay25 (k0_pay382 x0 x1) (View.ld x0 r0_7) -- `v165`
def k0_pay392 (x0 : Vec F S128x7168 .bf16) (x1 : Vec F S1x7168 .bf16) : FVec F S128x1 .f32 :=
  k0_pay35 (k0_pay382 x0 x1) (View.ld x0 r0_9) (View.ld x1 r0_10) -- `v242`
def k0_pay393 (x0 : Vec F S128x7168 .bf16) (x1 : Vec F S1x7168 .bf16) : FVec F S128x128 .f32 :=
  k0_pay36 (k0_pay382 x0 x1) (View.ld x0 r0_9) (View.ld x1 r0_10) -- `v249`
def k0_pay394 (x0 : Vec F S128x7168 .bf16) (x1 : Vec F S1x7168 .bf16) : FVec F S128x128 .f32 :=
  k0_pay39 (k0_pay382 x0 x1) (View.ld x0 r0_11) (View.ld x1 r0_12) -- `v270`
def k0_pay395 (x0 : Vec F S128x7168 .bf16) (x1 : Vec F S1x7168 .bf16) : IVec S128x1 32 :=
  k0_pay40 (k0_pay382 x0 x1) (View.ld x0 r0_11) (View.ld x1 r0_12) -- `v287`
def k0_pay396 (x0 : Vec F S128x7168 .bf16) (x1 : Vec F S1x7168 .bf16) : IVec S128x1 32 :=
  k0_pay41 (k0_pay382 x0 x1) (View.ld x0 r0_11) (View.ld x1 r0_12) -- `v291`
def k0_pay397 (x0 : Vec F S128x7168 .bf16) (x1 : Vec F S1x7168 .bf16) : FVec F S128x128 .f32 :=
  k0_pay45 (k0_pay382 x0 x1) (View.ld x0 r0_13) (View.ld x1 r0_14) -- `v320`
def k0_pay398 (x0 : Vec F S128x7168 .bf16) (x1 : Vec F S1x7168 .bf16) : IVec S128x1 1 :=
  k0_pay47 (k0_pay382 x0 x1) (View.ld x0 r0_13) (View.ld x1 r0_14) -- `v327`
def k0_pay399 (x0 : Vec F S128x7168 .bf16) (x1 : Vec F S1x7168 .bf16) : IVec S128x1 32 :=
  k0_pay48 (k0_pay382 x0 x1) (View.ld x0 r0_13) (View.ld x1 r0_14) -- `v333`
def k0_pay400 (x0 : Vec F S128x7168 .bf16) (x1 : Vec F S1x7168 .bf16) : FVec F S128x128 .f32 :=
  k0_pay53 (k0_pay382 x0 x1) (View.ld x0 r0_15) (View.ld x1 r0_16) -- `v370`
def k0_pay401 (x0 : Vec F S128x7168 .bf16) (x1 : Vec F S1x7168 .bf16) : FVec F S128x1 .f32 :=
  k0_pay54 (k0_pay382 x0 x1) (View.ld x0 r0_15) (View.ld x1 r0_16) -- `v373`
def k0_pay402 (x0 : Vec F S128x7168 .bf16) (x1 : Vec F S1x7168 .bf16) : FVec F S128x128 .f32 :=
  k0_pay59 (k0_pay382 x0 x1) (View.ld x0 r0_17) -- `v415`
def k0_pay403 (x0 : Vec F S128x7168 .bf16) (x1 : Vec F S1x7168 .bf16) : FVec F S128x1 .f32 :=
  k0_pay69 (k0_pay382 x0 x1) (View.ld x0 r0_19) (View.ld x1 r0_20) -- `v492`
def k0_pay404 (x0 : Vec F S128x7168 .bf16) (x1 : Vec F S1x7168 .bf16) : FVec F S128x128 .f32 :=
  k0_pay70 (k0_pay382 x0 x1) (View.ld x0 r0_19) (View.ld x1 r0_20) -- `v499`
def k0_pay405 (x0 : Vec F S128x7168 .bf16) (x1 : Vec F S1x7168 .bf16) : FVec F S128x128 .f32 :=
  k0_pay73 (k0_pay382 x0 x1) (View.ld x0 r0_21) (View.ld x1 r0_22) -- `v520`
def k0_pay406 (x0 : Vec F S128x7168 .bf16) (x1 : Vec F S1x7168 .bf16) : IVec S128x1 32 :=
  k0_pay74 (k0_pay382 x0 x1) (View.ld x0 r0_21) (View.ld x1 r0_22) -- `v537`
def k0_pay407 (x0 : Vec F S128x7168 .bf16) (x1 : Vec F S1x7168 .bf16) : IVec S128x1 32 :=
  k0_pay75 (k0_pay382 x0 x1) (View.ld x0 r0_21) (View.ld x1 r0_22) -- `v541`
def k0_pay408 (x0 : Vec F S128x7168 .bf16) (x1 : Vec F S1x7168 .bf16) : FVec F S128x128 .f32 :=
  k0_pay79 (k0_pay382 x0 x1) (View.ld x0 r0_23) (View.ld x1 r0_24) -- `v570`
def k0_pay409 (x0 : Vec F S128x7168 .bf16) (x1 : Vec F S1x7168 .bf16) : IVec S128x1 1 :=
  k0_pay81 (k0_pay382 x0 x1) (View.ld x0 r0_23) (View.ld x1 r0_24) -- `v577`
def k0_pay410 (x0 : Vec F S128x7168 .bf16) (x1 : Vec F S1x7168 .bf16) : IVec S128x1 32 :=
  k0_pay82 (k0_pay382 x0 x1) (View.ld x0 r0_23) (View.ld x1 r0_24) -- `v583`
def k0_pay411 (x0 : Vec F S128x7168 .bf16) (x1 : Vec F S1x7168 .bf16) : FVec F S128x128 .f32 :=
  k0_pay87 (k0_pay382 x0 x1) (View.ld x0 r0_25) (View.ld x1 r0_26) -- `v620`
def k0_pay412 (x0 : Vec F S128x7168 .bf16) (x1 : Vec F S1x7168 .bf16) : FVec F S128x1 .f32 :=
  k0_pay88 (k0_pay382 x0 x1) (View.ld x0 r0_25) (View.ld x1 r0_26) -- `v623`
def k0_pay413 (x0 : Vec F S128x7168 .bf16) (x1 : Vec F S1x7168 .bf16) : FVec F S128x128 .f32 :=
  k0_pay93 (k0_pay382 x0 x1) (View.ld x0 r0_27) -- `v665`
def k0_pay414 (x0 : Vec F S128x7168 .bf16) (x1 : Vec F S1x7168 .bf16) : FVec F S128x1 .f32 :=
  k0_pay103 (k0_pay382 x0 x1) (View.ld x0 r0_29) (View.ld x1 r0_30) -- `v742`
def k0_pay415 (x0 : Vec F S128x7168 .bf16) (x1 : Vec F S1x7168 .bf16) : FVec F S128x128 .f32 :=
  k0_pay104 (k0_pay382 x0 x1) (View.ld x0 r0_29) (View.ld x1 r0_30) -- `v749`
def k0_pay416 (x0 : Vec F S128x7168 .bf16) (x1 : Vec F S1x7168 .bf16) : FVec F S128x128 .f32 :=
  k0_pay107 (k0_pay382 x0 x1) (View.ld x0 r0_31) (View.ld x1 r0_32) -- `v770`
def k0_pay417 (x0 : Vec F S128x7168 .bf16) (x1 : Vec F S1x7168 .bf16) : IVec S128x1 32 :=
  k0_pay108 (k0_pay382 x0 x1) (View.ld x0 r0_31) (View.ld x1 r0_32) -- `v787`
def k0_pay418 (x0 : Vec F S128x7168 .bf16) (x1 : Vec F S1x7168 .bf16) : IVec S128x1 32 :=
  k0_pay109 (k0_pay382 x0 x1) (View.ld x0 r0_31) (View.ld x1 r0_32) -- `v791`
def k0_pay419 (x0 : Vec F S128x7168 .bf16) (x1 : Vec F S1x7168 .bf16) : FVec F S128x128 .f32 :=
  k0_pay113 (k0_pay382 x0 x1) (View.ld x0 r0_33) (View.ld x1 r0_34) -- `v820`
def k0_pay420 (x0 : Vec F S128x7168 .bf16) (x1 : Vec F S1x7168 .bf16) : IVec S128x1 1 :=
  k0_pay115 (k0_pay382 x0 x1) (View.ld x0 r0_33) (View.ld x1 r0_34) -- `v827`
def k0_pay421 (x0 : Vec F S128x7168 .bf16) (x1 : Vec F S1x7168 .bf16) : IVec S128x1 32 :=
  k0_pay116 (k0_pay382 x0 x1) (View.ld x0 r0_33) (View.ld x1 r0_34) -- `v833`
def k0_pay422 (x0 : Vec F S128x7168 .bf16) (x1 : Vec F S1x7168 .bf16) : FVec F S128x128 .f32 :=
  k0_pay121 (k0_pay382 x0 x1) (View.ld x0 r0_35) (View.ld x1 r0_36) -- `v870`
def k0_pay423 (x0 : Vec F S128x7168 .bf16) (x1 : Vec F S1x7168 .bf16) : FVec F S128x1 .f32 :=
  k0_pay122 (k0_pay382 x0 x1) (View.ld x0 r0_35) (View.ld x1 r0_36) -- `v873`
def k0_pay424 (x0 : Vec F S128x7168 .bf16) (x1 : Vec F S1x7168 .bf16) : FVec F S128x128 .f32 :=
  k0_pay127 (k0_pay382 x0 x1) (View.ld x0 r0_37) -- `v915`
def k0_pay425 (x0 : Vec F S128x7168 .bf16) (x1 : Vec F S1x7168 .bf16) : FVec F S128x1 .f32 :=
  k0_pay137 (k0_pay382 x0 x1) (View.ld x0 r0_39) (View.ld x1 r0_40) -- `v992`
def k0_pay426 (x0 : Vec F S128x7168 .bf16) (x1 : Vec F S1x7168 .bf16) : FVec F S128x128 .f32 :=
  k0_pay138 (k0_pay382 x0 x1) (View.ld x0 r0_39) (View.ld x1 r0_40) -- `v999`
def k0_pay427 (x0 : Vec F S128x7168 .bf16) (x1 : Vec F S1x7168 .bf16) : FVec F S128x128 .f32 :=
  k0_pay141 (k0_pay382 x0 x1) (View.ld x0 r0_41) (View.ld x1 r0_42) -- `v1020`
def k0_pay428 (x0 : Vec F S128x7168 .bf16) (x1 : Vec F S1x7168 .bf16) : IVec S128x1 32 :=
  k0_pay142 (k0_pay382 x0 x1) (View.ld x0 r0_41) (View.ld x1 r0_42) -- `v1037`
def k0_pay429 (x0 : Vec F S128x7168 .bf16) (x1 : Vec F S1x7168 .bf16) : IVec S128x1 32 :=
  k0_pay143 (k0_pay382 x0 x1) (View.ld x0 r0_41) (View.ld x1 r0_42) -- `v1041`
def k0_pay430 (x0 : Vec F S128x7168 .bf16) (x1 : Vec F S1x7168 .bf16) : FVec F S128x128 .f32 :=
  k0_pay147 (k0_pay382 x0 x1) (View.ld x0 r0_43) (View.ld x1 r0_44) -- `v1070`
def k0_pay431 (x0 : Vec F S128x7168 .bf16) (x1 : Vec F S1x7168 .bf16) : IVec S128x1 1 :=
  k0_pay149 (k0_pay382 x0 x1) (View.ld x0 r0_43) (View.ld x1 r0_44) -- `v1077`
def k0_pay432 (x0 : Vec F S128x7168 .bf16) (x1 : Vec F S1x7168 .bf16) : IVec S128x1 32 :=
  k0_pay150 (k0_pay382 x0 x1) (View.ld x0 r0_43) (View.ld x1 r0_44) -- `v1083`
def k0_pay433 (x0 : Vec F S128x7168 .bf16) (x1 : Vec F S1x7168 .bf16) : FVec F S128x128 .f32 :=
  k0_pay155 (k0_pay382 x0 x1) (View.ld x0 r0_45) (View.ld x1 r0_46) -- `v1120`
def k0_pay434 (x0 : Vec F S128x7168 .bf16) (x1 : Vec F S1x7168 .bf16) : FVec F S128x1 .f32 :=
  k0_pay156 (k0_pay382 x0 x1) (View.ld x0 r0_45) (View.ld x1 r0_46) -- `v1123`
def k0_pay435 (x0 : Vec F S128x7168 .bf16) (x1 : Vec F S1x7168 .bf16) : FVec F S128x128 .f32 :=
  k0_pay161 (k0_pay382 x0 x1) (View.ld x0 r0_47) -- `v1165`
def k0_pay436 (x0 : Vec F S128x7168 .bf16) (x1 : Vec F S1x7168 .bf16) : FVec F S128x1 .f32 :=
  k0_pay171 (k0_pay382 x0 x1) (View.ld x0 r0_49) (View.ld x1 r0_50) -- `v1242`
def k0_pay437 (x0 : Vec F S128x7168 .bf16) (x1 : Vec F S1x7168 .bf16) : FVec F S128x128 .f32 :=
  k0_pay172 (k0_pay382 x0 x1) (View.ld x0 r0_49) (View.ld x1 r0_50) -- `v1249`
def k0_pay438 (x0 : Vec F S128x7168 .bf16) (x1 : Vec F S1x7168 .bf16) : FVec F S128x128 .f32 :=
  k0_pay175 (k0_pay382 x0 x1) (View.ld x0 r0_51) (View.ld x1 r0_52) -- `v1270`
def k0_pay439 (x0 : Vec F S128x7168 .bf16) (x1 : Vec F S1x7168 .bf16) : IVec S128x1 32 :=
  k0_pay176 (k0_pay382 x0 x1) (View.ld x0 r0_51) (View.ld x1 r0_52) -- `v1287`
def k0_pay440 (x0 : Vec F S128x7168 .bf16) (x1 : Vec F S1x7168 .bf16) : IVec S128x1 32 :=
  k0_pay177 (k0_pay382 x0 x1) (View.ld x0 r0_51) (View.ld x1 r0_52) -- `v1291`
def k0_pay441 (x0 : Vec F S128x7168 .bf16) (x1 : Vec F S1x7168 .bf16) : FVec F S128x128 .f32 :=
  k0_pay181 (k0_pay382 x0 x1) (View.ld x0 r0_53) (View.ld x1 r0_54) -- `v1320`
def k0_pay442 (x0 : Vec F S128x7168 .bf16) (x1 : Vec F S1x7168 .bf16) : IVec S128x1 1 :=
  k0_pay183 (k0_pay382 x0 x1) (View.ld x0 r0_53) (View.ld x1 r0_54) -- `v1327`
def k0_pay443 (x0 : Vec F S128x7168 .bf16) (x1 : Vec F S1x7168 .bf16) : IVec S128x1 32 :=
  k0_pay184 (k0_pay382 x0 x1) (View.ld x0 r0_53) (View.ld x1 r0_54) -- `v1333`
def k0_pay444 (x0 : Vec F S128x7168 .bf16) (x1 : Vec F S1x7168 .bf16) : FVec F S128x128 .f32 :=
  k0_pay189 (k0_pay382 x0 x1) (View.ld x0 r0_55) (View.ld x1 r0_56) -- `v1370`
def k0_pay445 (x0 : Vec F S128x7168 .bf16) (x1 : Vec F S1x7168 .bf16) : FVec F S128x1 .f32 :=
  k0_pay190 (k0_pay382 x0 x1) (View.ld x0 r0_55) (View.ld x1 r0_56) -- `v1373`
def k0_pay446 (x0 : Vec F S128x7168 .bf16) (x1 : Vec F S1x7168 .bf16) : FVec F S128x128 .f32 :=
  k0_pay195 (k0_pay382 x0 x1) (View.ld x0 r0_57) -- `v1415`
def k0_pay447 (x0 : Vec F S128x7168 .bf16) (x1 : Vec F S1x7168 .bf16) : FVec F S128x1 .f32 :=
  k0_pay205 (k0_pay382 x0 x1) (View.ld x0 r0_59) (View.ld x1 r0_60) -- `v1492`
def k0_pay448 (x0 : Vec F S128x7168 .bf16) (x1 : Vec F S1x7168 .bf16) : FVec F S128x128 .f32 :=
  k0_pay206 (k0_pay382 x0 x1) (View.ld x0 r0_59) (View.ld x1 r0_60) -- `v1499`
def k0_pay449 (x0 : Vec F S128x7168 .bf16) (x1 : Vec F S1x7168 .bf16) : FVec F S128x128 .f32 :=
  k0_pay209 (k0_pay382 x0 x1) (View.ld x0 r0_61) (View.ld x1 r0_62) -- `v1520`
def k0_pay450 (x0 : Vec F S128x7168 .bf16) (x1 : Vec F S1x7168 .bf16) : IVec S128x1 32 :=
  k0_pay210 (k0_pay382 x0 x1) (View.ld x0 r0_61) (View.ld x1 r0_62) -- `v1537`
def k0_pay451 (x0 : Vec F S128x7168 .bf16) (x1 : Vec F S1x7168 .bf16) : IVec S128x1 32 :=
  k0_pay211 (k0_pay382 x0 x1) (View.ld x0 r0_61) (View.ld x1 r0_62) -- `v1541`
def k0_pay452 (x0 : Vec F S128x7168 .bf16) (x1 : Vec F S1x7168 .bf16) : FVec F S128x128 .f32 :=
  k0_pay215 (k0_pay382 x0 x1) (View.ld x0 r0_63) (View.ld x1 r0_64) -- `v1570`
def k0_pay453 (x0 : Vec F S128x7168 .bf16) (x1 : Vec F S1x7168 .bf16) : IVec S128x1 1 :=
  k0_pay217 (k0_pay382 x0 x1) (View.ld x0 r0_63) (View.ld x1 r0_64) -- `v1577`
def k0_pay454 (x0 : Vec F S128x7168 .bf16) (x1 : Vec F S1x7168 .bf16) : IVec S128x1 32 :=
  k0_pay218 (k0_pay382 x0 x1) (View.ld x0 r0_63) (View.ld x1 r0_64) -- `v1583`
def k0_pay455 (x0 : Vec F S128x7168 .bf16) (x1 : Vec F S1x7168 .bf16) : FVec F S128x128 .f32 :=
  k0_pay223 (k0_pay382 x0 x1) (View.ld x0 r0_65) (View.ld x1 r0_66) -- `v1620`
def k0_pay456 (x0 : Vec F S128x7168 .bf16) (x1 : Vec F S1x7168 .bf16) : FVec F S128x1 .f32 :=
  k0_pay224 (k0_pay382 x0 x1) (View.ld x0 r0_65) (View.ld x1 r0_66) -- `v1623`
def k0_pay457 (x0 : Vec F S128x7168 .bf16) (x1 : Vec F S1x7168 .bf16) : FVec F S128x128 .f32 :=
  k0_pay229 (k0_pay382 x0 x1) (View.ld x0 r0_67) -- `v1665`
def k0_pay458 (x0 : Vec F S128x7168 .bf16) (x1 : Vec F S1x7168 .bf16) : FVec F S128x1 .f32 :=
  k0_pay239 (k0_pay382 x0 x1) (View.ld x0 r0_69) (View.ld x1 r0_70) -- `v1742`
def k0_pay459 (x0 : Vec F S128x7168 .bf16) (x1 : Vec F S1x7168 .bf16) : FVec F S128x128 .f32 :=
  k0_pay240 (k0_pay382 x0 x1) (View.ld x0 r0_69) (View.ld x1 r0_70) -- `v1749`
def k0_pay460 (x0 : Vec F S128x7168 .bf16) (x1 : Vec F S1x7168 .bf16) : FVec F S128x128 .f32 :=
  k0_pay243 (k0_pay382 x0 x1) (View.ld x0 r0_71) (View.ld x1 r0_72) -- `v1770`
def k0_pay461 (x0 : Vec F S128x7168 .bf16) (x1 : Vec F S1x7168 .bf16) : IVec S128x1 32 :=
  k0_pay244 (k0_pay382 x0 x1) (View.ld x0 r0_71) (View.ld x1 r0_72) -- `v1787`
def k0_pay462 (x0 : Vec F S128x7168 .bf16) (x1 : Vec F S1x7168 .bf16) : IVec S128x1 32 :=
  k0_pay245 (k0_pay382 x0 x1) (View.ld x0 r0_71) (View.ld x1 r0_72) -- `v1791`
def k0_pay463 (x0 : Vec F S128x7168 .bf16) (x1 : Vec F S1x7168 .bf16) : FVec F S128x128 .f32 :=
  k0_pay249 (k0_pay382 x0 x1) (View.ld x0 r0_73) (View.ld x1 r0_74) -- `v1820`
def k0_pay464 (x0 : Vec F S128x7168 .bf16) (x1 : Vec F S1x7168 .bf16) : IVec S128x1 1 :=
  k0_pay251 (k0_pay382 x0 x1) (View.ld x0 r0_73) (View.ld x1 r0_74) -- `v1827`
def k0_pay465 (x0 : Vec F S128x7168 .bf16) (x1 : Vec F S1x7168 .bf16) : IVec S128x1 32 :=
  k0_pay252 (k0_pay382 x0 x1) (View.ld x0 r0_73) (View.ld x1 r0_74) -- `v1833`
def k0_pay466 (x0 : Vec F S128x7168 .bf16) (x1 : Vec F S1x7168 .bf16) : FVec F S128x128 .f32 :=
  k0_pay257 (k0_pay382 x0 x1) (View.ld x0 r0_75) (View.ld x1 r0_76) -- `v1870`
def k0_pay467 (x0 : Vec F S128x7168 .bf16) (x1 : Vec F S1x7168 .bf16) : FVec F S128x1 .f32 :=
  k0_pay258 (k0_pay382 x0 x1) (View.ld x0 r0_75) (View.ld x1 r0_76) -- `v1873`
def k0_pay468 (x0 : Vec F S128x7168 .bf16) (x1 : Vec F S1x7168 .bf16) : FVec F S128x128 .f32 :=
  k0_pay263 (k0_pay382 x0 x1) (View.ld x0 r0_77) -- `v1915`
def k0_pay469 (x0 : Vec F S128x7168 .bf16) (x1 : Vec F S1x7168 .bf16) : FVec F S128x1 .f32 :=
  k0_pay273 (k0_pay382 x0 x1) (View.ld x0 r0_79) (View.ld x1 r0_80) -- `v1992`
def k0_pay470 (x0 : Vec F S128x7168 .bf16) (x1 : Vec F S1x7168 .bf16) : FVec F S128x128 .f32 :=
  k0_pay274 (k0_pay382 x0 x1) (View.ld x0 r0_79) (View.ld x1 r0_80) -- `v1999`
def k0_pay471 (x0 : Vec F S128x7168 .bf16) (x1 : Vec F S1x7168 .bf16) : FVec F S128x128 .f32 :=
  k0_pay277 (k0_pay382 x0 x1) (View.ld x0 r0_81) (View.ld x1 r0_82) -- `v2020`
def k0_pay472 (x0 : Vec F S128x7168 .bf16) (x1 : Vec F S1x7168 .bf16) : IVec S128x1 32 :=
  k0_pay278 (k0_pay382 x0 x1) (View.ld x0 r0_81) (View.ld x1 r0_82) -- `v2037`
def k0_pay473 (x0 : Vec F S128x7168 .bf16) (x1 : Vec F S1x7168 .bf16) : IVec S128x1 32 :=
  k0_pay279 (k0_pay382 x0 x1) (View.ld x0 r0_81) (View.ld x1 r0_82) -- `v2041`
def k0_pay474 (x0 : Vec F S128x7168 .bf16) (x1 : Vec F S1x7168 .bf16) : FVec F S128x128 .f32 :=
  k0_pay283 (k0_pay382 x0 x1) (View.ld x0 r0_83) (View.ld x1 r0_84) -- `v2070`
def k0_pay475 (x0 : Vec F S128x7168 .bf16) (x1 : Vec F S1x7168 .bf16) : IVec S128x1 1 :=
  k0_pay285 (k0_pay382 x0 x1) (View.ld x0 r0_83) (View.ld x1 r0_84) -- `v2077`
def k0_pay476 (x0 : Vec F S128x7168 .bf16) (x1 : Vec F S1x7168 .bf16) : IVec S128x1 32 :=
  k0_pay286 (k0_pay382 x0 x1) (View.ld x0 r0_83) (View.ld x1 r0_84) -- `v2083`
def k0_pay477 (x0 : Vec F S128x7168 .bf16) (x1 : Vec F S1x7168 .bf16) : FVec F S128x128 .f32 :=
  k0_pay291 (k0_pay382 x0 x1) (View.ld x0 r0_85) (View.ld x1 r0_86) -- `v2120`
def k0_pay478 (x0 : Vec F S128x7168 .bf16) (x1 : Vec F S1x7168 .bf16) : FVec F S128x1 .f32 :=
  k0_pay292 (k0_pay382 x0 x1) (View.ld x0 r0_85) (View.ld x1 r0_86) -- `v2123`
def k0_pay479 (x0 : Vec F S128x7168 .bf16) (x1 : Vec F S1x7168 .bf16) : FVec F S128x128 .f32 :=
  k0_pay297 (k0_pay382 x0 x1) (View.ld x0 r0_87) -- `v2165`
def k0_pay480 (x0 : Vec F S128x7168 .bf16) (x1 : Vec F S1x7168 .bf16) : FVec F S128x1 .f32 :=
  k0_pay307 (k0_pay382 x0 x1) (View.ld x0 r0_89) (View.ld x1 r0_90) -- `v2242`
def k0_pay481 (x0 : Vec F S128x7168 .bf16) (x1 : Vec F S1x7168 .bf16) : FVec F S128x128 .f32 :=
  k0_pay308 (k0_pay382 x0 x1) (View.ld x0 r0_89) (View.ld x1 r0_90) -- `v2249`
def k0_pay482 (x0 : Vec F S128x7168 .bf16) (x1 : Vec F S1x7168 .bf16) : FVec F S128x128 .f32 :=
  k0_pay311 (k0_pay382 x0 x1) (View.ld x0 r0_91) (View.ld x1 r0_92) -- `v2270`
def k0_pay483 (x0 : Vec F S128x7168 .bf16) (x1 : Vec F S1x7168 .bf16) : IVec S128x1 32 :=
  k0_pay312 (k0_pay382 x0 x1) (View.ld x0 r0_91) (View.ld x1 r0_92) -- `v2287`
def k0_pay484 (x0 : Vec F S128x7168 .bf16) (x1 : Vec F S1x7168 .bf16) : IVec S128x1 32 :=
  k0_pay313 (k0_pay382 x0 x1) (View.ld x0 r0_91) (View.ld x1 r0_92) -- `v2291`
def k0_pay485 (x0 : Vec F S128x7168 .bf16) (x1 : Vec F S1x7168 .bf16) : FVec F S128x128 .f32 :=
  k0_pay317 (k0_pay382 x0 x1) (View.ld x0 r0_93) (View.ld x1 r0_94) -- `v2320`
def k0_pay486 (x0 : Vec F S128x7168 .bf16) (x1 : Vec F S1x7168 .bf16) : IVec S128x1 1 :=
  k0_pay319 (k0_pay382 x0 x1) (View.ld x0 r0_93) (View.ld x1 r0_94) -- `v2327`
def k0_pay487 (x0 : Vec F S128x7168 .bf16) (x1 : Vec F S1x7168 .bf16) : IVec S128x1 32 :=
  k0_pay320 (k0_pay382 x0 x1) (View.ld x0 r0_93) (View.ld x1 r0_94) -- `v2333`
def k0_pay488 (x0 : Vec F S128x7168 .bf16) (x1 : Vec F S1x7168 .bf16) : FVec F S128x128 .f32 :=
  k0_pay325 (k0_pay382 x0 x1) (View.ld x0 r0_95) (View.ld x1 r0_96) -- `v2370`
def k0_pay489 (x0 : Vec F S128x7168 .bf16) (x1 : Vec F S1x7168 .bf16) : FVec F S128x1 .f32 :=
  k0_pay326 (k0_pay382 x0 x1) (View.ld x0 r0_95) (View.ld x1 r0_96) -- `v2373`
def k0_pay490 (x0 : Vec F S128x7168 .bf16) (x1 : Vec F S1x7168 .bf16) : FVec F S128x128 .f32 :=
  k0_pay331 (k0_pay382 x0 x1) (View.ld x0 r0_97) -- `v2415`
def k0_pay491 (x0 : Vec F S128x7168 .bf16) (x1 : Vec F S1x7168 .bf16) : FVec F S128x1 .f32 :=
  k0_pay341 (k0_pay382 x0 x1) (View.ld x0 r0_99) (View.ld x1 r0_100) -- `v2492`
def k0_pay492 (x0 : Vec F S128x7168 .bf16) (x1 : Vec F S1x7168 .bf16) : FVec F S128x128 .f32 :=
  k0_pay342 (k0_pay382 x0 x1) (View.ld x0 r0_99) (View.ld x1 r0_100) -- `v2499`
def k0_pay493 (x0 : Vec F S128x7168 .bf16) (x1 : Vec F S1x7168 .bf16) : FVec F S128x128 .f32 :=
  k0_pay345 (k0_pay382 x0 x1) (View.ld x0 r0_101) (View.ld x1 r0_102) -- `v2520`
def k0_pay494 (x0 : Vec F S128x7168 .bf16) (x1 : Vec F S1x7168 .bf16) : IVec S128x1 32 :=
  k0_pay346 (k0_pay382 x0 x1) (View.ld x0 r0_101) (View.ld x1 r0_102) -- `v2537`
def k0_pay495 (x0 : Vec F S128x7168 .bf16) (x1 : Vec F S1x7168 .bf16) : IVec S128x1 32 :=
  k0_pay347 (k0_pay382 x0 x1) (View.ld x0 r0_101) (View.ld x1 r0_102) -- `v2541`
def k0_pay496 (x0 : Vec F S128x7168 .bf16) (x1 : Vec F S1x7168 .bf16) : FVec F S128x128 .f32 :=
  k0_pay351 (k0_pay382 x0 x1) (View.ld x0 r0_103) (View.ld x1 r0_104) -- `v2570`
def k0_pay497 (x0 : Vec F S128x7168 .bf16) (x1 : Vec F S1x7168 .bf16) : IVec S128x1 1 :=
  k0_pay353 (k0_pay382 x0 x1) (View.ld x0 r0_103) (View.ld x1 r0_104) -- `v2577`
def k0_pay498 (x0 : Vec F S128x7168 .bf16) (x1 : Vec F S1x7168 .bf16) : IVec S128x1 32 :=
  k0_pay354 (k0_pay382 x0 x1) (View.ld x0 r0_103) (View.ld x1 r0_104) -- `v2583`
def k0_pay499 (x0 : Vec F S128x7168 .bf16) (x1 : Vec F S1x7168 .bf16) : FVec F S128x128 .f32 :=
  k0_pay359 (k0_pay382 x0 x1) (View.ld x0 r0_105) (View.ld x1 r0_106) -- `v2620`
def k0_pay500 (x0 : Vec F S128x7168 .bf16) (x1 : Vec F S1x7168 .bf16) : FVec F S128x1 .f32 :=
  k0_pay360 (k0_pay382 x0 x1) (View.ld x0 r0_105) (View.ld x1 r0_106) -- `v2623`
def k0_pay501 (x0 : Vec F S128x7168 .bf16) (x1 : Vec F S1x7168 .bf16) : FVec F S128x128 .f32 :=
  k0_pay365 (k0_pay382 x0 x1) (View.ld x0 r0_107) -- `v2665`
def k0_pay502 (x0 : Vec F S128x7168 .bf16) (x1 : Vec F S1x7168 .bf16) : FVec F S128x1 .f32 :=
  k0_pay375 (k0_pay382 x0 x1) (View.ld x0 r0_109) (View.ld x1 r0_110) -- `v2742`
def k0_pay503 (x0 : Vec F S128x7168 .bf16) (x1 : Vec F S1x7168 .bf16) : FVec F S128x128 .f32 :=
  k0_pay376 (k0_pay382 x0 x1) (View.ld x0 r0_109) (View.ld x1 r0_110) -- `v2749`
def k0_pay504 (x0 : Vec F S128x7168 .bf16) (x1 : Vec F S1x7168 .bf16) : FVec F S128x128 .f32 :=
  k0_pay379 (k0_pay382 x0 x1) (View.ld x0 r0_111) (View.ld x1 r0_112) -- `v2770`
def k0_pay505 (x0 : Vec F S128x7168 .bf16) (x1 : Vec F S1x7168 .bf16) : IVec S128x1 32 :=
  k0_pay380 (k0_pay382 x0 x1) (View.ld x0 r0_111) (View.ld x1 r0_112) -- `v2787`
def k0_pay506 (x0 : Vec F S128x7168 .bf16) (x1 : Vec F S1x7168 .bf16) : FVec F S128x1 .f32 :=
  bitcastToFloat .f32 (k0_pay381 (k0_pay382 x0 x1) (View.ld x0 r0_111) (View.ld x1 r0_112)) -- `v2792`

/-- Window 2's staging buffer after the body, from the input windows' blocks: its 56 stores as pieces, LAST
    FIRST (Lib/Pipeline/FrameBody.lean `View.canon`; the payloads are the skeleton's and the values stated above). -/
def out0_2 (x0 : Vec F S128x7168 .bf16) (x1 : Vec F S1x7168 .bf16) : Vec F S128x7168 .fp8e4m3 :=
  View.canon [⟨r0_111, k0_pay1 (k0_pay504 x0 x1) (k0_pay505 x0 x1)⟩,
    ⟨r0_109, k0_pay377 (k0_pay503 x0 x1) (Scalar.ofBits .f32 0xC3E00000#32) (Scalar.ofBits .f32 0x43E00000#32)⟩,
    ⟨r0_107, k0_pay369 (k0_pay501 x0 x1) (View.ld x1 r0_108)⟩,
    ⟨r0_105, k0_pay363 (k0_pay499 x0 x1) (k0_pay500 x0 x1) (Scalar.ofBits .f32 0x3B124925#32)⟩,
    ⟨r0_103, k0_pay357 (k0_pay496 x0 x1) (k0_pay497 x0 x1) (k0_pay498 x0 x1)⟩,
    ⟨r0_101, k0_pay349 (k0_pay493 x0 x1) (k0_pay494 x0 x1)⟩,
    ⟨r0_99, k0_pay343 (k0_pay492 x0 x1) (Scalar.ofBits .f32 0xC3E00000#32) (Scalar.ofBits .f32 0x43E00000#32)⟩,
    ⟨r0_97, k0_pay335 (k0_pay490 x0 x1) (View.ld x1 r0_98)⟩,
    ⟨r0_95, k0_pay329 (k0_pay488 x0 x1) (k0_pay489 x0 x1) (Scalar.ofBits .f32 0x3B124925#32)⟩,
    ⟨r0_93, k0_pay323 (k0_pay485 x0 x1) (k0_pay486 x0 x1) (k0_pay487 x0 x1)⟩,
    ⟨r0_91, k0_pay315 (k0_pay482 x0 x1) (k0_pay483 x0 x1)⟩,
    ⟨r0_89, k0_pay309 (k0_pay481 x0 x1) (Scalar.ofBits .f32 0xC3E00000#32) (Scalar.ofBits .f32 0x43E00000#32)⟩,
    ⟨r0_87, k0_pay301 (k0_pay479 x0 x1) (View.ld x1 r0_88)⟩,
    ⟨r0_85, k0_pay295 (k0_pay477 x0 x1) (k0_pay478 x0 x1) (Scalar.ofBits .f32 0x3B124925#32)⟩,
    ⟨r0_83, k0_pay289 (k0_pay474 x0 x1) (k0_pay475 x0 x1) (k0_pay476 x0 x1)⟩,
    ⟨r0_81, k0_pay281 (k0_pay471 x0 x1) (k0_pay472 x0 x1)⟩,
    ⟨r0_79, k0_pay275 (k0_pay470 x0 x1) (Scalar.ofBits .f32 0xC3E00000#32) (Scalar.ofBits .f32 0x43E00000#32)⟩,
    ⟨r0_77, k0_pay267 (k0_pay468 x0 x1) (View.ld x1 r0_78)⟩,
    ⟨r0_75, k0_pay261 (k0_pay466 x0 x1) (k0_pay467 x0 x1) (Scalar.ofBits .f32 0x3B124925#32)⟩,
    ⟨r0_73, k0_pay255 (k0_pay463 x0 x1) (k0_pay464 x0 x1) (k0_pay465 x0 x1)⟩,
    ⟨r0_71, k0_pay247 (k0_pay460 x0 x1) (k0_pay461 x0 x1)⟩,
    ⟨r0_69, k0_pay241 (k0_pay459 x0 x1) (Scalar.ofBits .f32 0xC3E00000#32) (Scalar.ofBits .f32 0x43E00000#32)⟩,
    ⟨r0_67, k0_pay233 (k0_pay457 x0 x1) (View.ld x1 r0_68)⟩,
    ⟨r0_65, k0_pay227 (k0_pay455 x0 x1) (k0_pay456 x0 x1) (Scalar.ofBits .f32 0x3B124925#32)⟩,
    ⟨r0_63, k0_pay221 (k0_pay452 x0 x1) (k0_pay453 x0 x1) (k0_pay454 x0 x1)⟩,
    ⟨r0_61, k0_pay213 (k0_pay449 x0 x1) (k0_pay450 x0 x1)⟩,
    ⟨r0_59, k0_pay207 (k0_pay448 x0 x1) (Scalar.ofBits .f32 0xC3E00000#32) (Scalar.ofBits .f32 0x43E00000#32)⟩,
    ⟨r0_57, k0_pay199 (k0_pay446 x0 x1) (View.ld x1 r0_58)⟩,
    ⟨r0_55, k0_pay193 (k0_pay444 x0 x1) (k0_pay445 x0 x1) (Scalar.ofBits .f32 0x3B124925#32)⟩,
    ⟨r0_53, k0_pay187 (k0_pay441 x0 x1) (k0_pay442 x0 x1) (k0_pay443 x0 x1)⟩,
    ⟨r0_51, k0_pay179 (k0_pay438 x0 x1) (k0_pay439 x0 x1)⟩,
    ⟨r0_49, k0_pay173 (k0_pay437 x0 x1) (Scalar.ofBits .f32 0xC3E00000#32) (Scalar.ofBits .f32 0x43E00000#32)⟩,
    ⟨r0_47, k0_pay165 (k0_pay435 x0 x1) (View.ld x1 r0_48)⟩,
    ⟨r0_45, k0_pay159 (k0_pay433 x0 x1) (k0_pay434 x0 x1) (Scalar.ofBits .f32 0x3B124925#32)⟩,
    ⟨r0_43, k0_pay153 (k0_pay430 x0 x1) (k0_pay431 x0 x1) (k0_pay432 x0 x1)⟩,
    ⟨r0_41, k0_pay145 (k0_pay427 x0 x1) (k0_pay428 x0 x1)⟩,
    ⟨r0_39, k0_pay139 (k0_pay426 x0 x1) (Scalar.ofBits .f32 0xC3E00000#32) (Scalar.ofBits .f32 0x43E00000#32)⟩,
    ⟨r0_37, k0_pay131 (k0_pay424 x0 x1) (View.ld x1 r0_38)⟩,
    ⟨r0_35, k0_pay125 (k0_pay422 x0 x1) (k0_pay423 x0 x1) (Scalar.ofBits .f32 0x3B124925#32)⟩,
    ⟨r0_33, k0_pay119 (k0_pay419 x0 x1) (k0_pay420 x0 x1) (k0_pay421 x0 x1)⟩,
    ⟨r0_31, k0_pay111 (k0_pay416 x0 x1) (k0_pay417 x0 x1)⟩,
    ⟨r0_29, k0_pay105 (k0_pay415 x0 x1) (Scalar.ofBits .f32 0xC3E00000#32) (Scalar.ofBits .f32 0x43E00000#32)⟩,
    ⟨r0_27, k0_pay97 (k0_pay413 x0 x1) (View.ld x1 r0_28)⟩,
    ⟨r0_25, k0_pay91 (k0_pay411 x0 x1) (k0_pay412 x0 x1) (Scalar.ofBits .f32 0x3B124925#32)⟩,
    ⟨r0_23, k0_pay85 (k0_pay408 x0 x1) (k0_pay409 x0 x1) (k0_pay410 x0 x1)⟩,
    ⟨r0_21, k0_pay77 (k0_pay405 x0 x1) (k0_pay406 x0 x1)⟩,
    ⟨r0_19, k0_pay71 (k0_pay404 x0 x1) (Scalar.ofBits .f32 0xC3E00000#32) (Scalar.ofBits .f32 0x43E00000#32)⟩,
    ⟨r0_17, k0_pay63 (k0_pay402 x0 x1) (View.ld x1 r0_18)⟩,
    ⟨r0_15, k0_pay57 (k0_pay400 x0 x1) (k0_pay401 x0 x1) (Scalar.ofBits .f32 0x3B124925#32)⟩,
    ⟨r0_13, k0_pay51 (k0_pay397 x0 x1) (k0_pay398 x0 x1) (k0_pay399 x0 x1)⟩,
    ⟨r0_11, k0_pay43 (k0_pay394 x0 x1) (k0_pay395 x0 x1)⟩,
    ⟨r0_9, k0_pay37 (k0_pay393 x0 x1) (Scalar.ofBits .f32 0xC3E00000#32) (Scalar.ofBits .f32 0x43E00000#32)⟩,
    ⟨r0_7, k0_pay29 (k0_pay391 x0 x1) (View.ld x1 r0_8)⟩,
    ⟨r0_5, k0_pay23 (k0_pay389 x0 x1) (k0_pay390 x0 x1) (Scalar.ofBits .f32 0x3B124925#32)⟩,
    ⟨r0_3, k0_pay17 (k0_pay386 x0 x1) (k0_pay387 x0 x1) (k0_pay388 x0 x1)⟩,
    ⟨r0_1, k0_pay9 (k0_pay383 x0 x1) (k0_pay384 x0 x1)⟩]

/-- Its stores tile the buffer (checked by evaluation), so they cover it. -/
theorem cover0_2 (p0 : Vec F S128x128 .fp8e4m3) (p1 : Vec F S128x128 .fp8e4m3) (p2 : Vec F S128x128 .fp8e4m3) (p3 : Vec F S128x128 .fp8e4m3) (p4 : Vec F S128x128 .fp8e4m3) (p5 : Vec F S128x128 .fp8e4m3) (p6 : Vec F S128x128 .fp8e4m3) (p7 : Vec F S128x128 .fp8e4m3) (p8 : Vec F S128x128 .fp8e4m3) (p9 : Vec F S128x128 .fp8e4m3) (p10 : Vec F S128x128 .fp8e4m3) (p11 : Vec F S128x128 .fp8e4m3) (p12 : Vec F S128x128 .fp8e4m3) (p13 : Vec F S128x128 .fp8e4m3) (p14 : Vec F S128x128 .fp8e4m3) (p15 : Vec F S128x128 .fp8e4m3) (p16 : Vec F S128x128 .fp8e4m3) (p17 : Vec F S128x128 .fp8e4m3) (p18 : Vec F S128x128 .fp8e4m3) (p19 : Vec F S128x128 .fp8e4m3) (p20 : Vec F S128x128 .fp8e4m3) (p21 : Vec F S128x128 .fp8e4m3) (p22 : Vec F S128x128 .fp8e4m3) (p23 : Vec F S128x128 .fp8e4m3) (p24 : Vec F S128x128 .fp8e4m3) (p25 : Vec F S128x128 .fp8e4m3) (p26 : Vec F S128x128 .fp8e4m3) (p27 : Vec F S128x128 .fp8e4m3) (p28 : Vec F S128x128 .fp8e4m3) (p29 : Vec F S128x128 .fp8e4m3) (p30 : Vec F S128x128 .fp8e4m3) (p31 : Vec F S128x128 .fp8e4m3) (p32 : Vec F S128x128 .fp8e4m3) (p33 : Vec F S128x128 .fp8e4m3) (p34 : Vec F S128x128 .fp8e4m3) (p35 : Vec F S128x128 .fp8e4m3) (p36 : Vec F S128x128 .fp8e4m3) (p37 : Vec F S128x128 .fp8e4m3) (p38 : Vec F S128x128 .fp8e4m3) (p39 : Vec F S128x128 .fp8e4m3) (p40 : Vec F S128x128 .fp8e4m3) (p41 : Vec F S128x128 .fp8e4m3) (p42 : Vec F S128x128 .fp8e4m3) (p43 : Vec F S128x128 .fp8e4m3) (p44 : Vec F S128x128 .fp8e4m3) (p45 : Vec F S128x128 .fp8e4m3) (p46 : Vec F S128x128 .fp8e4m3) (p47 : Vec F S128x128 .fp8e4m3) (p48 : Vec F S128x128 .fp8e4m3) (p49 : Vec F S128x128 .fp8e4m3) (p50 : Vec F S128x128 .fp8e4m3) (p51 : Vec F S128x128 .fp8e4m3) (p52 : Vec F S128x128 .fp8e4m3) (p53 : Vec F S128x128 .fp8e4m3) (p54 : Vec F S128x128 .fp8e4m3) (p55 : Vec F S128x128 .fp8e4m3) (y : S128x7168.Idx) :
    ∃ pc ∈ ([⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] : List (View.Piece (Elt F) S128x7168 .fp8e4m3)), y ∈ pc.1.set :=
  View.cover_of_tiled [⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] S128x128.size (by rfl) y

/-- Window 3's staging buffer after the body, from the input windows' blocks: its 1 store as pieces, LAST
    FIRST (Lib/Pipeline/FrameBody.lean `View.canon`; the payloads are the skeleton's and the values stated above). -/
def out0_3 (x0 : Vec F S128x7168 .bf16) (x1 : Vec F S1x7168 .bf16) : Vec F S128x56 .f32 :=
  View.canon [⟨r0_113, k0_pay3 (k0_pay8 (F := F) (k0_pay385 x0 x1)) (k0_pay16 (F := F) (k0_pay387 x0 x1) (k0_pay388 x0 x1)) (k0_pay22 (k0_pay390 x0 x1) (Scalar.ofBits .f32 0x3B124925#32)) (k0_pay28 (k0_pay391 x0 x1) (View.ld x1 r0_8)) (k0_pay392 x0 x1) (k0_pay42 (F := F) (k0_pay396 x0 x1)) (k0_pay50 (F := F) (k0_pay398 x0 x1) (k0_pay399 x0 x1)) (k0_pay56 (k0_pay401 x0 x1) (Scalar.ofBits .f32 0x3B124925#32)) (k0_pay62 (k0_pay402 x0 x1) (View.ld x1 r0_18)) (k0_pay403 x0 x1) (k0_pay76 (F := F) (k0_pay407 x0 x1)) (k0_pay84 (F := F) (k0_pay409 x0 x1) (k0_pay410 x0 x1)) (k0_pay90 (k0_pay412 x0 x1) (Scalar.ofBits .f32 0x3B124925#32)) (k0_pay96 (k0_pay413 x0 x1) (View.ld x1 r0_28)) (k0_pay414 x0 x1) (k0_pay110 (F := F) (k0_pay418 x0 x1)) (k0_pay118 (F := F) (k0_pay420 x0 x1) (k0_pay421 x0 x1)) (k0_pay124 (k0_pay423 x0 x1) (Scalar.ofBits .f32 0x3B124925#32)) (k0_pay130 (k0_pay424 x0 x1) (View.ld x1 r0_38)) (k0_pay425 x0 x1) (k0_pay144 (F := F) (k0_pay429 x0 x1)) (k0_pay152 (F := F) (k0_pay431 x0 x1) (k0_pay432 x0 x1)) (k0_pay158 (k0_pay434 x0 x1) (Scalar.ofBits .f32 0x3B124925#32)) (k0_pay164 (k0_pay435 x0 x1) (View.ld x1 r0_48)) (k0_pay436 x0 x1) (k0_pay178 (F := F) (k0_pay440 x0 x1)) (k0_pay186 (F := F) (k0_pay442 x0 x1) (k0_pay443 x0 x1)) (k0_pay192 (k0_pay445 x0 x1) (Scalar.ofBits .f32 0x3B124925#32)) (k0_pay198 (k0_pay446 x0 x1) (View.ld x1 r0_58)) (k0_pay447 x0 x1) (k0_pay212 (F := F) (k0_pay451 x0 x1)) (k0_pay220 (F := F) (k0_pay453 x0 x1) (k0_pay454 x0 x1)) (k0_pay226 (k0_pay456 x0 x1) (Scalar.ofBits .f32 0x3B124925#32)) (k0_pay232 (k0_pay457 x0 x1) (View.ld x1 r0_68)) (k0_pay458 x0 x1) (k0_pay246 (F := F) (k0_pay462 x0 x1)) (k0_pay254 (F := F) (k0_pay464 x0 x1) (k0_pay465 x0 x1)) (k0_pay260 (k0_pay467 x0 x1) (Scalar.ofBits .f32 0x3B124925#32)) (k0_pay266 (k0_pay468 x0 x1) (View.ld x1 r0_78)) (k0_pay469 x0 x1) (k0_pay280 (F := F) (k0_pay473 x0 x1)) (k0_pay288 (F := F) (k0_pay475 x0 x1) (k0_pay476 x0 x1)) (k0_pay294 (k0_pay478 x0 x1) (Scalar.ofBits .f32 0x3B124925#32)) (k0_pay300 (k0_pay479 x0 x1) (View.ld x1 r0_88)) (k0_pay480 x0 x1) (k0_pay314 (F := F) (k0_pay484 x0 x1)) (k0_pay322 (F := F) (k0_pay486 x0 x1) (k0_pay487 x0 x1)) (k0_pay328 (k0_pay489 x0 x1) (Scalar.ofBits .f32 0x3B124925#32)) (k0_pay334 (k0_pay490 x0 x1) (View.ld x1 r0_98)) (k0_pay491 x0 x1) (k0_pay348 (F := F) (k0_pay495 x0 x1)) (k0_pay356 (F := F) (k0_pay497 x0 x1) (k0_pay498 x0 x1)) (k0_pay362 (k0_pay500 x0 x1) (Scalar.ofBits .f32 0x3B124925#32)) (k0_pay368 (k0_pay501 x0 x1) (View.ld x1 r0_108)) (k0_pay502 x0 x1) (k0_pay506 x0 x1)⟩]

/-- Its stores tile the buffer (checked by evaluation), so they cover it. -/
theorem cover0_3 (p0 : Vec F S128x56 .f32) (y : S128x56.Idx) :
    ∃ pc ∈ ([⟨r0_113, p0⟩] : List (View.Piece (Elt F) S128x56 .f32)), y ∈ pc.1.set :=
  View.cover_of_tiled [⟨r0_113, p0⟩] S128x56.size (by rfl) y

/-- Window 4's staging buffer after the body, from the input windows' blocks: its 56 stores as pieces, LAST
    FIRST (Lib/Pipeline/FrameBody.lean `View.canon`; the payloads are the skeleton's and the values stated above). -/
def out0_4 (x0 : Vec F S128x7168 .bf16) (x1 : Vec F S1x7168 .bf16) : Vec F S128x7168 .bf16 :=
  View.canon [⟨r0_111, k0_pay2 (k0_pay504 x0 x1) (k0_pay505 x0 x1) (k0_pay506 x0 x1)⟩,
    ⟨r0_109, k0_pay378 (k0_pay502 x0 x1) (k0_pay503 x0 x1) (Scalar.ofBits .f32 0xC3E00000#32) (Scalar.ofBits .f32 0x43E00000#32)⟩,
    ⟨r0_107, k0_pay372 (k0_pay370 (k0_pay501 x0 x1) (View.ld x1 r0_108)) (k0_pay371 (k0_pay501 x0 x1) (View.ld x1 r0_108))⟩,
    ⟨r0_105, k0_pay364 (k0_pay499 x0 x1) (k0_pay500 x0 x1) (Scalar.ofBits .f32 0x3B124925#32)⟩,
    ⟨r0_103, k0_pay358 (k0_pay496 x0 x1) (k0_pay497 x0 x1) (k0_pay498 x0 x1)⟩,
    ⟨r0_101, k0_pay350 (k0_pay493 x0 x1) (k0_pay494 x0 x1) (k0_pay495 x0 x1)⟩,
    ⟨r0_99, k0_pay344 (k0_pay491 x0 x1) (k0_pay492 x0 x1) (Scalar.ofBits .f32 0xC3E00000#32) (Scalar.ofBits .f32 0x43E00000#32)⟩,
    ⟨r0_97, k0_pay338 (k0_pay336 (k0_pay490 x0 x1) (View.ld x1 r0_98)) (k0_pay337 (k0_pay490 x0 x1) (View.ld x1 r0_98))⟩,
    ⟨r0_95, k0_pay330 (k0_pay488 x0 x1) (k0_pay489 x0 x1) (Scalar.ofBits .f32 0x3B124925#32)⟩,
    ⟨r0_93, k0_pay324 (k0_pay485 x0 x1) (k0_pay486 x0 x1) (k0_pay487 x0 x1)⟩,
    ⟨r0_91, k0_pay316 (k0_pay482 x0 x1) (k0_pay483 x0 x1) (k0_pay484 x0 x1)⟩,
    ⟨r0_89, k0_pay310 (k0_pay480 x0 x1) (k0_pay481 x0 x1) (Scalar.ofBits .f32 0xC3E00000#32) (Scalar.ofBits .f32 0x43E00000#32)⟩,
    ⟨r0_87, k0_pay304 (k0_pay302 (k0_pay479 x0 x1) (View.ld x1 r0_88)) (k0_pay303 (k0_pay479 x0 x1) (View.ld x1 r0_88))⟩,
    ⟨r0_85, k0_pay296 (k0_pay477 x0 x1) (k0_pay478 x0 x1) (Scalar.ofBits .f32 0x3B124925#32)⟩,
    ⟨r0_83, k0_pay290 (k0_pay474 x0 x1) (k0_pay475 x0 x1) (k0_pay476 x0 x1)⟩,
    ⟨r0_81, k0_pay282 (k0_pay471 x0 x1) (k0_pay472 x0 x1) (k0_pay473 x0 x1)⟩,
    ⟨r0_79, k0_pay276 (k0_pay469 x0 x1) (k0_pay470 x0 x1) (Scalar.ofBits .f32 0xC3E00000#32) (Scalar.ofBits .f32 0x43E00000#32)⟩,
    ⟨r0_77, k0_pay270 (k0_pay268 (k0_pay468 x0 x1) (View.ld x1 r0_78)) (k0_pay269 (k0_pay468 x0 x1) (View.ld x1 r0_78))⟩,
    ⟨r0_75, k0_pay262 (k0_pay466 x0 x1) (k0_pay467 x0 x1) (Scalar.ofBits .f32 0x3B124925#32)⟩,
    ⟨r0_73, k0_pay256 (k0_pay463 x0 x1) (k0_pay464 x0 x1) (k0_pay465 x0 x1)⟩,
    ⟨r0_71, k0_pay248 (k0_pay460 x0 x1) (k0_pay461 x0 x1) (k0_pay462 x0 x1)⟩,
    ⟨r0_69, k0_pay242 (k0_pay458 x0 x1) (k0_pay459 x0 x1) (Scalar.ofBits .f32 0xC3E00000#32) (Scalar.ofBits .f32 0x43E00000#32)⟩,
    ⟨r0_67, k0_pay236 (k0_pay234 (k0_pay457 x0 x1) (View.ld x1 r0_68)) (k0_pay235 (k0_pay457 x0 x1) (View.ld x1 r0_68))⟩,
    ⟨r0_65, k0_pay228 (k0_pay455 x0 x1) (k0_pay456 x0 x1) (Scalar.ofBits .f32 0x3B124925#32)⟩,
    ⟨r0_63, k0_pay222 (k0_pay452 x0 x1) (k0_pay453 x0 x1) (k0_pay454 x0 x1)⟩,
    ⟨r0_61, k0_pay214 (k0_pay449 x0 x1) (k0_pay450 x0 x1) (k0_pay451 x0 x1)⟩,
    ⟨r0_59, k0_pay208 (k0_pay447 x0 x1) (k0_pay448 x0 x1) (Scalar.ofBits .f32 0xC3E00000#32) (Scalar.ofBits .f32 0x43E00000#32)⟩,
    ⟨r0_57, k0_pay202 (k0_pay200 (k0_pay446 x0 x1) (View.ld x1 r0_58)) (k0_pay201 (k0_pay446 x0 x1) (View.ld x1 r0_58))⟩,
    ⟨r0_55, k0_pay194 (k0_pay444 x0 x1) (k0_pay445 x0 x1) (Scalar.ofBits .f32 0x3B124925#32)⟩,
    ⟨r0_53, k0_pay188 (k0_pay441 x0 x1) (k0_pay442 x0 x1) (k0_pay443 x0 x1)⟩,
    ⟨r0_51, k0_pay180 (k0_pay438 x0 x1) (k0_pay439 x0 x1) (k0_pay440 x0 x1)⟩,
    ⟨r0_49, k0_pay174 (k0_pay436 x0 x1) (k0_pay437 x0 x1) (Scalar.ofBits .f32 0xC3E00000#32) (Scalar.ofBits .f32 0x43E00000#32)⟩,
    ⟨r0_47, k0_pay168 (k0_pay166 (k0_pay435 x0 x1) (View.ld x1 r0_48)) (k0_pay167 (k0_pay435 x0 x1) (View.ld x1 r0_48))⟩,
    ⟨r0_45, k0_pay160 (k0_pay433 x0 x1) (k0_pay434 x0 x1) (Scalar.ofBits .f32 0x3B124925#32)⟩,
    ⟨r0_43, k0_pay154 (k0_pay430 x0 x1) (k0_pay431 x0 x1) (k0_pay432 x0 x1)⟩,
    ⟨r0_41, k0_pay146 (k0_pay427 x0 x1) (k0_pay428 x0 x1) (k0_pay429 x0 x1)⟩,
    ⟨r0_39, k0_pay140 (k0_pay425 x0 x1) (k0_pay426 x0 x1) (Scalar.ofBits .f32 0xC3E00000#32) (Scalar.ofBits .f32 0x43E00000#32)⟩,
    ⟨r0_37, k0_pay134 (k0_pay132 (k0_pay424 x0 x1) (View.ld x1 r0_38)) (k0_pay133 (k0_pay424 x0 x1) (View.ld x1 r0_38))⟩,
    ⟨r0_35, k0_pay126 (k0_pay422 x0 x1) (k0_pay423 x0 x1) (Scalar.ofBits .f32 0x3B124925#32)⟩,
    ⟨r0_33, k0_pay120 (k0_pay419 x0 x1) (k0_pay420 x0 x1) (k0_pay421 x0 x1)⟩,
    ⟨r0_31, k0_pay112 (k0_pay416 x0 x1) (k0_pay417 x0 x1) (k0_pay418 x0 x1)⟩,
    ⟨r0_29, k0_pay106 (k0_pay414 x0 x1) (k0_pay415 x0 x1) (Scalar.ofBits .f32 0xC3E00000#32) (Scalar.ofBits .f32 0x43E00000#32)⟩,
    ⟨r0_27, k0_pay100 (k0_pay98 (k0_pay413 x0 x1) (View.ld x1 r0_28)) (k0_pay99 (k0_pay413 x0 x1) (View.ld x1 r0_28))⟩,
    ⟨r0_25, k0_pay92 (k0_pay411 x0 x1) (k0_pay412 x0 x1) (Scalar.ofBits .f32 0x3B124925#32)⟩,
    ⟨r0_23, k0_pay86 (k0_pay408 x0 x1) (k0_pay409 x0 x1) (k0_pay410 x0 x1)⟩,
    ⟨r0_21, k0_pay78 (k0_pay405 x0 x1) (k0_pay406 x0 x1) (k0_pay407 x0 x1)⟩,
    ⟨r0_19, k0_pay72 (k0_pay403 x0 x1) (k0_pay404 x0 x1) (Scalar.ofBits .f32 0xC3E00000#32) (Scalar.ofBits .f32 0x43E00000#32)⟩,
    ⟨r0_17, k0_pay66 (k0_pay64 (k0_pay402 x0 x1) (View.ld x1 r0_18)) (k0_pay65 (k0_pay402 x0 x1) (View.ld x1 r0_18))⟩,
    ⟨r0_15, k0_pay58 (k0_pay400 x0 x1) (k0_pay401 x0 x1) (Scalar.ofBits .f32 0x3B124925#32)⟩,
    ⟨r0_13, k0_pay52 (k0_pay397 x0 x1) (k0_pay398 x0 x1) (k0_pay399 x0 x1)⟩,
    ⟨r0_11, k0_pay44 (k0_pay394 x0 x1) (k0_pay395 x0 x1) (k0_pay396 x0 x1)⟩,
    ⟨r0_9, k0_pay38 (k0_pay392 x0 x1) (k0_pay393 x0 x1) (Scalar.ofBits .f32 0xC3E00000#32) (Scalar.ofBits .f32 0x43E00000#32)⟩,
    ⟨r0_7, k0_pay32 (k0_pay30 (k0_pay391 x0 x1) (View.ld x1 r0_8)) (k0_pay31 (k0_pay391 x0 x1) (View.ld x1 r0_8))⟩,
    ⟨r0_5, k0_pay24 (k0_pay389 x0 x1) (k0_pay390 x0 x1) (Scalar.ofBits .f32 0x3B124925#32)⟩,
    ⟨r0_3, k0_pay18 (k0_pay386 x0 x1) (k0_pay387 x0 x1) (k0_pay388 x0 x1)⟩,
    ⟨r0_1, k0_pay10 (k0_pay383 x0 x1) (k0_pay384 x0 x1) (k0_pay385 x0 x1)⟩]

/-- Its stores tile the buffer (checked by evaluation), so they cover it. -/
theorem cover0_4 (p0 : Vec F S128x128 .bf16) (p1 : Vec F S128x128 .bf16) (p2 : Vec F S128x128 .bf16) (p3 : Vec F S128x128 .bf16) (p4 : Vec F S128x128 .bf16) (p5 : Vec F S128x128 .bf16) (p6 : Vec F S128x128 .bf16) (p7 : Vec F S128x128 .bf16) (p8 : Vec F S128x128 .bf16) (p9 : Vec F S128x128 .bf16) (p10 : Vec F S128x128 .bf16) (p11 : Vec F S128x128 .bf16) (p12 : Vec F S128x128 .bf16) (p13 : Vec F S128x128 .bf16) (p14 : Vec F S128x128 .bf16) (p15 : Vec F S128x128 .bf16) (p16 : Vec F S128x128 .bf16) (p17 : Vec F S128x128 .bf16) (p18 : Vec F S128x128 .bf16) (p19 : Vec F S128x128 .bf16) (p20 : Vec F S128x128 .bf16) (p21 : Vec F S128x128 .bf16) (p22 : Vec F S128x128 .bf16) (p23 : Vec F S128x128 .bf16) (p24 : Vec F S128x128 .bf16) (p25 : Vec F S128x128 .bf16) (p26 : Vec F S128x128 .bf16) (p27 : Vec F S128x128 .bf16) (p28 : Vec F S128x128 .bf16) (p29 : Vec F S128x128 .bf16) (p30 : Vec F S128x128 .bf16) (p31 : Vec F S128x128 .bf16) (p32 : Vec F S128x128 .bf16) (p33 : Vec F S128x128 .bf16) (p34 : Vec F S128x128 .bf16) (p35 : Vec F S128x128 .bf16) (p36 : Vec F S128x128 .bf16) (p37 : Vec F S128x128 .bf16) (p38 : Vec F S128x128 .bf16) (p39 : Vec F S128x128 .bf16) (p40 : Vec F S128x128 .bf16) (p41 : Vec F S128x128 .bf16) (p42 : Vec F S128x128 .bf16) (p43 : Vec F S128x128 .bf16) (p44 : Vec F S128x128 .bf16) (p45 : Vec F S128x128 .bf16) (p46 : Vec F S128x128 .bf16) (p47 : Vec F S128x128 .bf16) (p48 : Vec F S128x128 .bf16) (p49 : Vec F S128x128 .bf16) (p50 : Vec F S128x128 .bf16) (p51 : Vec F S128x128 .bf16) (p52 : Vec F S128x128 .bf16) (p53 : Vec F S128x128 .bf16) (p54 : Vec F S128x128 .bf16) (p55 : Vec F S128x128 .bf16) (y : S128x7168.Idx) :
    ∃ pc ∈ ([⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] : List (View.Piece (Elt F) S128x7168 .bf16)), y ∈ pc.1.set :=
  View.cover_of_tiled [⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] S128x128.size (by rfl) y

/-! ## The body's triple -/

set_option maxHeartbeats 2272000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x7168 .bf16) (harg1 : arg1.IsWhole) (arg2 : Memref sig .tc .vmem S1x7168 .bf16) (harg2 : arg2.IsWhole) (arg3 : Memref sig .tc .vmem S128x7168 .fp8e4m3) (harg3 : arg3.IsWhole) (arg4 : Memref sig .tc .vmem S128x56 .f32) (harg4 : arg4.IsWhole) (arg5 : Memref sig .tc .vmem S128x7168 .bf16) (harg5 : arg5.IsWhole)
    (x0 : Vec F S128x7168 .bf16) (x1 : Vec F S1x7168 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_rms_quant i arg1 harg1 arg2 harg2 arg3 harg3 arg4 harg4 arg5 harg5) K := by
  simp only [cc0_rms_quant_eq_skeleton]; unfold cc0_rms_quant_skel
  simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Hand

end
-- ==== Proof.KernelBlocks.lean ====
/- The projection call: the blocks its body finds, its three branch conditions in closed form, and where its output windows are idle. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.PureOps.Ideal
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

/-! # REGION 1 of @main: custom_call 1, `cc1_qkv_rope` (pipeline 1), at the entry contents `V` — class R -/

/-! ## The call's configuration

The call has a prefetched table, the positions, which no index map reads: its pipeline is the same one whatever the table
holds (`cfg1_at`), and is stated here once, at a table of zeros. -/

/-- A table of zeros. -/
abbrev zeros1 : (pcfg1 (F := Ideal)).Adm :=
  ⟨fun | 0 => fun _ => (0#32 : BitVec 32) | ⟨_ + 1, h⟩ => absurd h (Nat.not_lt.2 (Nat.le_add_left _ _)), trivial⟩
/-- The configuration, and its windows in operand order. -/
abbrev cfg1 : Pipeline.Cfg sig Λ₀ := pcfg1.at zeros1
abbrev win1 : Fin 7 → Pipeline.Window sig grid1 := cfg1.win
abbrev win1_0 : Pipeline.Window sig grid1 := cfg1.win 0
abbrev win1_1 : Pipeline.Window sig grid1 := cfg1.win 1
abbrev win1_2 : Pipeline.Window sig grid1 := cfg1.win 2
abbrev win1_3 : Pipeline.Window sig grid1 := cfg1.win 3
abbrev win1_4 : Pipeline.Window sig grid1 := cfg1.win 4
abbrev win1_5 : Pipeline.Window sig grid1 := cfg1.win 5
abbrev win1_6 : Pipeline.Window sig grid1 := cfg1.win 6

/-- The printed configuration is this one at any contents of the table. -/
theorem cfg1_at (a : (pcfg1 (F := F)).Adm) : pcfg1.at a = cfg1 := rfl

/-- The kernel body at point `t`, on what the pipeline calls it with (`defs₀`'s row at the slots). -/
abbrev bodyAt1 (t : Fin cfg1.N) : Prog (TpuEff nD τ sig (Elt F) Λ₀ .tc) PUnit :=
  cc1_qkv_rope (grid1.coords t) (Memref.whole main_v23) (Memref.isWhole_whole _) (spec1_0.stage (cfg1.slots t 0)) (hstage1_0 ((cfg1.slots t 0).cast nbuf1_0)) (spec1_1.stage (cfg1.slots t 1)) (hstage1_1 ((cfg1.slots t 1).cast nbuf1_1)) (spec1_2.stage (cfg1.slots t 2)) (hstage1_2 ((cfg1.slots t 2).cast nbuf1_2)) (spec1_3.stage (cfg1.slots t 3)) (hstage1_3 ((cfg1.slots t 3).cast nbuf1_3)) (spec1_4.stage (cfg1.slots t 4)) (hstage1_4 ((cfg1.slots t 4).cast nbuf1_4)) (spec1_5.stage (cfg1.slots t 5)) (hstage1_5 ((cfg1.slots t 5).cast nbuf1_5)) (spec1_6.stage (cfg1.slots t 6)) (hstage1_6 ((cfg1.slots t 6).cast nbuf1_6)) (Memref.whole cc1_scratch0) (Memref.isWhole_whole _)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points whose coordinates have i1 ≤ 3 — decided over the grid. -/
theorem hcond1_0 : ∀ t : Fin cfg1.N, cond1_0 (grid1.coords t) ↔ t.val % 12 ≤ 3 :=
  (by decide +kernel : ∀ t : Fin grid1.N, cond1_0 (grid1.coords t) ↔ t.val % 12 ≤ 3)

/-- The condition of the body's `scf.if` 1 (`k1_h2`), from the grid coordinates (the skeleton's scalar
    chain substituted). -/
abbrev cond1_1 (i : grid1.Coords) : Prop := k1_cond2 i = 1#1
/-- It holds at the points whose coordinates have 4 ≤ i1 and i1 ≤ 7 — decided over the grid. -/
theorem hcond1_1 : ∀ t : Fin cfg1.N, cond1_1 (grid1.coords t) ↔ (4 ≤ t.val % 12 ∧ t.val % 12 ≤ 7) :=
  (by decide +kernel : ∀ t : Fin grid1.N, cond1_1 (grid1.coords t) ↔ (4 ≤ t.val % 12 ∧ t.val % 12 ≤ 7))

/-- The condition of the body's `scf.if` 2 (`k1_h3`), from the grid coordinates (the skeleton's scalar
    chain substituted). -/
abbrev cond1_2 (i : grid1.Coords) : Prop := k1_cond3 i = 1#1
/-- It holds at the points whose coordinates have 8 ≤ i1 — decided over the grid. -/
theorem hcond1_2 : ∀ t : Fin cfg1.N, cond1_2 (grid1.coords t) ↔ 8 ≤ t.val % 12 :=
  (by decide +kernel : ∀ t : Fin grid1.N, cond1_2 (grid1.coords t) ↔ 8 ≤ t.val % 12)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- At the points of case A the printed configuration (`Cfg.idle`) calls output 4 live: the case stores into it. -/
theorem liveAt1_4_A : ∀ t : Fin cfg1.N, cond1_0 (grid1.coords t) → ¬cond1_1 (grid1.coords t) → ¬cond1_2 (grid1.coords t) → cfg1.idle 4 (grid1.coords t) = false := by decide +kernel
/-- At the points of case B the printed configuration (`Cfg.idle`) calls output 4 idle: the case stores nothing into it. -/
theorem idleAt1_4_B : ∀ t : Fin cfg1.N, ¬cond1_0 (grid1.coords t) → cond1_1 (grid1.coords t) → ¬cond1_2 (grid1.coords t) → cfg1.idle 4 (grid1.coords t) = true := by decide +kernel
/-- At the points of case B the pipeline does not write output 4's block back. -/
theorem noFlush1_4_B : ∀ t : Fin cfg1.N, ¬cond1_0 (grid1.coords t) → cond1_1 (grid1.coords t) → ¬cond1_2 (grid1.coords t) → (cfg1.win 4).flush t = false := by decide +kernel
/-- At the points of case C the printed configuration (`Cfg.idle`) calls output 4 idle: the case stores nothing into it. -/
theorem idleAt1_4_C : ∀ t : Fin cfg1.N, ¬cond1_0 (grid1.coords t) → ¬cond1_1 (grid1.coords t) → cond1_2 (grid1.coords t) → cfg1.idle 4 (grid1.coords t) = true := by decide +kernel
/-- At the points of case A the printed configuration (`Cfg.idle`) calls output 5 idle: the case stores nothing into it. -/
theorem idleAt1_5_A : ∀ t : Fin cfg1.N, cond1_0 (grid1.coords t) → ¬cond1_1 (grid1.coords t) → ¬cond1_2 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → ¬cond1_2 (grid1.coords t) → (cfg1.win 5).flush t = false := by decide +kernel
/-- At the points of case B the printed configuration (`Cfg.idle`) calls output 5 live: the case stores into it. -/
theorem liveAt1_5_B : ∀ t : Fin cfg1.N, ¬cond1_0 (grid1.coords t) → cond1_1 (grid1.coords t) → ¬cond1_2 (grid1.coords t) → cfg1.idle 5 (grid1.coords t) = false := by decide +kernel
/-- At the points of case C the printed configuration (`Cfg.idle`) calls output 5 idle: the case stores nothing into it. -/
theorem idleAt1_5_C : ∀ t : Fin cfg1.N, ¬cond1_0 (grid1.coords t) → ¬cond1_1 (grid1.coords t) → cond1_2 (grid1.coords t) → cfg1.idle 5 (grid1.coords t) = true := by decide +kernel
/-- At the points of case A the printed configuration (`Cfg.idle`) calls output 6 idle: the case stores nothing into it. -/
theorem idleAt1_6_A : ∀ t : Fin cfg1.N, cond1_0 (grid1.coords t) → ¬cond1_1 (grid1.coords t) → ¬cond1_2 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → ¬cond1_2 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → cond1_1 (grid1.coords t) → ¬cond1_2 (grid1.coords t) → cfg1.idle 6 (grid1.coords t) = true := by decide +kernel
/-- At the points of case B the pipeline does not write output 6's block back. -/
theorem noFlush1_6_B : ∀ t : Fin cfg1.N, ¬cond1_0 (grid1.coords t) → cond1_1 (grid1.coords t) → ¬cond1_2 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → ¬cond1_1 (grid1.coords t) → cond1_2 (grid1.coords t) → cfg1.idle 6 (grid1.coords t) = false := by decide +kernel

/-! ## The kernel body on any staging memrefs: a subtype the run finds -/

/-- One staging buffer of output window 4, through which its contents are stated (`View.read_writes_of_cover`: the
    choice does not matter). -/
abbrev VO1_4 : View sig .tc .vmem S768x512 .bf16 := (Memref.whole cc1_stg4_0 : Memref sig .tc .vmem S768x512 .bf16).view
/-- One staging buffer of output window 5, through which its contents are stated (`View.read_writes_of_cover`: the
    choice does not matter). -/
abbrev VO1_5 : View sig .tc .vmem S768x512 .bf16 := (Memref.whole cc1_stg5_0 : Memref sig .tc .vmem S768x512 .bf16).view
/-- One staging buffer of output window 6, through which its contents are stated (`View.read_writes_of_cover`: the
    choice does not matter). -/
abbrev VO1_6 : View sig .tc .vmem S768x512 .bf16 := (Memref.whole cc1_stg6_0 : Memref sig .tc .vmem S768x512 .bf16).view
/-- Each window's current staging memref at point `t`, spelled as the pipeline passes it (`bodyAt1`), and its wholeness. -/
abbrev ms1_0 (t : Fin cfg1.N) : Memref sig .tc .smem S48x56 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x7168 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x7168 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S768x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S768x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x512 .bf16 := win1_6.stage (cfg1.slots t 6)
abbrev hs1_6 (t : Fin cfg1.N) : (ms1_6 t).IsWhole := hstage1_6 ((cfg1.slots t 6).cast nbuf1_6)
/-- The table of positions, passed whole beside the windows, and what it holds when the region is entered. -/
abbrev tabM1 : Memref sig .tc .smem S8 .i32 := Memref.whole main_v23
def tab1 (c : Dev nD) : Vec F S8 .i32 := V c main_v23
/-- The scratch operands: whole scoped buffers of the kernel's own, passed beside the windows. -/
abbrev scM1_0 : Memref sig .tc .vmem S512x7168 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Regions

end Cert.Kernel.Hand

end
-- ==== Proof.KernelRunA.lean ====
/- The projection body at the points whose columns are query heads. -/
module

public import proofs.«01_k».proof.Proof.KernelBlocks

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 7916000 in
/-- What the body's stores leave in each output's staging memref, as pieces (last first) IN CASE A (`scf.if` 0 taken, `scf.if` 1 not taken, `scf.if` 2 not taken: points 0, 1, … 87: 32 of 96), WITH the
    proof that on whole staging memrefs — the inputs' at their contents, the outputs it leaves idle (5, 6: no store, the window idle and not written back at the case's points) at contents `xi·` handed back untouched, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) :
    Σ' (L4 : List (View.Piece (Elt F) S768x512 .bf16)), Σ' (L5 : List (View.Piece (Elt F) S768x512 .bf16)), Σ' (L6 : List (View.Piece (Elt F) S768x512 .bf16)), { LT0 : List (View.Piece (Elt F) S512x7168 .bf16) //
      ∀ (xi5 : Vec F S768x512 .bf16) (xi6 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi5 ∗ owns (c : Thread nD τ) arg9 fullShare xi6 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L4) ∗ owns (c : Thread nD τ) arg8 fullShare xi5 ∗ owns (c : Thread nD τ) arg9 fullShare xi6 ∗ (∃ d, owns (c : Thread nD τ) arg10 fullShare d)) -∗ K ⟨⟩))
          ⊢ wp frame (wpE (defs₀ (F := F)) Variants.none c none) E (cc1_qkv_rope i arg2 harg2 arg3 harg3 arg4 harg4 arg5 harg5 arg6 harg6 arg7 harg7 arg8 harg8 arg9 harg9 arg10 harg10) K } := by
  refine ⟨?_, [], [], [], fun xi5 xi6 E K => ?run⟩
  case run =>
    simp only [cc1_qkv_rope_eq_skeleton]; unfold cc1_qkv_rope_skel
    simp only [k1_part78_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    iexists _, _; isplitr; swap; · iexact HS0
    ipureintro; rfl

/-- Case A's pieces for output 4 tile its block (4 stores of `S768x128`, checked by the kernel's evaluation: Lib/Ring.lean `Piece.tiledL`, linear in the pieces, through a loop's `@[irreducible]` trip theorem too), so they cover it. -/
theorem cover1_A_4 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) (y : S768x512.Idx) :
    ∃ pc ∈ (kernelRun1_A c i arg2 harg2 arg3 harg3 arg4 harg4 arg5 harg5 arg6 harg6 arg7 harg7 arg8 harg8 arg9 harg9 arg10 harg10 hc0 hc1 hc2 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 hc2 x0 x1 x2 x3 x4).1 S768x128.size (by sl_kernel_rfl) y

/-- What case A leaves in output 4's staging buffer: its pieces read back over junk. -/
def out1_A_4 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_4.read (Elt F) (VO1_4.writes (Elt F) VO1_4.junk (kernelRun1_A c i arg2 harg2 arg3 harg3 arg4 harg4 arg5 harg5 arg6 harg6 arg7 harg7 arg8 harg8 arg9 harg9 arg10 harg10 hc0 hc1 hc2 x0 x1 x2 x3 x4).1)

/-- Case A stores nothing into output 5 (the window is idle at its points and not written back there):
    no pieces — a placeholder (junk read back) that nothing consults, since at these points the window is neither
    written back nor read at the next point (Lib/Pipeline.lean "Idle points"). -/
def out1_A_5 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 hc2 x0 x1 x2 x3 x4).2.1)

/-- Case A stores nothing into output 6 (the window is idle at its points and not written back there):
    no pieces — a placeholder (junk read back) that nothing consults, since at these points the window is neither
    written back nor read at the next point (Lib/Pipeline.lean "Idle points"). -/
def out1_A_6 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 hc2 x0 x1 x2 x3 x4).2.2.1)

end Regions

end Cert.Kernel.Hand

end
-- ==== Proof.KernelRunB.lean ====
/- The projection body at the points whose columns are key heads. -/
module

public import proofs.«01_k».proof.Proof.KernelBlocks

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 7916000 in
/-- What the body's stores leave in each output's staging memref, as pieces (last first) IN CASE B (`scf.if` 0 not taken, `scf.if` 1 taken, `scf.if` 2 not taken: points 4, 5, … 91: 32 of 96), WITH the
    proof that on whole staging memrefs — the inputs' at their contents, the outputs it leaves idle (4, 6: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) :
    Σ' (L4 : List (View.Piece (Elt F) S768x512 .bf16)), Σ' (L5 : List (View.Piece (Elt F) S768x512 .bf16)), Σ' (L6 : List (View.Piece (Elt F) S768x512 .bf16)), { LT0 : List (View.Piece (Elt F) S512x7168 .bf16) //
      ∀ (xi4 : Vec F S768x512 .bf16) (xi6 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi4 ∗ (∃ d, owns (c : Thread nD τ) arg8 fullShare d) ∗ owns (c : Thread nD τ) arg9 fullShare xi6 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LT0)) -∗ K ⟨⟩))
          ⊢ wp frame (wpE (defs₀ (F := F)) Variants.none c none) E (cc1_qkv_rope i arg2 harg2 arg3 harg3 arg4 harg4 arg5 harg5 arg6 harg6 arg7 harg7 arg8 harg8 arg9 harg9 arg10 harg10) K } := by
  refine ⟨[], ?_, [], ?_, fun xi4 xi6 E K => ?run⟩
  case run =>
    simp only [cc1_qkv_rope_eq_skeleton]; unfold cc1_qkv_rope_skel
    simp only [k1_part78_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

/-- Case B stores nothing into output 4 (the window is idle at its points and not written back there):
    no pieces — a placeholder (junk read back) that nothing consults, since at these points the window is neither
    written back nor read at the next point (Lib/Pipeline.lean "Idle points"). -/
def out1_B_4 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_4.read (Elt F) (VO1_4.writes (Elt F) VO1_4.junk (kernelRun1_B c i arg2 harg2 arg3 harg3 arg4 harg4 arg5 harg5 arg6 harg6 arg7 harg7 arg8 harg8 arg9 harg9 arg10 harg10 hc0 hc1 hc2 x0 x1 x2 x3 x4).1)

/-- Case B's pieces for output 5 tile its block (4 stores of `S768x128`, checked by the kernel's evaluation: Lib/Ring.lean `Piece.tiledL`, linear in the pieces, through a loop's `@[irreducible]` trip theorem too), so they cover it. -/
theorem cover1_B_5 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) (y : S768x512.Idx) :
    ∃ pc ∈ (kernelRun1_B c i arg2 harg2 arg3 harg3 arg4 harg4 arg5 harg5 arg6 harg6 arg7 harg7 arg8 harg8 arg9 harg9 arg10 harg10 hc0 hc1 hc2 x0 x1 x2 x3 x4).2.1, y ∈ pc.1.set :=
  View.cover_of_tiledL (kernelRun1_B c i arg2 harg2 arg3 harg3 arg4 harg4 arg5 harg5 arg6 harg6 arg7 harg7 arg8 harg8 arg9 harg9 arg10 harg10 hc0 hc1 hc2 x0 x1 x2 x3 x4).2.1 S768x128.size (by sl_kernel_rfl) y

/-- What case B leaves in output 5's staging buffer: its pieces read back over junk. -/
def out1_B_5 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 hc2 x0 x1 x2 x3 x4).2.1)

/-- Case B stores nothing into output 6 (the window is idle at its points and not written back there):
    no pieces — a placeholder (junk read back) that nothing consults, since at these points the window is neither
    written back nor read at the next point (Lib/Pipeline.lean "Idle points"). -/
def out1_B_6 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 hc2 x0 x1 x2 x3 x4).2.2.1)

end Regions

end Cert.Kernel.Hand

end
-- ==== Proof.KernelRunC.lean ====
/- The projection body at the points whose columns are value heads. -/
module

public import proofs.«01_k».proof.Proof.KernelBlocks

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 7872000 in
/-- What the body's stores leave in each output's staging memref, as pieces (last first) IN CASE C (`scf.if` 0 not taken, `scf.if` 1 not taken, `scf.if` 2 taken: points 8, 9, … 95: 32 of 96), WITH the
    proof that on whole staging memrefs — the inputs' at their contents, the outputs it leaves idle (4, 5: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) :
    Σ' (L4 : List (View.Piece (Elt F) S768x512 .bf16)), Σ' (L5 : List (View.Piece (Elt F) S768x512 .bf16)), Σ' (L6 : List (View.Piece (Elt F) S768x512 .bf16)), { LT0 : List (View.Piece (Elt F) S512x7168 .bf16) //
      ∀ (xi4 : Vec F S768x512 .bf16) (xi5 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi4 ∗ owns (c : Thread nD τ) arg8 fullShare xi5 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LT0)) -∗ K ⟨⟩))
          ⊢ wp frame (wpE (defs₀ (F := F)) Variants.none c none) E (cc1_qkv_rope i arg2 harg2 arg3 harg3 arg4 harg4 arg5 harg5 arg6 harg6 arg7 harg7 arg8 harg8 arg9 harg9 arg10 harg10) K } := by
  refine ⟨[], [], ?_, ?_, fun xi4 xi5 E K => ?run⟩
  case run =>
    simp only [cc1_qkv_rope_eq_skeleton]; unfold cc1_qkv_rope_skel
    simp only [k1_part78_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

/-- Case C stores nothing into output 4 (the window is idle at its points and not written back there):
    no pieces — a placeholder (junk read back) that nothing consults, since at these points the window is neither
    written back nor read at the next point (Lib/Pipeline.lean "Idle points"). -/
def out1_C_4 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_4.read (Elt F) (VO1_4.writes (Elt F) VO1_4.junk (kernelRun1_C c i arg2 harg2 arg3 harg3 arg4 harg4 arg5 harg5 arg6 harg6 arg7 harg7 arg8 harg8 arg9 harg9 arg10 harg10 hc0 hc1 hc2 x0 x1 x2 x3 x4).1)

/-- Case C stores nothing into output 5 (the window is idle at its points and not written back there):
    no pieces — a placeholder (junk read back) that nothing consults, since at these points the window is neither
    written back nor read at the next point (Lib/Pipeline.lean "Idle points"). -/
def out1_C_5 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 hc2 x0 x1 x2 x3 x4).2.1)

/-- Case C's pieces for output 6 tile its block (1 store of `S768x512`, checked by the kernel's evaluation: Lib/Ring.lean `Piece.tiledL`, linear in the pieces, through a loop's `@[irreducible]` trip theorem too), so they cover it. -/
theorem cover1_C_6 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) (y : S768x512.Idx) :
    ∃ pc ∈ (kernelRun1_C c i arg2 harg2 arg3 harg3 arg4 harg4 arg5 harg5 arg6 harg6 arg7 harg7 arg8 harg8 arg9 harg9 arg10 harg10 hc0 hc1 hc2 x0 x1 x2 x3 x4).2.2.1, y ∈ pc.1.set :=
  View.cover_of_tiledL (kernelRun1_C c i arg2 harg2 arg3 harg3 arg4 harg4 arg5 harg5 arg6 harg6 arg7 harg7 arg8 harg8 arg9 harg9 arg10 harg10 hc0 hc1 hc2 x0 x1 x2 x3 x4).2.2.1 S768x512.size (by sl_kernel_rfl) y

/-- What case C leaves in output 6's staging buffer: its pieces read back over junk. -/
def out1_C_6 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 hc2 x0 x1 x2 x3 x4).2.2.1)

end Regions

end Cert.Kernel.Hand

end
-- ==== Proof.KernelProj.lean ====
/- The projection call: what each of its output buffers holds after every grid point, and its run at every point. -/
module

public import proofs.«01_k».proof.Proof.KernelRunA
public import proofs.«01_k».proof.Proof.KernelRunB
public import proofs.«01_k».proof.Proof.KernelRunC

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S768x512 .bf16 × Vec F S768x512 .bf16 × Vec F S768x512 .bf16
  | 0, hn => (out1_A_4 c (grid1.coords ⟨0, hn⟩) tabM1 (Memref.isWhole_whole _) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (by (try dsimp only) <;> omega)) (fun h => (fun h => by (try dsimp only at h); omega) ((hcond1_1 ⟨0, hn⟩).mp h)) (fun h => (fun h => by (try dsimp only at h); omega) ((hcond1_2 ⟨0, hn⟩).mp h)) (tab1 V c) (iblk1 V c 0 ⟨0, hn⟩) (iblk1 V c 1 ⟨0, hn⟩) (iblk1 V c 2 ⟨0, hn⟩) (iblk1 V c 3 ⟨0, hn⟩), out1_A_5 c (grid1.coords ⟨0, hn⟩) tabM1 (Memref.isWhole_whole _) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (by (try dsimp only) <;> omega)) (fun h => (fun h => by (try dsimp only at h); omega) ((hcond1_1 ⟨0, hn⟩).mp h)) (fun h => (fun h => by (try dsimp only at h); omega) ((hcond1_2 ⟨0, hn⟩).mp h)) (tab1 V c) (iblk1 V c 0 ⟨0, hn⟩) (iblk1 V c 1 ⟨0, hn⟩) (iblk1 V c 2 ⟨0, hn⟩) (iblk1 V c 3 ⟨0, hn⟩), out1_A_6 c (grid1.coords ⟨0, hn⟩) tabM1 (Memref.isWhole_whole _) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (by (try dsimp only) <;> omega)) (fun h => (fun h => by (try dsimp only at h); omega) ((hcond1_1 ⟨0, hn⟩).mp h)) (fun h => (fun h => by (try dsimp only at h); omega) ((hcond1_2 ⟨0, hn⟩).mp h)) (tab1 V c) (iblk1 V c 0 ⟨0, hn⟩) (iblk1 V c 1 ⟨0, hn⟩) (iblk1 V c 2 ⟨0, hn⟩) (iblk1 V c 3 ⟨0, hn⟩))
  | n + 1, hn =>
    if h0 : (n + 1) % 12 ≤ 3 then
      if h1 : (4 ≤ (n + 1) % 12 ∧ (n + 1) % 12 ≤ 7) then
        False.elim (by have hN : n + 1 < 96 := lt_of_lt_of_eq hn (show cfg1.N = 96 from N_1); omega)
      else
        if h2 : 8 ≤ (n + 1) % 12 then
          False.elim (by have hN : n + 1 < 96 := lt_of_lt_of_eq hn (show cfg1.N = 96 from N_1); omega)
        else
          (out1_A_4 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩))
    else
      if h1 : (4 ≤ (n + 1) % 12 ∧ (n + 1) % 12 ≤ 7) then
        if h2 : 8 ≤ (n + 1) % 12 then
          False.elim (by have hN : n + 1 < 96 := lt_of_lt_of_eq hn (show cfg1.N = 96 from N_1); omega)
        else
          (out1_B_4 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩), out1_B_5 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩), out1_B_6 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩))
      else
        if h2 : 8 ≤ (n + 1) % 12 then
          (out1_C_4 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (tab1 V c) (iblk1 V c 0 ⟨n + 1, hn⟩) (iblk1 V c 1 ⟨n + 1, hn⟩) (iblk1 V c 2 ⟨n + 1, hn⟩) (iblk1 V c 3 ⟨n + 1, hn⟩), out1_C_5 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (tab1 V c) (iblk1 V c 0 ⟨n + 1, hn⟩) (iblk1 V c 1 ⟨n + 1, hn⟩) (iblk1 V c 2 ⟨n + 1, hn⟩) (iblk1 V c 3 ⟨n + 1, hn⟩), out1_C_6 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (tab1 V c) (iblk1 V c 0 ⟨n + 1, hn⟩) (iblk1 V c 1 ⟨n + 1, hn⟩) (iblk1 V c 2 ⟨n + 1, hn⟩) (iblk1 V c 3 ⟨n + 1, hn⟩))
        else
          False.elim (by have hN : n + 1 < 96 := lt_of_lt_of_eq hn (show cfg1.N = 96 from N_1); omega)

/-- `outsAt1` at a point of case A: that case's contents. -/
theorem outsAt1_A (c : Dev nD) (t : Fin cfg1.N) (h0 : t.val % 12 ≤ 3) (h1 : ¬(4 ≤ t.val % 12 ∧ t.val % 12 ≤ 7)) (h2 : ¬8 ≤ t.val % 12) :
    outsAt1 V c t.val t.isLt = (out1_A_4 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (fun h => h2 ((hcond1_2 t).mp h)) (tab1 V c) (iblk1 V c 0 t) (iblk1 V c 1 t) (iblk1 V c 2 t) (iblk1 V c 3 t), out1_A_5 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (fun h => h2 ((hcond1_2 t).mp h)) (tab1 V c) (iblk1 V c 0 t) (iblk1 V c 1 t) (iblk1 V c 2 t) (iblk1 V c 3 t), out1_A_6 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (fun h => h2 ((hcond1_2 t).mp h)) (tab1 V c) (iblk1 V c 0 t) (iblk1 V c 1 t) (iblk1 V c 2 t) (iblk1 V c 3 t)) := by
  obtain ⟨n, hn⟩ := t
  cases n with
  | zero => exact rfl
  | succ n => exact (dif_pos h0).trans ((dif_neg h1).trans ((dif_neg h2).trans rfl))

/-- `outsAt1` at a point of case B: that case's contents. -/
theorem outsAt1_B (c : Dev nD) (t : Fin cfg1.N) (h0 : ¬t.val % 12 ≤ 3) (h1 : (4 ≤ t.val % 12 ∧ t.val % 12 ≤ 7)) (h2 : ¬8 ≤ t.val % 12) :
    outsAt1 V c t.val t.isLt = (out1_B_4 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (fun h => h2 ((hcond1_2 t).mp h)) (tab1 V c) (iblk1 V c 0 t) (iblk1 V c 1 t) (iblk1 V c 2 t) (iblk1 V c 3 t), out1_B_5 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (fun h => h2 ((hcond1_2 t).mp h)) (tab1 V c) (iblk1 V c 0 t) (iblk1 V c 1 t) (iblk1 V c 2 t) (iblk1 V c 3 t), out1_B_6 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (fun h => h2 ((hcond1_2 t).mp h)) (tab1 V c) (iblk1 V c 0 t) (iblk1 V c 1 t) (iblk1 V c 2 t) (iblk1 V c 3 t)) := by
  obtain ⟨n, hn⟩ := t
  cases n with
  | zero => exact (by exfalso; (try dsimp only at h0); exact by omega)
  | succ n => exact (dif_neg h0).trans ((dif_pos h1).trans ((dif_neg h2).trans rfl))

/-- `outsAt1` at a point of case C: that case's contents. -/
theorem outsAt1_C (c : Dev nD) (t : Fin cfg1.N) (h0 : ¬t.val % 12 ≤ 3) (h1 : ¬(4 ≤ t.val % 12 ∧ t.val % 12 ≤ 7)) (h2 : 8 ≤ t.val % 12) :
    outsAt1 V c t.val t.isLt = (out1_C_4 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) ((hcond1_2 t).mpr h2) (tab1 V c) (iblk1 V c 0 t) (iblk1 V c 1 t) (iblk1 V c 2 t) (iblk1 V c 3 t), out1_C_5 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) ((hcond1_2 t).mpr h2) (tab1 V c) (iblk1 V c 0 t) (iblk1 V c 1 t) (iblk1 V c 2 t) (iblk1 V c 3 t), out1_C_6 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) ((hcond1_2 t).mpr h2) (tab1 V c) (iblk1 V c 0 t) (iblk1 V c 1 t) (iblk1 V c 2 t) (iblk1 V c 3 t)) := by
  obtain ⟨n, hn⟩ := t
  cases n with
  | zero => exact (by exfalso; (try dsimp only at h0); exact by omega)
  | succ n => exact (dif_neg h0).trans ((dif_neg h1).trans ((dif_pos h2).trans rfl))

/-! ## The pipeline's proof data -/

/-- The point of `t`'s row of the grid whose stores window 4's buffer holds after point `t`: `t` itself at the
    query columns, and after them the last query column, 3. -/
def sel4 (t : Fin cfg1.N) : Fin cfg1.N := ⟨t.val - (t.val % 12 - 3), lt_of_le_of_lt (Nat.sub_le _ _) t.isLt⟩

/-- The same for window 5, whose last key column is 7. -/
def sel5 (t : Fin cfg1.N) : Fin cfg1.N := ⟨t.val - (t.val % 12 - 7), lt_of_le_of_lt (Nat.sub_le _ _) t.isLt⟩

/-- The proof data of pipeline 1 on core `c`: the arrays as the region finds them (`V`); after the body at
    point `t` each input's buffer at its block and the outputs' at `outsAt1`, of the last point that stored into
    the buffer (`sel4`, `sel5`: the queries' and the keys' last blocks are written back at points that store nothing); the invariant the class's
    (Lib/Pipeline/Frame.lean `ΦA`: the scoped rest and the generator register) beside the table of positions, held whole; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c (sel4 t).val (sel4 t).isLt).1
    | ⟨5, _⟩ => (outsAt1 V c (sel5 t).val (sel5 t).isLt).2.1
    | ⟨6, _⟩ => (outsAt1 V c t.val t.isLt).2.2
  Φ _ := iprop(owns (c : Thread nD τ) tabM1 fullShare (tab1 V c) ∗ Pipeline.ΦA spec1 c)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c (sel4 t).val (sel4 t).isLt).1 := by dsimp only [dat1]
theorem after1_5 (c : Dev nD) (t : Fin cfg1.N) : (dat1 V c).after 5 t = (outsAt1 V c (sel5 t).val (sel5 t).isLt).2.1 := by dsimp only [dat1]
theorem after1_6 (c : Dev nD) (t : Fin cfg1.N) : (dat1 V c).after 6 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The contents the queries' and the keys' windows keep past their columns -/

/-- At a query column window 4 is left at what that point stores. -/
theorem after1_4_live (c : Dev nD) (t : Fin cfg1.N) (h : t.val % 12 ≤ 3) :
    (dat1 V c).after 4 t = (outsAt1 V c t.val t.isLt).1 := by
  have e : sel4 t = t := Fin.ext (by unfold sel4; dsimp only; omega)
  rw [after1_4, e]

/-- At a key column window 5 is left at what that point stores. -/
theorem after1_5_live (c : Dev nD) (t : Fin cfg1.N) (h : t.val % 12 ≤ 7) :
    (dat1 V c).after 5 t = (outsAt1 V c t.val t.isLt).2.1 := by
  have e : sel5 t = t := Fin.ext (by unfold sel5; dsimp only; omega)
  rw [after1_5, e]

/-- What a live point leaves in an uncut window's buffer is what the body left. -/
theorem left_live {Λ₀ : Idealize.SL.Sem.Labels} {cfg : Pipeline.Cfg sig Λ₀} {c : Dev nD} (dat : Dat τ (Elt F) Unit ℕ (UR sig nD τ) ℕ cfg c) (w : Fin cfg.W)
    (t : Fin cfg.N) (hi : cfg.idle w (cfg.grid.coords t) = false)
    (hclip : ∀ (i : cfg.grid.Coords) a, (cfg.win w).clip i a = none) (d) : dat.left w t d = dat.after w t := by
  unfold Dat.left; rw [hi]; dsimp only; unfold Dat.kept
  rw [Pipeline.fill_of_clip_none _ _ (hclip _) d (dat.after w _), Window.fill_cut]

/-- What an idle point leaves is what it found. -/
theorem left_idle {Λ₀ : Idealize.SL.Sem.Labels} {cfg : Pipeline.Cfg sig Λ₀} {c : Dev nD} (dat : Dat τ (Elt F) Unit ℕ (UR sig nD τ) ℕ cfg c) (w : Fin cfg.W)
    (t : Fin cfg.N) (hi : cfg.idle w (cfg.grid.coords t) = true) (d) : dat.left w t d = dat.before w t d := by
  unfold Dat.left; rw [hi]

/-- Window 4 is stored into at the query columns only, -/
theorem idle4 : ∀ t : Fin cfg1.N, cfg1.idle 4 (grid1.coords t) = decide (4 ≤ t.val % 12) := by decide +kernel
/-- and not written back between column 3 and column 11. -/
theorem noFlush4 : ∀ t : Fin cfg1.N, 3 ≤ t.val % 12 → t.val % 12 ≤ 10 → (cfg1.win 4).flush t = false := by decide +kernel
/-- Window 5 is stored into at the key columns only, -/
theorem idle5 : ∀ t : Fin cfg1.N, cfg1.idle 5 (grid1.coords t) = decide (t.val % 12 ≤ 3 ∨ 8 ≤ t.val % 12) := by decide +kernel
/-- and not written back between column 7 and column 11. -/
theorem noFlush5 : ∀ t : Fin cfg1.N, 7 ≤ t.val % 12 → t.val % 12 ≤ 10 → (cfg1.win 5).flush t = false := by decide +kernel

/-- Past the query columns window 4's buffer still holds what column 3 stored. -/
theorem before1_4_idle (c : Dev nD) (n : ℕ) : ∀ (t : Fin cfg1.N), t.val = n → 4 ≤ t.val % 12 → ∀ d,
    (dat1 V c).before 4 t d = (dat1 V c).after 4 t := by
  induction n with
  | zero => intro t h h4; omega
  | succ n ih =>
    intro t h h4 d
    have hN : t.val < 96 := lt_of_lt_of_eq t.isLt (show cfg1.N = 96 from N_1)
    have e : sel4 ⟨t.val - 1, Nat.lt_of_le_of_lt (Nat.sub_le _ _) t.isLt⟩ = sel4 t :=
      Fin.ext (by unfold sel4; dsimp only; omega)
    rw [(dat1 V c).before_of_pos 4 t (by omega) ((cfg1.win 4).fetch_out rfl t) d,
      noFlush4 ⟨t.val - 1, _⟩ (by dsimp only; omega) (by dsimp only; omega), if_neg Bool.false_ne_true]
    by_cases h5 : t.val % 12 = 4
    · rw [left_live _ _ _ ((idle4 ⟨t.val - 1, _⟩).trans (decide_eq_false (by dsimp only; omega))) (fun _ _ => rfl),
        after1_4, after1_4, e]
    · rw [left_idle _ _ _ ((idle4 ⟨t.val - 1, _⟩).trans (decide_eq_true (by dsimp only; omega))),
        ih ⟨t.val - 1, Nat.lt_of_le_of_lt (Nat.sub_le _ _) t.isLt⟩ (by dsimp only; omega) (by dsimp only; omega) d,
        after1_4, after1_4, e]

/-- Past the key columns window 5's buffer still holds what column 7 stored. -/
theorem before1_5_idle (c : Dev nD) (n : ℕ) : ∀ (t : Fin cfg1.N), t.val = n → 8 ≤ t.val % 12 → ∀ d,
    (dat1 V c).before 5 t d = (dat1 V c).after 5 t := by
  induction n with
  | zero => intro t h h4; omega
  | succ n ih =>
    intro t h h4 d
    have hN : t.val < 96 := lt_of_lt_of_eq t.isLt (show cfg1.N = 96 from N_1)
    have e : sel5 ⟨t.val - 1, Nat.lt_of_le_of_lt (Nat.sub_le _ _) t.isLt⟩ = sel5 t :=
      Fin.ext (by unfold sel5; dsimp only; omega)
    rw [(dat1 V c).before_of_pos 5 t (by omega) ((cfg1.win 5).fetch_out rfl t) d,
      noFlush5 ⟨t.val - 1, _⟩ (by dsimp only; omega) (by dsimp only; omega), if_neg Bool.false_ne_true]
    by_cases h5 : t.val % 12 = 8
    · rw [left_live _ _ _ ((idle5 ⟨t.val - 1, _⟩).trans (decide_eq_false (by dsimp only; omega))) (fun _ _ => rfl),
        after1_5, after1_5, e]
    · rw [left_idle _ _ _ ((idle5 ⟨t.val - 1, _⟩).trans (decide_eq_true (by dsimp only; omega))),
        ih ⟨t.val - 1, Nat.lt_of_le_of_lt (Nat.sub_le _ _) t.isLt⟩ (by dsimp only; omega) (by dsimp only; omega) d,
        after1_5, after1_5, e]

/-- So a point past the query columns leaves window 4 as it must, written back there or not, -/
theorem leaves4_idle (c : Dev nD) (t : Fin cfg1.N) (h : 4 ≤ t.val % 12) (d) :
    (owns (c : Thread nD τ) (ms1_4 t) fullShare ((dat1 V c).before 4 t d) : sProp 𝕄) ⊢ (dat1 V c).leavesExact 4 t := by
  unfold Dat.leavesExact
  rw [(idle4 t).trans (decide_eq_true h)]
  cases (cfg1.win 4).flush t with
  | false => iintro H; iexists d; iexact H
  | true => dsimp only; rw [before1_4_idle V c t.val t rfl h d]

/-- and one past the key columns window 5. -/
theorem leaves5_idle (c : Dev nD) (t : Fin cfg1.N) (h : 8 ≤ t.val % 12) (d) :
    (owns (c : Thread nD τ) (ms1_5 t) fullShare ((dat1 V c).before 5 t d) : sProp 𝕄) ⊢ (dat1 V c).leavesExact 5 t := by
  unfold Dat.leavesExact
  rw [(idle5 t).trans (decide_eq_true (Or.inr h))]
  cases (cfg1.win 5).flush t with
  | false => iintro H; iexists d; iexact H
  | true => dsimp only; rw [before1_5_idle V c t.val t rfl h d]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 2400000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  rw [show (dat1 V c).Φ t.castSucc = iprop(owns (c : Thread nD τ) tabM1 fullShare (tab1 V c) ∗ Pipeline.ΦA spec1 c) from rfl, PhiA1_eq]
  have hN : t.val < 96 := lt_of_lt_of_eq t.isLt (show cfg1.N = 96 from N_1)
  by_cases h0 : t.val % 12 ≤ 3
  · by_cases h1 : (4 ≤ t.val % 12 ∧ t.val % 12 ≤ 7)
    · exfalso; omega
    · by_cases h2 : 8 ≤ t.val % 12
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4_A t ((hcond1_0 t).mpr h0) (fun h => h1 ((hcond1_1 t).mp h)) (fun h => h2 ((hcond1_2 t).mp h))], after1_4_live V c t h0]
        rw [Dat.leavesExact_idle (dat1 V c) 5 t (idleAt1_5_A t ((hcond1_0 t).mpr h0) (fun h => h1 ((hcond1_1 t).mp h)) (fun h => h2 ((hcond1_2 t).mp h))) (noFlush1_5_A t ((hcond1_0 t).mpr h0) (fun h => h1 ((hcond1_1 t).mp h)) (fun h => h2 ((hcond1_2 t).mp h)))]
        rw [Dat.leavesExact_idle (dat1 V c) 6 t (idleAt1_6_A t ((hcond1_0 t).mpr h0) (fun h => h1 ((hcond1_1 t).mp h)) (fun h => h2 ((hcond1_2 t).mp h))) (noFlush1_6_A t ((hcond1_0 t).mpr h0) (fun h => h1 ((hcond1_1 t).mp h)) (fun h => h2 ((hcond1_2 t).mp h)))]
        rw [outsAt1_A V c t h0 h1 h2]
        unfold out1_A_4; (try dsimp only)
        iintro ⟨⟨HT, ⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (fun h => h2 ((hcond1_2 t).mp h)) (tab1 V c) (iblk1 V c 0 t) (iblk1 V c 1 t) (iblk1 V c 2 t) (iblk1 V c 3 t)).2.2.2.2 _ _ Set.univ _)
        isplitl [HT]; · iexact HT
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        iintro ⟨HT, H0, H1, H2, H3, ⟨%e4, H4⟩, H5, H6, HS0⟩
        isplitl [HT HR0 HR1 HR2 HR3 HR4 HR5 HR6 HR7 HR8 HS0 Hg]
        · isplitl [HT]; · iexact HT
          isplitl [HR0 HR1 HR2 HR3 HR4 HR5 HR6 HR7 HR8 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexact HS0
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _ _ _)
        isplitl [H5]; · iexists _; iexact H5
        iexists _; iexact H6
  · by_cases h1 : (4 ≤ t.val % 12 ∧ t.val % 12 ≤ 7)
    · by_cases h2 : 8 ≤ t.val % 12
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [Dat.leavesExact_idle (dat1 V c) 4 t (idleAt1_4_B t (fun h => h0 ((hcond1_0 t).mp h)) ((hcond1_1 t).mpr h1) (fun h => h2 ((hcond1_2 t).mp h))) (noFlush1_4_B t (fun h => h0 ((hcond1_0 t).mp h)) ((hcond1_1 t).mpr h1) (fun h => h2 ((hcond1_2 t).mp h)))]
        rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1) (fun h => h2 ((hcond1_2 t).mp h))], after1_5_live V c t h1.2]
        rw [Dat.leavesExact_idle (dat1 V c) 6 t (idleAt1_6_B t (fun h => h0 ((hcond1_0 t).mp h)) ((hcond1_1 t).mpr h1) (fun h => h2 ((hcond1_2 t).mp h))) (noFlush1_6_B t (fun h => h0 ((hcond1_0 t).mp h)) ((hcond1_1 t).mpr h1) (fun h => h2 ((hcond1_2 t).mp h)))]
        rw [outsAt1_B V c t h0 h1 h2]
        unfold out1_B_5; (try dsimp only)
        iintro ⟨⟨HT, ⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) ((hcond1_1 t).mpr h1) (fun h => h2 ((hcond1_2 t).mp h)) (tab1 V c) (iblk1 V c 0 t) (iblk1 V c 1 t) (iblk1 V c 2 t) (iblk1 V c 3 t)).2.2.2.2 _ _ Set.univ _)
        isplitl [HT]; · iexact HT
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨HT, H0, H1, H2, H3, H4, ⟨%e5, H5⟩, H6, ⟨%fT0, HS0⟩⟩
        isplitl [HT HR0 HR1 HR2 HR3 HR4 HR5 HR6 HR7 HR8 HS0 Hg]
        · isplitl [HT]; · iexact HT
          isplitl [HR0 HR1 HR2 HR3 HR4 HR5 HR6 HR7 HR8 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexists _; unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]
        · unfold owns; iexists _; isplitr
          swap; · iexact H5
          ipureintro; exact View.read_writes_of_cover _ _ _ _ _ (cover1_B_5 c _ _ _ _ _ _ _ _ _ _ _ _ _ _ _ _ _ _ _ _ _ _ _ _ _ _ _)
        iexists _; iexact H6
    · by_cases h2 : 8 ≤ t.val % 12
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 6 t = owns (c : Thread nD τ) (ms1_6 t) fullShare ((dat1 V c).after 6 t) from by
      unfold Dat.leavesExact; rw [liveAt1_6_C t (fun h => h0 ((hcond1_0 t).mp h)) (fun h => h1 ((hcond1_1 t).mp h)) ((hcond1_2 t).mpr h2)], after1_6]
        rw [outsAt1_C V c t h0 h1 h2]
        unfold out1_C_6; (try dsimp only)
        iintro ⟨⟨HT, ⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) (fun h => h1 ((hcond1_1 t).mp h)) ((hcond1_2 t).mpr h2) (tab1 V c) (iblk1 V c 0 t) (iblk1 V c 1 t) (iblk1 V c 2 t) (iblk1 V c 3 t)).2.2.2.2 _ _ Set.univ _)
        isplitl [HT]; · iexact HT
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨HT, H0, H1, H2, H3, H4, H5, ⟨%e6, H6⟩, ⟨%fT0, HS0⟩⟩
        isplitl [HT HR0 HR1 HR2 HR3 HR4 HR5 HR6 HR7 HR8 HS0 Hg]
        · isplitl [HT]; · iexact HT
          isplitl [HR0 HR1 HR2 HR3 HR4 HR5 HR6 HR7 HR8 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexists _; unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iapply (leaves4_idle V c t (by omega) d4); iexact H4
        isplitl [H5]; · iapply (leaves5_idle V c t h2 d5); iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _)
      · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Hand

end
-- ==== Proof.KernelMain.lean ====
/- The whole program: the two calls and the host operations between them, from the launch to the return. -/
module

public import proofs.«01_k».proof.Proof.KernelQuant
public import proofs.«01_k».proof.Proof.KernelProj

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_cst, main_v4, main_v5, main_cst_0, main_v6, main_v7, main_v8, main_cst_1, main_v9, main_v10, main_cst_2, main_v11, main_v12, main_v13, main_v14, main_v15, main_v16, main_c, main_v17, main_v18, main_v19, main_v20, main_v21, main_v22, main_v23]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- A table of positions as the contents the second call is pinned at: the call asks nothing of them. -/
abbrev tabAdm (x : Vec F S8 .i32) : (pcfg1 (F := F)).Adm :=
  ⟨fun | 0 => x | ⟨_ + 1, h⟩ => absurd h (Nat.not_lt.2 (Nat.le_add_left _ _)), trivial⟩
/-- The prefetched tables' admissible contents: the first call has no table, the second's holds the positions that the host
    operations before it leave (the mesh has one device). -/
abbrev adm : (p : Fin 2) → (pcfgs (F := F) p).Adm
  | ⟨0, _⟩ => cfg0.toPCfg_adm
  | ⟨1, _⟩ => tabAdm (tab1 (V3 m ρ) 0)
/-- The second call's table, held whole at contents `x`, is its memref owned at them. -/
theorem prefHeld1_eq (c : Dev nD) (x : pre1.Contents (Elt F)) :
    (Pipeline.prefHeld pre1 c (fun _ => fullShare) x : sProp 𝕄) = owns (c : Thread nD τ) tabM1 fullShare (x 0) := by
  unfold Pipeline.prefHeld
  rw [bigSep_univ_eq_bigSepL [(0 : Fin 1)] (by decide) (by decide)]
  exact (owns_whole (c : Thread nD τ) main_v23 fullShare (x 0)).symm
/-- So at the contents the call is pinned at it is the memref owned at the positions the region finds. -/
theorem prefHeld1_adm (c : Dev nD) :
    (Pipeline.prefHeld (pcfgs (F := F) 1).pre c (fun _ => fullShare) (adm m ρ 1).1 : sProp 𝕄) = owns (c : Thread nD τ) tabM1 fullShare (tab1 (V3 m ρ) c) := by
  obtain rfl : c = 0 := Subsingleton.elim c 0
  exact prefHeld1_eq 0 (adm m ρ 1).1
/-- What bypasses the second region's arrays is its table and the rest. -/
theorem rest1_eq (c : Dev nD) :
    (Pipeline.unscopedRest (Pipeline.pin (pcfgs (F := F)) (adm m ρ) 1).spec c (V3 m ρ c) : sProp 𝕄)
      = iprop(owns (c : Thread nD τ) tabM1 fullShare (tab1 (V3 m ρ) c) ∗ Pipeline.unscopedRestP pre1 spec1 c (V3 m ρ c)) :=
  (Pipeline.unscopedRest_split preFacts1 c (V3 m ρ c)).trans
    (congrArg (fun P : sProp 𝕄 => iprop(P ∗ Pipeline.unscopedRestP pre1 spec1 c (V3 m ρ c))) (prefHeld1_eq c fun k => V3 m ρ c (pre1.ref k)))
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) (adm m ρ) (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ) (pdats m ρ) winFacts0 arr_whole0 c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register and the
    table of positions into the invariant and out; nothing owed; no semaphore of the kernel's own. -/
def reg1 : Pipeline.RegionSeg (pcfgs (F := F)) (adm m ρ) (pdats m ρ) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ owns (c : Thread nD τ) tabM1 fullShare (tab1 (V3 m ρ) c))
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) (adm m ρ) (pdats m ρ) winFacts1 arr_whole1 c
      ((pdats m ρ 1 c).share_full fun _ => rfl) (V3 m ρ c) (A_eq1 (V3 m ρ) c)
    rw [Pipeline.unscopedBufs_held, rest1_eq] at hsplit
    rw [prefHeld1_adm]
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = iprop(owns (c : Thread nD τ) tabM1 fullShare (tab1 (V3 m ρ) c) ∗ Pipeline.ΦA spec1 c) from rfl, prefHeld1_adm]; unfold Pipeline.ΦA
    iintro ⟨Hp, HT, Hr⟩
    isplitl [HT]; · iexact HT
    isplitl [Hr]; · iexact Hr
    iexact Hp
  hout c := by
    rw [Pipeline.ownSems0_none, show (pdats m ρ 1 c).Φ (Fin.last _) = iprop(owns (c : Thread nD τ) tabM1 fullShare (tab1 (V3 m ρ) c) ∗ Pipeline.ΦA spec1 c) from rfl]; unfold Pipeline.ΦA
    iintro ⟨HT, Hr, Hp⟩
    isplitl [Hp HT]
    · isplitl [Hp]; · iexact Hp
      iexact HT
    isplitr; · iempintro
    iexact Hr
  hexit c := by
    have hjoin := Pipeline.unscopedBufs_of_arrays (p := 1) (pcfgs (F := F)) (adm m ρ) (Ix := Unit) (Name := ℕ) (U := UR sig nD τ) (Lvl := ℕ)
      winFacts1 arr_whole1 c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held, rest1_eq] at hjoin
    iintro ⟨Ha, HO, ⟨HY, HT⟩, Hrest⟩
    imodintro
    isplitl [Ha HT Hrest HY]
    · isplitl [Ha HT Hrest]
      · iapply hjoin
        isplitl [Ha]; · iexact Ha
        isplitl [HT]; · iexact HT
        iexact Hrest
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main terminates, nothing faulting, and every
    final state has every unscoped buffer at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame claim: the argument arrays end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩, hz⟩) (run m ρ)

end Cert.Kernel.Hand

end
-- ==== Proof.KernelIdealQuant.lean ====
/- What the quantising call does: the blocks its body finds, what its stores leave in each output buffer, and its run at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

/-! # REGION 0 of @main: custom_call 0, `cc0_rms_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x7168 := Rect.unit (s := S128x7168) ![0, 0] S128x7168.size inb_S128x7168_S128x7168_0_0
abbrev r0_1 : Rect S128x7168 := Rect.unit (s := S128x7168) ![0, 0] S128x128.size inb_S128x7168_S128x128_0_0
abbrev r0_2 : Rect S1x7168 := Rect.unit (s := S1x7168) ![0, 0] S1x128.size inb_S1x7168_S1x128_0_0
abbrev r0_3 : Rect S128x7168 := Rect.unit (s := S128x7168) ![0, 128] S128x128.size inb_S128x7168_S128x128_0_128
abbrev r0_4 : Rect S1x7168 := Rect.unit (s := S1x7168) ![0, 128] S1x128.size inb_S1x7168_S1x128_0_128
abbrev r0_5 : Rect S128x7168 := Rect.unit (s := S128x7168) ![0, 256] S128x128.size inb_S128x7168_S128x128_0_256
abbrev r0_6 : Rect S1x7168 := Rect.unit (s := S1x7168) ![0, 256] S1x128.size inb_S1x7168_S1x128_0_256
abbrev r0_7 : Rect S128x7168 := Rect.unit (s := S128x7168) ![0, 384] S128x128.size inb_S128x7168_S128x128_0_384
abbrev r0_8 : Rect S1x7168 := Rect.unit (s := S1x7168) ![0, 384] S1x128.size inb_S1x7168_S1x128_0_384
abbrev r0_9 : Rect S128x7168 := Rect.unit (s := S128x7168) ![0, 512] S128x128.size inb_S128x7168_S128x128_0_512
abbrev r0_10 : Rect S1x7168 := Rect.unit (s := S1x7168) ![0, 512] S1x128.size inb_S1x7168_S1x128_0_512
abbrev r0_11 : Rect S128x7168 := Rect.unit (s := S128x7168) ![0, 640] S128x128.size inb_S128x7168_S128x128_0_640
abbrev r0_12 : Rect S1x7168 := Rect.unit (s := S1x7168) ![0, 640] S1x128.size inb_S1x7168_S1x128_0_640
abbrev r0_13 : Rect S128x7168 := Rect.unit (s := S128x7168) ![0, 768] S128x128.size inb_S128x7168_S128x128_0_768
abbrev r0_14 : Rect S1x7168 := Rect.unit (s := S1x7168) ![0, 768] S1x128.size inb_S1x7168_S1x128_0_768
abbrev r0_15 : Rect S128x7168 := Rect.unit (s := S128x7168) ![0, 896] S128x128.size inb_S128x7168_S128x128_0_896
abbrev r0_16 : Rect S1x7168 := Rect.unit (s := S1x7168) ![0, 896] S1x128.size inb_S1x7168_S1x128_0_896
abbrev r0_17 : Rect S128x7168 := Rect.unit (s := S128x7168) ![0, 1024] S128x128.size inb_S128x7168_S128x128_0_1024
abbrev r0_18 : Rect S1x7168 := Rect.unit (s := S1x7168) ![0, 1024] S1x128.size inb_S1x7168_S1x128_0_1024
abbrev r0_19 : Rect S128x7168 := Rect.unit (s := S128x7168) ![0, 1152] S128x128.size inb_S128x7168_S128x128_0_1152
abbrev r0_20 : Rect S1x7168 := Rect.unit (s := S1x7168) ![0, 1152] S1x128.size inb_S1x7168_S1x128_0_1152
abbrev r0_21 : Rect S128x7168 := Rect.unit (s := S128x7168) ![0, 1280] S128x128.size inb_S128x7168_S128x128_0_1280
abbrev r0_22 : Rect S1x7168 := Rect.unit (s := S1x7168) ![0, 1280] S1x128.size inb_S1x7168_S1x128_0_1280
abbrev r0_23 : Rect S128x7168 := Rect.unit (s := S128x7168) ![0, 1408] S128x128.size inb_S128x7168_S128x128_0_1408
abbrev r0_24 : Rect S1x7168 := Rect.unit (s := S1x7168) ![0, 1408] S1x128.size inb_S1x7168_S1x128_0_1408
abbrev r0_25 : Rect S128x7168 := Rect.unit (s := S128x7168) ![0, 1536] S128x128.size inb_S128x7168_S128x128_0_1536
abbrev r0_26 : Rect S1x7168 := Rect.unit (s := S1x7168) ![0, 1536] S1x128.size inb_S1x7168_S1x128_0_1536
abbrev r0_27 : Rect S128x7168 := Rect.unit (s := S128x7168) ![0, 1664] S128x128.size inb_S128x7168_S128x128_0_1664
abbrev r0_28 : Rect S1x7168 := Rect.unit (s := S1x7168) ![0, 1664] S1x128.size inb_S1x7168_S1x128_0_1664
abbrev r0_29 : Rect S128x7168 := Rect.unit (s := S128x7168) ![0, 1792] S128x128.size inb_S128x7168_S128x128_0_1792
abbrev r0_30 : Rect S1x7168 := Rect.unit (s := S1x7168) ![0, 1792] S1x128.size inb_S1x7168_S1x128_0_1792
abbrev r0_31 : Rect S128x7168 := Rect.unit (s := S128x7168) ![0, 1920] S128x128.size inb_S128x7168_S128x128_0_1920
abbrev r0_32 : Rect S1x7168 := Rect.unit (s := S1x7168) ![0, 1920] S1x128.size inb_S1x7168_S1x128_0_1920
abbrev r0_33 : Rect S128x7168 := Rect.unit (s := S128x7168) ![0, 2048] S128x128.size inb_S128x7168_S128x128_0_2048
abbrev r0_34 : Rect S1x7168 := Rect.unit (s := S1x7168) ![0, 2048] S1x128.size inb_S1x7168_S1x128_0_2048
abbrev r0_35 : Rect S128x7168 := Rect.unit (s := S128x7168) ![0, 2176] S128x128.size inb_S128x7168_S128x128_0_2176
abbrev r0_36 : Rect S1x7168 := Rect.unit (s := S1x7168) ![0, 2176] S1x128.size inb_S1x7168_S1x128_0_2176
abbrev r0_37 : Rect S128x7168 := Rect.unit (s := S128x7168) ![0, 2304] S128x128.size inb_S128x7168_S128x128_0_2304
abbrev r0_38 : Rect S1x7168 := Rect.unit (s := S1x7168) ![0, 2304] S1x128.size inb_S1x7168_S1x128_0_2304
abbrev r0_39 : Rect S128x7168 := Rect.unit (s := S128x7168) ![0, 2432] S128x128.size inb_S128x7168_S128x128_0_2432
abbrev r0_40 : Rect S1x7168 := Rect.unit (s := S1x7168) ![0, 2432] S1x128.size inb_S1x7168_S1x128_0_2432
abbrev r0_41 : Rect S128x7168 := Rect.unit (s := S128x7168) ![0, 2560] S128x128.size inb_S128x7168_S128x128_0_2560
abbrev r0_42 : Rect S1x7168 := Rect.unit (s := S1x7168) ![0, 2560] S1x128.size inb_S1x7168_S1x128_0_2560
abbrev r0_43 : Rect S128x7168 := Rect.unit (s := S128x7168) ![0, 2688] S128x128.size inb_S128x7168_S128x128_0_2688
abbrev r0_44 : Rect S1x7168 := Rect.unit (s := S1x7168) ![0, 2688] S1x128.size inb_S1x7168_S1x128_0_2688
abbrev r0_45 : Rect S128x7168 := Rect.unit (s := S128x7168) ![0, 2816] S128x128.size inb_S128x7168_S128x128_0_2816
abbrev r0_46 : Rect S1x7168 := Rect.unit (s := S1x7168) ![0, 2816] S1x128.size inb_S1x7168_S1x128_0_2816
abbrev r0_47 : Rect S128x7168 := Rect.unit (s := S128x7168) ![0, 2944] S128x128.size inb_S128x7168_S128x128_0_2944
abbrev r0_48 : Rect S1x7168 := Rect.unit (s := S1x7168) ![0, 2944] S1x128.size inb_S1x7168_S1x128_0_2944
abbrev r0_49 : Rect S128x7168 := Rect.unit (s := S128x7168) ![0, 3072] S128x128.size inb_S128x7168_S128x128_0_3072
abbrev r0_50 : Rect S1x7168 := Rect.unit (s := S1x7168) ![0, 3072] S1x128.size inb_S1x7168_S1x128_0_3072
abbrev r0_51 : Rect S128x7168 := Rect.unit (s := S128x7168) ![0, 3200] S128x128.size inb_S128x7168_S128x128_0_3200
abbrev r0_52 : Rect S1x7168 := Rect.unit (s := S1x7168) ![0, 3200] S1x128.size inb_S1x7168_S1x128_0_3200
abbrev r0_53 : Rect S128x7168 := Rect.unit (s := S128x7168) ![0, 3328] S128x128.size inb_S128x7168_S128x128_0_3328
abbrev r0_54 : Rect S1x7168 := Rect.unit (s := S1x7168) ![0, 3328] S1x128.size inb_S1x7168_S1x128_0_3328
abbrev r0_55 : Rect S128x7168 := Rect.unit (s := S128x7168) ![0, 3456] S128x128.size inb_S128x7168_S128x128_0_3456
abbrev r0_56 : Rect S1x7168 := Rect.unit (s := S1x7168) ![0, 3456] S1x128.size inb_S1x7168_S1x128_0_3456
abbrev r0_57 : Rect S128x7168 := Rect.unit (s := S128x7168) ![0, 3584] S128x128.size inb_S128x7168_S128x128_0_3584
abbrev r0_58 : Rect S1x7168 := Rect.unit (s := S1x7168) ![0, 3584] S1x128.size inb_S1x7168_S1x128_0_3584
abbrev r0_59 : Rect S128x7168 := Rect.unit (s := S128x7168) ![0, 3712] S128x128.size inb_S128x7168_S128x128_0_3712
abbrev r0_60 : Rect S1x7168 := Rect.unit (s := S1x7168) ![0, 3712] S1x128.size inb_S1x7168_S1x128_0_3712
abbrev r0_61 : Rect S128x7168 := Rect.unit (s := S128x7168) ![0, 3840] S128x128.size inb_S128x7168_S128x128_0_3840
abbrev r0_62 : Rect S1x7168 := Rect.unit (s := S1x7168) ![0, 3840] S1x128.size inb_S1x7168_S1x128_0_3840
abbrev r0_63 : Rect S128x7168 := Rect.unit (s := S128x7168) ![0, 3968] S128x128.size inb_S128x7168_S128x128_0_3968
abbrev r0_64 : Rect S1x7168 := Rect.unit (s := S1x7168) ![0, 3968] S1x128.size inb_S1x7168_S1x128_0_3968
abbrev r0_65 : Rect S128x7168 := Rect.unit (s := S128x7168) ![0, 4096] S128x128.size inb_S128x7168_S128x128_0_4096
abbrev r0_66 : Rect S1x7168 := Rect.unit (s := S1x7168) ![0, 4096] S1x128.size inb_S1x7168_S1x128_0_4096
abbrev r0_67 : Rect S128x7168 := Rect.unit (s := S128x7168) ![0, 4224] S128x128.size inb_S128x7168_S128x128_0_4224
abbrev r0_68 : Rect S1x7168 := Rect.unit (s := S1x7168) ![0, 4224] S1x128.size inb_S1x7168_S1x128_0_4224
abbrev r0_69 : Rect S128x7168 := Rect.unit (s := S128x7168) ![0, 4352] S128x128.size inb_S128x7168_S128x128_0_4352
abbrev r0_70 : Rect S1x7168 := Rect.unit (s := S1x7168) ![0, 4352] S1x128.size inb_S1x7168_S1x128_0_4352
abbrev r0_71 : Rect S128x7168 := Rect.unit (s := S128x7168) ![0, 4480] S128x128.size inb_S128x7168_S128x128_0_4480
abbrev r0_72 : Rect S1x7168 := Rect.unit (s := S1x7168) ![0, 4480] S1x128.size inb_S1x7168_S1x128_0_4480
abbrev r0_73 : Rect S128x7168 := Rect.unit (s := S128x7168) ![0, 4608] S128x128.size inb_S128x7168_S128x128_0_4608
abbrev r0_74 : Rect S1x7168 := Rect.unit (s := S1x7168) ![0, 4608] S1x128.size inb_S1x7168_S1x128_0_4608
abbrev r0_75 : Rect S128x7168 := Rect.unit (s := S128x7168) ![0, 4736] S128x128.size inb_S128x7168_S128x128_0_4736
abbrev r0_76 : Rect S1x7168 := Rect.unit (s := S1x7168) ![0, 4736] S1x128.size inb_S1x7168_S1x128_0_4736
abbrev r0_77 : Rect S128x7168 := Rect.unit (s := S128x7168) ![0, 4864] S128x128.size inb_S128x7168_S128x128_0_4864
abbrev r0_78 : Rect S1x7168 := Rect.unit (s := S1x7168) ![0, 4864] S1x128.size inb_S1x7168_S1x128_0_4864
abbrev r0_79 : Rect S128x7168 := Rect.unit (s := S128x7168) ![0, 4992] S128x128.size inb_S128x7168_S128x128_0_4992
abbrev r0_80 : Rect S1x7168 := Rect.unit (s := S1x7168) ![0, 4992] S1x128.size inb_S1x7168_S1x128_0_4992
abbrev r0_81 : Rect S128x7168 := Rect.unit (s := S128x7168) ![0, 5120] S128x128.size inb_S128x7168_S128x128_0_5120
abbrev r0_82 : Rect S1x7168 := Rect.unit (s := S1x7168) ![0, 5120] S1x128.size inb_S1x7168_S1x128_0_5120
abbrev r0_83 : Rect S128x7168 := Rect.unit (s := S128x7168) ![0, 5248] S128x128.size inb_S128x7168_S128x128_0_5248
abbrev r0_84 : Rect S1x7168 := Rect.unit (s := S1x7168) ![0, 5248] S1x128.size inb_S1x7168_S1x128_0_5248
abbrev r0_85 : Rect S128x7168 := Rect.unit (s := S128x7168) ![0, 5376] S128x128.size inb_S128x7168_S128x128_0_5376
abbrev r0_86 : Rect S1x7168 := Rect.unit (s := S1x7168) ![0, 5376] S1x128.size inb_S1x7168_S1x128_0_5376
abbrev r0_87 : Rect S128x7168 := Rect.unit (s := S128x7168) ![0, 5504] S128x128.size inb_S128x7168_S128x128_0_5504
abbrev r0_88 : Rect S1x7168 := Rect.unit (s := S1x7168) ![0, 5504] S1x128.size inb_S1x7168_S1x128_0_5504
abbrev r0_89 : Rect S128x7168 := Rect.unit (s := S128x7168) ![0, 5632] S128x128.size inb_S128x7168_S128x128_0_5632
abbrev r0_90 : Rect S1x7168 := Rect.unit (s := S1x7168) ![0, 5632] S1x128.size inb_S1x7168_S1x128_0_5632
abbrev r0_91 : Rect S128x7168 := Rect.unit (s := S128x7168) ![0, 5760] S128x128.size inb_S128x7168_S128x128_0_5760
abbrev r0_92 : Rect S1x7168 := Rect.unit (s := S1x7168) ![0, 5760] S1x128.size inb_S1x7168_S1x128_0_5760
abbrev r0_93 : Rect S128x7168 := Rect.unit (s := S128x7168) ![0, 5888] S128x128.size inb_S128x7168_S128x128_0_5888
abbrev r0_94 : Rect S1x7168 := Rect.unit (s := S1x7168) ![0, 5888] S1x128.size inb_S1x7168_S1x128_0_5888
abbrev r0_95 : Rect S128x7168 := Rect.unit (s := S128x7168) ![0, 6016] S128x128.size inb_S128x7168_S128x128_0_6016
abbrev r0_96 : Rect S1x7168 := Rect.unit (s := S1x7168) ![0, 6016] S1x128.size inb_S1x7168_S1x128_0_6016
abbrev r0_97 : Rect S128x7168 := Rect.unit (s := S128x7168) ![0, 6144] S128x128.size inb_S128x7168_S128x128_0_6144
abbrev r0_98 : Rect S1x7168 := Rect.unit (s := S1x7168) ![0, 6144] S1x128.size inb_S1x7168_S1x128_0_6144
abbrev r0_99 : Rect S128x7168 := Rect.unit (s := S128x7168) ![0, 6272] S128x128.size inb_S128x7168_S128x128_0_6272
abbrev r0_100 : Rect S1x7168 := Rect.unit (s := S1x7168) ![0, 6272] S1x128.size inb_S1x7168_S1x128_0_6272
abbrev r0_101 : Rect S128x7168 := Rect.unit (s := S128x7168) ![0, 6400] S128x128.size inb_S128x7168_S128x128_0_6400
abbrev r0_102 : Rect S1x7168 := Rect.unit (s := S1x7168) ![0, 6400] S1x128.size inb_S1x7168_S1x128_0_6400
abbrev r0_103 : Rect S128x7168 := Rect.unit (s := S128x7168) ![0, 6528] S128x128.size inb_S128x7168_S128x128_0_6528
abbrev r0_104 : Rect S1x7168 := Rect.unit (s := S1x7168) ![0, 6528] S1x128.size inb_S1x7168_S1x128_0_6528
abbrev r0_105 : Rect S128x7168 := Rect.unit (s := S128x7168) ![0, 6656] S128x128.size inb_S128x7168_S128x128_0_6656
abbrev r0_106 : Rect S1x7168 := Rect.unit (s := S1x7168) ![0, 6656] S1x128.size inb_S1x7168_S1x128_0_6656
abbrev r0_107 : Rect S128x7168 := Rect.unit (s := S128x7168) ![0, 6784] S128x128.size inb_S128x7168_S128x128_0_6784
abbrev r0_108 : Rect S1x7168 := Rect.unit (s := S1x7168) ![0, 6784] S1x128.size inb_S1x7168_S1x128_0_6784
abbrev r0_109 : Rect S128x7168 := Rect.unit (s := S128x7168) ![0, 6912] S128x128.size inb_S128x7168_S128x128_0_6912
abbrev r0_110 : Rect S1x7168 := Rect.unit (s := S1x7168) ![0, 6912] S1x128.size inb_S1x7168_S1x128_0_6912
abbrev r0_111 : Rect S128x7168 := Rect.unit (s := S128x7168) ![0, 7040] S128x128.size inb_S128x7168_S128x128_0_7040
abbrev r0_112 : Rect S1x7168 := Rect.unit (s := S1x7168) ![0, 7040] S1x128.size inb_S1x7168_S1x128_0_7040
abbrev r0_113 : Rect S128x56 := Rect.unit (s := S128x56) ![0, 0] S128x56.size inb_S128x56_S128x56_0_0

/-! ## What the body leaves in each output window's buffer -/

/-! ### Values of the body that the stores' payloads, spelt out, would write more than once

    Each is a vector the body binds (often a part call's result), stated over the input windows' blocks and
    numbered on from the skeleton's payload functions (`k0_pay382` …, after `k0_pay381`), so that
    `out0_W` and the values after it name it instead of spelling it out (`unfold_out out0_W` opens a canon
    with them, `unfold_payloads` opens them with the payloads); the comment after each is the printed function's
    name for the value (a count appended where that name is bound again). -/

def k0_pay382 (x0 : Vec F S128x7168 .bf16) (x1 : Vec F S1x7168 .bf16) : FVec F S128x1 .f32 :=
  k0_pay4 (View.ld x0 r0_0) -- `v10`
def k0_pay383 (x0 : Vec F S128x7168 .bf16) (x1 : Vec F S1x7168 .bf16) : FVec F S128x128 .f32 :=
  k0_pay5 (View.ld x0 r0_0) (View.ld x0 r0_1) (View.ld x1 r0_2) -- `v20`
def k0_pay384 (x0 : Vec F S128x7168 .bf16) (x1 : Vec F S1x7168 .bf16) : IVec S128x1 32 :=
  k0_pay6 (View.ld x0 r0_0) (View.ld x0 r0_1) (View.ld x1 r0_2) -- `v37`
def k0_pay385 (x0 : Vec F S128x7168 .bf16) (x1 : Vec F S1x7168 .bf16) : IVec S128x1 32 :=
  k0_pay7 (View.ld x0 r0_0) (View.ld x0 r0_1) (View.ld x1 r0_2) -- `v41`
def k0_pay386 (x0 : Vec F S128x7168 .bf16) (x1 : Vec F S1x7168 .bf16) : FVec F S128x128 .f32 :=
  k0_pay11 (k0_pay382 x0 x1) (View.ld x0 r0_3) (View.ld x1 r0_4) -- `v70`
def k0_pay387 (x0 : Vec F S128x7168 .bf16) (x1 : Vec F S1x7168 .bf16) : IVec S128x1 1 :=
  k0_pay13 (k0_pay382 x0 x1) (View.ld x0 r0_3) (View.ld x1 r0_4) -- `v77`
def k0_pay388 (x0 : Vec F S128x7168 .bf16) (x1 : Vec F S1x7168 .bf16) : IVec S128x1 32 :=
  k0_pay14 (k0_pay382 x0 x1) (View.ld x0 r0_3) (View.ld x1 r0_4) -- `v83`
def k0_pay389 (x0 : Vec F S128x7168 .bf16) (x1 : Vec F S1x7168 .bf16) : FVec F S128x128 .f32 :=
  k0_pay19 (k0_pay382 x0 x1) (View.ld x0 r0_5) (View.ld x1 r0_6) -- `v120`
def k0_pay390 (x0 : Vec F S128x7168 .bf16) (x1 : Vec F S1x7168 .bf16) : FVec F S128x1 .f32 :=
  k0_pay20 (k0_pay382 x0 x1) (View.ld x0 r0_5) (View.ld x1 r0_6) -- `v123`
def k0_pay391 (x0 : Vec F S128x7168 .bf16) (x1 : Vec F S1x7168 .bf16) : FVec F S128x128 .f32 :=
  k0_pay25 (k0_pay382 x0 x1) (View.ld x0 r0_7) -- `v165`
def k0_pay392 (x0 : Vec F S128x7168 .bf16) (x1 : Vec F S1x7168 .bf16) : FVec F S128x1 .f32 :=
  k0_pay35 (k0_pay382 x0 x1) (View.ld x0 r0_9) (View.ld x1 r0_10) -- `v242`
def k0_pay393 (x0 : Vec F S128x7168 .bf16) (x1 : Vec F S1x7168 .bf16) : FVec F S128x128 .f32 :=
  k0_pay36 (k0_pay382 x0 x1) (View.ld x0 r0_9) (View.ld x1 r0_10) -- `v249`
def k0_pay394 (x0 : Vec F S128x7168 .bf16) (x1 : Vec F S1x7168 .bf16) : FVec F S128x128 .f32 :=
  k0_pay39 (k0_pay382 x0 x1) (View.ld x0 r0_11) (View.ld x1 r0_12) -- `v270`
def k0_pay395 (x0 : Vec F S128x7168 .bf16) (x1 : Vec F S1x7168 .bf16) : IVec S128x1 32 :=
  k0_pay40 (k0_pay382 x0 x1) (View.ld x0 r0_11) (View.ld x1 r0_12) -- `v287`
def k0_pay396 (x0 : Vec F S128x7168 .bf16) (x1 : Vec F S1x7168 .bf16) : IVec S128x1 32 :=
  k0_pay41 (k0_pay382 x0 x1) (View.ld x0 r0_11) (View.ld x1 r0_12) -- `v291`
def k0_pay397 (x0 : Vec F S128x7168 .bf16) (x1 : Vec F S1x7168 .bf16) : FVec F S128x128 .f32 :=
  k0_pay45 (k0_pay382 x0 x1) (View.ld x0 r0_13) (View.ld x1 r0_14) -- `v320`
def k0_pay398 (x0 : Vec F S128x7168 .bf16) (x1 : Vec F S1x7168 .bf16) : IVec S128x1 1 :=
  k0_pay47 (k0_pay382 x0 x1) (View.ld x0 r0_13) (View.ld x1 r0_14) -- `v327`
def k0_pay399 (x0 : Vec F S128x7168 .bf16) (x1 : Vec F S1x7168 .bf16) : IVec S128x1 32 :=
  k0_pay48 (k0_pay382 x0 x1) (View.ld x0 r0_13) (View.ld x1 r0_14) -- `v333`
def k0_pay400 (x0 : Vec F S128x7168 .bf16) (x1 : Vec F S1x7168 .bf16) : FVec F S128x128 .f32 :=
  k0_pay53 (k0_pay382 x0 x1) (View.ld x0 r0_15) (View.ld x1 r0_16) -- `v370`
def k0_pay401 (x0 : Vec F S128x7168 .bf16) (x1 : Vec F S1x7168 .bf16) : FVec F S128x1 .f32 :=
  k0_pay54 (k0_pay382 x0 x1) (View.ld x0 r0_15) (View.ld x1 r0_16) -- `v373`
def k0_pay402 (x0 : Vec F S128x7168 .bf16) (x1 : Vec F S1x7168 .bf16) : FVec F S128x128 .f32 :=
  k0_pay59 (k0_pay382 x0 x1) (View.ld x0 r0_17) -- `v415`
def k0_pay403 (x0 : Vec F S128x7168 .bf16) (x1 : Vec F S1x7168 .bf16) : FVec F S128x1 .f32 :=
  k0_pay69 (k0_pay382 x0 x1) (View.ld x0 r0_19) (View.ld x1 r0_20) -- `v492`
def k0_pay404 (x0 : Vec F S128x7168 .bf16) (x1 : Vec F S1x7168 .bf16) : FVec F S128x128 .f32 :=
  k0_pay70 (k0_pay382 x0 x1) (View.ld x0 r0_19) (View.ld x1 r0_20) -- `v499`
def k0_pay405 (x0 : Vec F S128x7168 .bf16) (x1 : Vec F S1x7168 .bf16) : FVec F S128x128 .f32 :=
  k0_pay73 (k0_pay382 x0 x1) (View.ld x0 r0_21) (View.ld x1 r0_22) -- `v520`
def k0_pay406 (x0 : Vec F S128x7168 .bf16) (x1 : Vec F S1x7168 .bf16) : IVec S128x1 32 :=
  k0_pay74 (k0_pay382 x0 x1) (View.ld x0 r0_21) (View.ld x1 r0_22) -- `v537`
def k0_pay407 (x0 : Vec F S128x7168 .bf16) (x1 : Vec F S1x7168 .bf16) : IVec S128x1 32 :=
  k0_pay75 (k0_pay382 x0 x1) (View.ld x0 r0_21) (View.ld x1 r0_22) -- `v541`
def k0_pay408 (x0 : Vec F S128x7168 .bf16) (x1 : Vec F S1x7168 .bf16) : FVec F S128x128 .f32 :=
  k0_pay79 (k0_pay382 x0 x1) (View.ld x0 r0_23) (View.ld x1 r0_24) -- `v570`
def k0_pay409 (x0 : Vec F S128x7168 .bf16) (x1 : Vec F S1x7168 .bf16) : IVec S128x1 1 :=
  k0_pay81 (k0_pay382 x0 x1) (View.ld x0 r0_23) (View.ld x1 r0_24) -- `v577`
def k0_pay410 (x0 : Vec F S128x7168 .bf16) (x1 : Vec F S1x7168 .bf16) : IVec S128x1 32 :=
  k0_pay82 (k0_pay382 x0 x1) (View.ld x0 r0_23) (View.ld x1 r0_24) -- `v583`
def k0_pay411 (x0 : Vec F S128x7168 .bf16) (x1 : Vec F S1x7168 .bf16) : FVec F S128x128 .f32 :=
  k0_pay87 (k0_pay382 x0 x1) (View.ld x0 r0_25) (View.ld x1 r0_26) -- `v620`
def k0_pay412 (x0 : Vec F S128x7168 .bf16) (x1 : Vec F S1x7168 .bf16) : FVec F S128x1 .f32 :=
  k0_pay88 (k0_pay382 x0 x1) (View.ld x0 r0_25) (View.ld x1 r0_26) -- `v623`
def k0_pay413 (x0 : Vec F S128x7168 .bf16) (x1 : Vec F S1x7168 .bf16) : FVec F S128x128 .f32 :=
  k0_pay93 (k0_pay382 x0 x1) (View.ld x0 r0_27) -- `v665`
def k0_pay414 (x0 : Vec F S128x7168 .bf16) (x1 : Vec F S1x7168 .bf16) : FVec F S128x1 .f32 :=
  k0_pay103 (k0_pay382 x0 x1) (View.ld x0 r0_29) (View.ld x1 r0_30) -- `v742`
def k0_pay415 (x0 : Vec F S128x7168 .bf16) (x1 : Vec F S1x7168 .bf16) : FVec F S128x128 .f32 :=
  k0_pay104 (k0_pay382 x0 x1) (View.ld x0 r0_29) (View.ld x1 r0_30) -- `v749`
def k0_pay416 (x0 : Vec F S128x7168 .bf16) (x1 : Vec F S1x7168 .bf16) : FVec F S128x128 .f32 :=
  k0_pay107 (k0_pay382 x0 x1) (View.ld x0 r0_31) (View.ld x1 r0_32) -- `v770`
def k0_pay417 (x0 : Vec F S128x7168 .bf16) (x1 : Vec F S1x7168 .bf16) : IVec S128x1 32 :=
  k0_pay108 (k0_pay382 x0 x1) (View.ld x0 r0_31) (View.ld x1 r0_32) -- `v787`
def k0_pay418 (x0 : Vec F S128x7168 .bf16) (x1 : Vec F S1x7168 .bf16) : IVec S128x1 32 :=
  k0_pay109 (k0_pay382 x0 x1) (View.ld x0 r0_31) (View.ld x1 r0_32) -- `v791`
def k0_pay419 (x0 : Vec F S128x7168 .bf16) (x1 : Vec F S1x7168 .bf16) : FVec F S128x128 .f32 :=
  k0_pay113 (k0_pay382 x0 x1) (View.ld x0 r0_33) (View.ld x1 r0_34) -- `v820`
def k0_pay420 (x0 : Vec F S128x7168 .bf16) (x1 : Vec F S1x7168 .bf16) : IVec S128x1 1 :=
  k0_pay115 (k0_pay382 x0 x1) (View.ld x0 r0_33) (View.ld x1 r0_34) -- `v827`
def k0_pay421 (x0 : Vec F S128x7168 .bf16) (x1 : Vec F S1x7168 .bf16) : IVec S128x1 32 :=
  k0_pay116 (k0_pay382 x0 x1) (View.ld x0 r0_33) (View.ld x1 r0_34) -- `v833`
def k0_pay422 (x0 : Vec F S128x7168 .bf16) (x1 : Vec F S1x7168 .bf16) : FVec F S128x128 .f32 :=
  k0_pay121 (k0_pay382 x0 x1) (View.ld x0 r0_35) (View.ld x1 r0_36) -- `v870`
def k0_pay423 (x0 : Vec F S128x7168 .bf16) (x1 : Vec F S1x7168 .bf16) : FVec F S128x1 .f32 :=
  k0_pay122 (k0_pay382 x0 x1) (View.ld x0 r0_35) (View.ld x1 r0_36) -- `v873`
def k0_pay424 (x0 : Vec F S128x7168 .bf16) (x1 : Vec F S1x7168 .bf16) : FVec F S128x128 .f32 :=
  k0_pay127 (k0_pay382 x0 x1) (View.ld x0 r0_37) -- `v915`
def k0_pay425 (x0 : Vec F S128x7168 .bf16) (x1 : Vec F S1x7168 .bf16) : FVec F S128x1 .f32 :=
  k0_pay137 (k0_pay382 x0 x1) (View.ld x0 r0_39) (View.ld x1 r0_40) -- `v992`
def k0_pay426 (x0 : Vec F S128x7168 .bf16) (x1 : Vec F S1x7168 .bf16) : FVec F S128x128 .f32 :=
  k0_pay138 (k0_pay382 x0 x1) (View.ld x0 r0_39) (View.ld x1 r0_40) -- `v999`
def k0_pay427 (x0 : Vec F S128x7168 .bf16) (x1 : Vec F S1x7168 .bf16) : FVec F S128x128 .f32 :=
  k0_pay141 (k0_pay382 x0 x1) (View.ld x0 r0_41) (View.ld x1 r0_42) -- `v1020`
def k0_pay428 (x0 : Vec F S128x7168 .bf16) (x1 : Vec F S1x7168 .bf16) : IVec S128x1 32 :=
  k0_pay142 (k0_pay382 x0 x1) (View.ld x0 r0_41) (View.ld x1 r0_42) -- `v1037`
def k0_pay429 (x0 : Vec F S128x7168 .bf16) (x1 : Vec F S1x7168 .bf16) : IVec S128x1 32 :=
  k0_pay143 (k0_pay382 x0 x1) (View.ld x0 r0_41) (View.ld x1 r0_42) -- `v1041`
def k0_pay430 (x0 : Vec F S128x7168 .bf16) (x1 : Vec F S1x7168 .bf16) : FVec F S128x128 .f32 :=
  k0_pay147 (k0_pay382 x0 x1) (View.ld x0 r0_43) (View.ld x1 r0_44) -- `v1070`
def k0_pay431 (x0 : Vec F S128x7168 .bf16) (x1 : Vec F S1x7168 .bf16) : IVec S128x1 1 :=
  k0_pay149 (k0_pay382 x0 x1) (View.ld x0 r0_43) (View.ld x1 r0_44) -- `v1077`
def k0_pay432 (x0 : Vec F S128x7168 .bf16) (x1 : Vec F S1x7168 .bf16) : IVec S128x1 32 :=
  k0_pay150 (k0_pay382 x0 x1) (View.ld x0 r0_43) (View.ld x1 r0_44) -- `v1083`
def k0_pay433 (x0 : Vec F S128x7168 .bf16) (x1 : Vec F S1x7168 .bf16) : FVec F S128x128 .f32 :=
  k0_pay155 (k0_pay382 x0 x1) (View.ld x0 r0_45) (View.ld x1 r0_46) -- `v1120`
def k0_pay434 (x0 : Vec F S128x7168 .bf16) (x1 : Vec F S1x7168 .bf16) : FVec F S128x1 .f32 :=
  k0_pay156 (k0_pay382 x0 x1) (View.ld x0 r0_45) (View.ld x1 r0_46) -- `v1123`
def k0_pay435 (x0 : Vec F S128x7168 .bf16) (x1 : Vec F S1x7168 .bf16) : FVec F S128x128 .f32 :=
  k0_pay161 (k0_pay382 x0 x1) (View.ld x0 r0_47) -- `v1165`
def k0_pay436 (x0 : Vec F S128x7168 .bf16) (x1 : Vec F S1x7168 .bf16) : FVec F S128x1 .f32 :=
  k0_pay171 (k0_pay382 x0 x1) (View.ld x0 r0_49) (View.ld x1 r0_50) -- `v1242`
def k0_pay437 (x0 : Vec F S128x7168 .bf16) (x1 : Vec F S1x7168 .bf16) : FVec F S128x128 .f32 :=
  k0_pay172 (k0_pay382 x0 x1) (View.ld x0 r0_49) (View.ld x1 r0_50) -- `v1249`
def k0_pay438 (x0 : Vec F S128x7168 .bf16) (x1 : Vec F S1x7168 .bf16) : FVec F S128x128 .f32 :=
  k0_pay175 (k0_pay382 x0 x1) (View.ld x0 r0_51) (View.ld x1 r0_52) -- `v1270`
def k0_pay439 (x0 : Vec F S128x7168 .bf16) (x1 : Vec F S1x7168 .bf16) : IVec S128x1 32 :=
  k0_pay176 (k0_pay382 x0 x1) (View.ld x0 r0_51) (View.ld x1 r0_52) -- `v1287`
def k0_pay440 (x0 : Vec F S128x7168 .bf16) (x1 : Vec F S1x7168 .bf16) : IVec S128x1 32 :=
  k0_pay177 (k0_pay382 x0 x1) (View.ld x0 r0_51) (View.ld x1 r0_52) -- `v1291`
def k0_pay441 (x0 : Vec F S128x7168 .bf16) (x1 : Vec F S1x7168 .bf16) : FVec F S128x128 .f32 :=
  k0_pay181 (k0_pay382 x0 x1) (View.ld x0 r0_53) (View.ld x1 r0_54) -- `v1320`
def k0_pay442 (x0 : Vec F S128x7168 .bf16) (x1 : Vec F S1x7168 .bf16) : IVec S128x1 1 :=
  k0_pay183 (k0_pay382 x0 x1) (View.ld x0 r0_53) (View.ld x1 r0_54) -- `v1327`
def k0_pay443 (x0 : Vec F S128x7168 .bf16) (x1 : Vec F S1x7168 .bf16) : IVec S128x1 32 :=
  k0_pay184 (k0_pay382 x0 x1) (View.ld x0 r0_53) (View.ld x1 r0_54) -- `v1333`
def k0_pay444 (x0 : Vec F S128x7168 .bf16) (x1 : Vec F S1x7168 .bf16) : FVec F S128x128 .f32 :=
  k0_pay189 (k0_pay382 x0 x1) (View.ld x0 r0_55) (View.ld x1 r0_56) -- `v1370`
def k0_pay445 (x0 : Vec F S128x7168 .bf16) (x1 : Vec F S1x7168 .bf16) : FVec F S128x1 .f32 :=
  k0_pay190 (k0_pay382 x0 x1) (View.ld x0 r0_55) (View.ld x1 r0_56) -- `v1373`
def k0_pay446 (x0 : Vec F S128x7168 .bf16) (x1 : Vec F S1x7168 .bf16) : FVec F S128x128 .f32 :=
  k0_pay195 (k0_pay382 x0 x1) (View.ld x0 r0_57) -- `v1415`
def k0_pay447 (x0 : Vec F S128x7168 .bf16) (x1 : Vec F S1x7168 .bf16) : FVec F S128x1 .f32 :=
  k0_pay205 (k0_pay382 x0 x1) (View.ld x0 r0_59) (View.ld x1 r0_60) -- `v1492`
def k0_pay448 (x0 : Vec F S128x7168 .bf16) (x1 : Vec F S1x7168 .bf16) : FVec F S128x128 .f32 :=
  k0_pay206 (k0_pay382 x0 x1) (View.ld x0 r0_59) (View.ld x1 r0_60) -- `v1499`
def k0_pay449 (x0 : Vec F S128x7168 .bf16) (x1 : Vec F S1x7168 .bf16) : FVec F S128x128 .f32 :=
  k0_pay209 (k0_pay382 x0 x1) (View.ld x0 r0_61) (View.ld x1 r0_62) -- `v1520`
def k0_pay450 (x0 : Vec F S128x7168 .bf16) (x1 : Vec F S1x7168 .bf16) : IVec S128x1 32 :=
  k0_pay210 (k0_pay382 x0 x1) (View.ld x0 r0_61) (View.ld x1 r0_62) -- `v1537`
def k0_pay451 (x0 : Vec F S128x7168 .bf16) (x1 : Vec F S1x7168 .bf16) : IVec S128x1 32 :=
  k0_pay211 (k0_pay382 x0 x1) (View.ld x0 r0_61) (View.ld x1 r0_62) -- `v1541`
def k0_pay452 (x0 : Vec F S128x7168 .bf16) (x1 : Vec F S1x7168 .bf16) : FVec F S128x128 .f32 :=
  k0_pay215 (k0_pay382 x0 x1) (View.ld x0 r0_63) (View.ld x1 r0_64) -- `v1570`
def k0_pay453 (x0 : Vec F S128x7168 .bf16) (x1 : Vec F S1x7168 .bf16) : IVec S128x1 1 :=
  k0_pay217 (k0_pay382 x0 x1) (View.ld x0 r0_63) (View.ld x1 r0_64) -- `v1577`
def k0_pay454 (x0 : Vec F S128x7168 .bf16) (x1 : Vec F S1x7168 .bf16) : IVec S128x1 32 :=
  k0_pay218 (k0_pay382 x0 x1) (View.ld x0 r0_63) (View.ld x1 r0_64) -- `v1583`
def k0_pay455 (x0 : Vec F S128x7168 .bf16) (x1 : Vec F S1x7168 .bf16) : FVec F S128x128 .f32 :=
  k0_pay223 (k0_pay382 x0 x1) (View.ld x0 r0_65) (View.ld x1 r0_66) -- `v1620`
def k0_pay456 (x0 : Vec F S128x7168 .bf16) (x1 : Vec F S1x7168 .bf16) : FVec F S128x1 .f32 :=
  k0_pay224 (k0_pay382 x0 x1) (View.ld x0 r0_65) (View.ld x1 r0_66) -- `v1623`
def k0_pay457 (x0 : Vec F S128x7168 .bf16) (x1 : Vec F S1x7168 .bf16) : FVec F S128x128 .f32 :=
  k0_pay229 (k0_pay382 x0 x1) (View.ld x0 r0_67) -- `v1665`
def k0_pay458 (x0 : Vec F S128x7168 .bf16) (x1 : Vec F S1x7168 .bf16) : FVec F S128x1 .f32 :=
  k0_pay239 (k0_pay382 x0 x1) (View.ld x0 r0_69) (View.ld x1 r0_70) -- `v1742`
def k0_pay459 (x0 : Vec F S128x7168 .bf16) (x1 : Vec F S1x7168 .bf16) : FVec F S128x128 .f32 :=
  k0_pay240 (k0_pay382 x0 x1) (View.ld x0 r0_69) (View.ld x1 r0_70) -- `v1749`
def k0_pay460 (x0 : Vec F S128x7168 .bf16) (x1 : Vec F S1x7168 .bf16) : FVec F S128x128 .f32 :=
  k0_pay243 (k0_pay382 x0 x1) (View.ld x0 r0_71) (View.ld x1 r0_72) -- `v1770`
def k0_pay461 (x0 : Vec F S128x7168 .bf16) (x1 : Vec F S1x7168 .bf16) : IVec S128x1 32 :=
  k0_pay244 (k0_pay382 x0 x1) (View.ld x0 r0_71) (View.ld x1 r0_72) -- `v1787`
def k0_pay462 (x0 : Vec F S128x7168 .bf16) (x1 : Vec F S1x7168 .bf16) : IVec S128x1 32 :=
  k0_pay245 (k0_pay382 x0 x1) (View.ld x0 r0_71) (View.ld x1 r0_72) -- `v1791`
def k0_pay463 (x0 : Vec F S128x7168 .bf16) (x1 : Vec F S1x7168 .bf16) : FVec F S128x128 .f32 :=
  k0_pay249 (k0_pay382 x0 x1) (View.ld x0 r0_73) (View.ld x1 r0_74) -- `v1820`
def k0_pay464 (x0 : Vec F S128x7168 .bf16) (x1 : Vec F S1x7168 .bf16) : IVec S128x1 1 :=
  k0_pay251 (k0_pay382 x0 x1) (View.ld x0 r0_73) (View.ld x1 r0_74) -- `v1827`
def k0_pay465 (x0 : Vec F S128x7168 .bf16) (x1 : Vec F S1x7168 .bf16) : IVec S128x1 32 :=
  k0_pay252 (k0_pay382 x0 x1) (View.ld x0 r0_73) (View.ld x1 r0_74) -- `v1833`
def k0_pay466 (x0 : Vec F S128x7168 .bf16) (x1 : Vec F S1x7168 .bf16) : FVec F S128x128 .f32 :=
  k0_pay257 (k0_pay382 x0 x1) (View.ld x0 r0_75) (View.ld x1 r0_76) -- `v1870`
def k0_pay467 (x0 : Vec F S128x7168 .bf16) (x1 : Vec F S1x7168 .bf16) : FVec F S128x1 .f32 :=
  k0_pay258 (k0_pay382 x0 x1) (View.ld x0 r0_75) (View.ld x1 r0_76) -- `v1873`
def k0_pay468 (x0 : Vec F S128x7168 .bf16) (x1 : Vec F S1x7168 .bf16) : FVec F S128x128 .f32 :=
  k0_pay263 (k0_pay382 x0 x1) (View.ld x0 r0_77) -- `v1915`
def k0_pay469 (x0 : Vec F S128x7168 .bf16) (x1 : Vec F S1x7168 .bf16) : FVec F S128x1 .f32 :=
  k0_pay273 (k0_pay382 x0 x1) (View.ld x0 r0_79) (View.ld x1 r0_80) -- `v1992`
def k0_pay470 (x0 : Vec F S128x7168 .bf16) (x1 : Vec F S1x7168 .bf16) : FVec F S128x128 .f32 :=
  k0_pay274 (k0_pay382 x0 x1) (View.ld x0 r0_79) (View.ld x1 r0_80) -- `v1999`
def k0_pay471 (x0 : Vec F S128x7168 .bf16) (x1 : Vec F S1x7168 .bf16) : FVec F S128x128 .f32 :=
  k0_pay277 (k0_pay382 x0 x1) (View.ld x0 r0_81) (View.ld x1 r0_82) -- `v2020`
def k0_pay472 (x0 : Vec F S128x7168 .bf16) (x1 : Vec F S1x7168 .bf16) : IVec S128x1 32 :=
  k0_pay278 (k0_pay382 x0 x1) (View.ld x0 r0_81) (View.ld x1 r0_82) -- `v2037`
def k0_pay473 (x0 : Vec F S128x7168 .bf16) (x1 : Vec F S1x7168 .bf16) : IVec S128x1 32 :=
  k0_pay279 (k0_pay382 x0 x1) (View.ld x0 r0_81) (View.ld x1 r0_82) -- `v2041`
def k0_pay474 (x0 : Vec F S128x7168 .bf16) (x1 : Vec F S1x7168 .bf16) : FVec F S128x128 .f32 :=
  k0_pay283 (k0_pay382 x0 x1) (View.ld x0 r0_83) (View.ld x1 r0_84) -- `v2070`
def k0_pay475 (x0 : Vec F S128x7168 .bf16) (x1 : Vec F S1x7168 .bf16) : IVec S128x1 1 :=
  k0_pay285 (k0_pay382 x0 x1) (View.ld x0 r0_83) (View.ld x1 r0_84) -- `v2077`
def k0_pay476 (x0 : Vec F S128x7168 .bf16) (x1 : Vec F S1x7168 .bf16) : IVec S128x1 32 :=
  k0_pay286 (k0_pay382 x0 x1) (View.ld x0 r0_83) (View.ld x1 r0_84) -- `v2083`
def k0_pay477 (x0 : Vec F S128x7168 .bf16) (x1 : Vec F S1x7168 .bf16) : FVec F S128x128 .f32 :=
  k0_pay291 (k0_pay382 x0 x1) (View.ld x0 r0_85) (View.ld x1 r0_86) -- `v2120`
def k0_pay478 (x0 : Vec F S128x7168 .bf16) (x1 : Vec F S1x7168 .bf16) : FVec F S128x1 .f32 :=
  k0_pay292 (k0_pay382 x0 x1) (View.ld x0 r0_85) (View.ld x1 r0_86) -- `v2123`
def k0_pay479 (x0 : Vec F S128x7168 .bf16) (x1 : Vec F S1x7168 .bf16) : FVec F S128x128 .f32 :=
  k0_pay297 (k0_pay382 x0 x1) (View.ld x0 r0_87) -- `v2165`
def k0_pay480 (x0 : Vec F S128x7168 .bf16) (x1 : Vec F S1x7168 .bf16) : FVec F S128x1 .f32 :=
  k0_pay307 (k0_pay382 x0 x1) (View.ld x0 r0_89) (View.ld x1 r0_90) -- `v2242`
def k0_pay481 (x0 : Vec F S128x7168 .bf16) (x1 : Vec F S1x7168 .bf16) : FVec F S128x128 .f32 :=
  k0_pay308 (k0_pay382 x0 x1) (View.ld x0 r0_89) (View.ld x1 r0_90) -- `v2249`
def k0_pay482 (x0 : Vec F S128x7168 .bf16) (x1 : Vec F S1x7168 .bf16) : FVec F S128x128 .f32 :=
  k0_pay311 (k0_pay382 x0 x1) (View.ld x0 r0_91) (View.ld x1 r0_92) -- `v2270`
def k0_pay483 (x0 : Vec F S128x7168 .bf16) (x1 : Vec F S1x7168 .bf16) : IVec S128x1 32 :=
  k0_pay312 (k0_pay382 x0 x1) (View.ld x0 r0_91) (View.ld x1 r0_92) -- `v2287`
def k0_pay484 (x0 : Vec F S128x7168 .bf16) (x1 : Vec F S1x7168 .bf16) : IVec S128x1 32 :=
  k0_pay313 (k0_pay382 x0 x1) (View.ld x0 r0_91) (View.ld x1 r0_92) -- `v2291`
def k0_pay485 (x0 : Vec F S128x7168 .bf16) (x1 : Vec F S1x7168 .bf16) : FVec F S128x128 .f32 :=
  k0_pay317 (k0_pay382 x0 x1) (View.ld x0 r0_93) (View.ld x1 r0_94) -- `v2320`
def k0_pay486 (x0 : Vec F S128x7168 .bf16) (x1 : Vec F S1x7168 .bf16) : IVec S128x1 1 :=
  k0_pay319 (k0_pay382 x0 x1) (View.ld x0 r0_93) (View.ld x1 r0_94) -- `v2327`
def k0_pay487 (x0 : Vec F S128x7168 .bf16) (x1 : Vec F S1x7168 .bf16) : IVec S128x1 32 :=
  k0_pay320 (k0_pay382 x0 x1) (View.ld x0 r0_93) (View.ld x1 r0_94) -- `v2333`
def k0_pay488 (x0 : Vec F S128x7168 .bf16) (x1 : Vec F S1x7168 .bf16) : FVec F S128x128 .f32 :=
  k0_pay325 (k0_pay382 x0 x1) (View.ld x0 r0_95) (View.ld x1 r0_96) -- `v2370`
def k0_pay489 (x0 : Vec F S128x7168 .bf16) (x1 : Vec F S1x7168 .bf16) : FVec F S128x1 .f32 :=
  k0_pay326 (k0_pay382 x0 x1) (View.ld x0 r0_95) (View.ld x1 r0_96) -- `v2373`
def k0_pay490 (x0 : Vec F S128x7168 .bf16) (x1 : Vec F S1x7168 .bf16) : FVec F S128x128 .f32 :=
  k0_pay331 (k0_pay382 x0 x1) (View.ld x0 r0_97) -- `v2415`
def k0_pay491 (x0 : Vec F S128x7168 .bf16) (x1 : Vec F S1x7168 .bf16) : FVec F S128x1 .f32 :=
  k0_pay341 (k0_pay382 x0 x1) (View.ld x0 r0_99) (View.ld x1 r0_100) -- `v2492`
def k0_pay492 (x0 : Vec F S128x7168 .bf16) (x1 : Vec F S1x7168 .bf16) : FVec F S128x128 .f32 :=
  k0_pay342 (k0_pay382 x0 x1) (View.ld x0 r0_99) (View.ld x1 r0_100) -- `v2499`
def k0_pay493 (x0 : Vec F S128x7168 .bf16) (x1 : Vec F S1x7168 .bf16) : FVec F S128x128 .f32 :=
  k0_pay345 (k0_pay382 x0 x1) (View.ld x0 r0_101) (View.ld x1 r0_102) -- `v2520`
def k0_pay494 (x0 : Vec F S128x7168 .bf16) (x1 : Vec F S1x7168 .bf16) : IVec S128x1 32 :=
  k0_pay346 (k0_pay382 x0 x1) (View.ld x0 r0_101) (View.ld x1 r0_102) -- `v2537`
def k0_pay495 (x0 : Vec F S128x7168 .bf16) (x1 : Vec F S1x7168 .bf16) : IVec S128x1 32 :=
  k0_pay347 (k0_pay382 x0 x1) (View.ld x0 r0_101) (View.ld x1 r0_102) -- `v2541`
def k0_pay496 (x0 : Vec F S128x7168 .bf16) (x1 : Vec F S1x7168 .bf16) : FVec F S128x128 .f32 :=
  k0_pay351 (k0_pay382 x0 x1) (View.ld x0 r0_103) (View.ld x1 r0_104) -- `v2570`
def k0_pay497 (x0 : Vec F S128x7168 .bf16) (x1 : Vec F S1x7168 .bf16) : IVec S128x1 1 :=
  k0_pay353 (k0_pay382 x0 x1) (View.ld x0 r0_103) (View.ld x1 r0_104) -- `v2577`
def k0_pay498 (x0 : Vec F S128x7168 .bf16) (x1 : Vec F S1x7168 .bf16) : IVec S128x1 32 :=
  k0_pay354 (k0_pay382 x0 x1) (View.ld x0 r0_103) (View.ld x1 r0_104) -- `v2583`
def k0_pay499 (x0 : Vec F S128x7168 .bf16) (x1 : Vec F S1x7168 .bf16) : FVec F S128x128 .f32 :=
  k0_pay359 (k0_pay382 x0 x1) (View.ld x0 r0_105) (View.ld x1 r0_106) -- `v2620`
def k0_pay500 (x0 : Vec F S128x7168 .bf16) (x1 : Vec F S1x7168 .bf16) : FVec F S128x1 .f32 :=
  k0_pay360 (k0_pay382 x0 x1) (View.ld x0 r0_105) (View.ld x1 r0_106) -- `v2623`
def k0_pay501 (x0 : Vec F S128x7168 .bf16) (x1 : Vec F S1x7168 .bf16) : FVec F S128x128 .f32 :=
  k0_pay365 (k0_pay382 x0 x1) (View.ld x0 r0_107) -- `v2665`
def k0_pay502 (x0 : Vec F S128x7168 .bf16) (x1 : Vec F S1x7168 .bf16) : FVec F S128x1 .f32 :=
  k0_pay375 (k0_pay382 x0 x1) (View.ld x0 r0_109) (View.ld x1 r0_110) -- `v2742`
def k0_pay503 (x0 : Vec F S128x7168 .bf16) (x1 : Vec F S1x7168 .bf16) : FVec F S128x128 .f32 :=
  k0_pay376 (k0_pay382 x0 x1) (View.ld x0 r0_109) (View.ld x1 r0_110) -- `v2749`
def k0_pay504 (x0 : Vec F S128x7168 .bf16) (x1 : Vec F S1x7168 .bf16) : FVec F S128x128 .f32 :=
  k0_pay379 (k0_pay382 x0 x1) (View.ld x0 r0_111) (View.ld x1 r0_112) -- `v2770`
def k0_pay505 (x0 : Vec F S128x7168 .bf16) (x1 : Vec F S1x7168 .bf16) : IVec S128x1 32 :=
  k0_pay380 (k0_pay382 x0 x1) (View.ld x0 r0_111) (View.ld x1 r0_112) -- `v2787`
def k0_pay506 (x0 : Vec F S128x7168 .bf16) (x1 : Vec F S1x7168 .bf16) : FVec F S128x1 .f32 :=
  bitcastToFloat .f32 (k0_pay381 (k0_pay382 x0 x1) (View.ld x0 r0_111) (View.ld x1 r0_112)) -- `v2792`

/-- Window 2's staging buffer after the body, from the input windows' blocks: its 56 stores as pieces, LAST
    FIRST (Lib/Pipeline/FrameBody.lean `View.canon`; the payloads are the skeleton's and the values stated above). -/
def out0_2 (x0 : Vec F S128x7168 .bf16) (x1 : Vec F S1x7168 .bf16) : Vec F S128x7168 .fp8e4m3 :=
  View.canon [⟨r0_111, k0_pay1 (k0_pay504 x0 x1) (k0_pay505 x0 x1)⟩,
    ⟨r0_109, k0_pay377 (k0_pay503 x0 x1) (Scalar.ofBits .f32 0xC3E00000#32) (Scalar.ofBits .f32 0x43E00000#32)⟩,
    ⟨r0_107, k0_pay369 (k0_pay501 x0 x1) (View.ld x1 r0_108)⟩,
    ⟨r0_105, k0_pay363 (k0_pay499 x0 x1) (k0_pay500 x0 x1) (Scalar.ofBits .f32 0x3B124925#32)⟩,
    ⟨r0_103, k0_pay357 (k0_pay496 x0 x1) (k0_pay497 x0 x1) (k0_pay498 x0 x1)⟩,
    ⟨r0_101, k0_pay349 (k0_pay493 x0 x1) (k0_pay494 x0 x1)⟩,
    ⟨r0_99, k0_pay343 (k0_pay492 x0 x1) (Scalar.ofBits .f32 0xC3E00000#32) (Scalar.ofBits .f32 0x43E00000#32)⟩,
    ⟨r0_97, k0_pay335 (k0_pay490 x0 x1) (View.ld x1 r0_98)⟩,
    ⟨r0_95, k0_pay329 (k0_pay488 x0 x1) (k0_pay489 x0 x1) (Scalar.ofBits .f32 0x3B124925#32)⟩,
    ⟨r0_93, k0_pay323 (k0_pay485 x0 x1) (k0_pay486 x0 x1) (k0_pay487 x0 x1)⟩,
    ⟨r0_91, k0_pay315 (k0_pay482 x0 x1) (k0_pay483 x0 x1)⟩,
    ⟨r0_89, k0_pay309 (k0_pay481 x0 x1) (Scalar.ofBits .f32 0xC3E00000#32) (Scalar.ofBits .f32 0x43E00000#32)⟩,
    ⟨r0_87, k0_pay301 (k0_pay479 x0 x1) (View.ld x1 r0_88)⟩,
    ⟨r0_85, k0_pay295 (k0_pay477 x0 x1) (k0_pay478 x0 x1) (Scalar.ofBits .f32 0x3B124925#32)⟩,
    ⟨r0_83, k0_pay289 (k0_pay474 x0 x1) (k0_pay475 x0 x1) (k0_pay476 x0 x1)⟩,
    ⟨r0_81, k0_pay281 (k0_pay471 x0 x1) (k0_pay472 x0 x1)⟩,
    ⟨r0_79, k0_pay275 (k0_pay470 x0 x1) (Scalar.ofBits .f32 0xC3E00000#32) (Scalar.ofBits .f32 0x43E00000#32)⟩,
    ⟨r0_77, k0_pay267 (k0_pay468 x0 x1) (View.ld x1 r0_78)⟩,
    ⟨r0_75, k0_pay261 (k0_pay466 x0 x1) (k0_pay467 x0 x1) (Scalar.ofBits .f32 0x3B124925#32)⟩,
    ⟨r0_73, k0_pay255 (k0_pay463 x0 x1) (k0_pay464 x0 x1) (k0_pay465 x0 x1)⟩,
    ⟨r0_71, k0_pay247 (k0_pay460 x0 x1) (k0_pay461 x0 x1)⟩,
    ⟨r0_69, k0_pay241 (k0_pay459 x0 x1) (Scalar.ofBits .f32 0xC3E00000#32) (Scalar.ofBits .f32 0x43E00000#32)⟩,
    ⟨r0_67, k0_pay233 (k0_pay457 x0 x1) (View.ld x1 r0_68)⟩,
    ⟨r0_65, k0_pay227 (k0_pay455 x0 x1) (k0_pay456 x0 x1) (Scalar.ofBits .f32 0x3B124925#32)⟩,
    ⟨r0_63, k0_pay221 (k0_pay452 x0 x1) (k0_pay453 x0 x1) (k0_pay454 x0 x1)⟩,
    ⟨r0_61, k0_pay213 (k0_pay449 x0 x1) (k0_pay450 x0 x1)⟩,
    ⟨r0_59, k0_pay207 (k0_pay448 x0 x1) (Scalar.ofBits .f32 0xC3E00000#32) (Scalar.ofBits .f32 0x43E00000#32)⟩,
    ⟨r0_57, k0_pay199 (k0_pay446 x0 x1) (View.ld x1 r0_58)⟩,
    ⟨r0_55, k0_pay193 (k0_pay444 x0 x1) (k0_pay445 x0 x1) (Scalar.ofBits .f32 0x3B124925#32)⟩,
    ⟨r0_53, k0_pay187 (k0_pay441 x0 x1) (k0_pay442 x0 x1) (k0_pay443 x0 x1)⟩,
    ⟨r0_51, k0_pay179 (k0_pay438 x0 x1) (k0_pay439 x0 x1)⟩,
    ⟨r0_49, k0_pay173 (k0_pay437 x0 x1) (Scalar.ofBits .f32 0xC3E00000#32) (Scalar.ofBits .f32 0x43E00000#32)⟩,
    ⟨r0_47, k0_pay165 (k0_pay435 x0 x1) (View.ld x1 r0_48)⟩,
    ⟨r0_45, k0_pay159 (k0_pay433 x0 x1) (k0_pay434 x0 x1) (Scalar.ofBits .f32 0x3B124925#32)⟩,
    ⟨r0_43, k0_pay153 (k0_pay430 x0 x1) (k0_pay431 x0 x1) (k0_pay432 x0 x1)⟩,
    ⟨r0_41, k0_pay145 (k0_pay427 x0 x1) (k0_pay428 x0 x1)⟩,
    ⟨r0_39, k0_pay139 (k0_pay426 x0 x1) (Scalar.ofBits .f32 0xC3E00000#32) (Scalar.ofBits .f32 0x43E00000#32)⟩,
    ⟨r0_37, k0_pay131 (k0_pay424 x0 x1) (View.ld x1 r0_38)⟩,
    ⟨r0_35, k0_pay125 (k0_pay422 x0 x1) (k0_pay423 x0 x1) (Scalar.ofBits .f32 0x3B124925#32)⟩,
    ⟨r0_33, k0_pay119 (k0_pay419 x0 x1) (k0_pay420 x0 x1) (k0_pay421 x0 x1)⟩,
    ⟨r0_31, k0_pay111 (k0_pay416 x0 x1) (k0_pay417 x0 x1)⟩,
    ⟨r0_29, k0_pay105 (k0_pay415 x0 x1) (Scalar.ofBits .f32 0xC3E00000#32) (Scalar.ofBits .f32 0x43E00000#32)⟩,
    ⟨r0_27, k0_pay97 (k0_pay413 x0 x1) (View.ld x1 r0_28)⟩,
    ⟨r0_25, k0_pay91 (k0_pay411 x0 x1) (k0_pay412 x0 x1) (Scalar.ofBits .f32 0x3B124925#32)⟩,
    ⟨r0_23, k0_pay85 (k0_pay408 x0 x1) (k0_pay409 x0 x1) (k0_pay410 x0 x1)⟩,
    ⟨r0_21, k0_pay77 (k0_pay405 x0 x1) (k0_pay406 x0 x1)⟩,
    ⟨r0_19, k0_pay71 (k0_pay404 x0 x1) (Scalar.ofBits .f32 0xC3E00000#32) (Scalar.ofBits .f32 0x43E00000#32)⟩,
    ⟨r0_17, k0_pay63 (k0_pay402 x0 x1) (View.ld x1 r0_18)⟩,
    ⟨r0_15, k0_pay57 (k0_pay400 x0 x1) (k0_pay401 x0 x1) (Scalar.ofBits .f32 0x3B124925#32)⟩,
    ⟨r0_13, k0_pay51 (k0_pay397 x0 x1) (k0_pay398 x0 x1) (k0_pay399 x0 x1)⟩,
    ⟨r0_11, k0_pay43 (k0_pay394 x0 x1) (k0_pay395 x0 x1)⟩,
    ⟨r0_9, k0_pay37 (k0_pay393 x0 x1) (Scalar.ofBits .f32 0xC3E00000#32) (Scalar.ofBits .f32 0x43E00000#32)⟩,
    ⟨r0_7, k0_pay29 (k0_pay391 x0 x1) (View.ld x1 r0_8)⟩,
    ⟨r0_5, k0_pay23 (k0_pay389 x0 x1) (k0_pay390 x0 x1) (Scalar.ofBits .f32 0x3B124925#32)⟩,
    ⟨r0_3, k0_pay17 (k0_pay386 x0 x1) (k0_pay387 x0 x1) (k0_pay388 x0 x1)⟩,
    ⟨r0_1, k0_pay9 (k0_pay383 x0 x1) (k0_pay384 x0 x1)⟩]

/-- Its stores tile the buffer (checked by evaluation), so they cover it. -/
theorem cover0_2 (p0 : Vec F S128x128 .fp8e4m3) (p1 : Vec F S128x128 .fp8e4m3) (p2 : Vec F S128x128 .fp8e4m3) (p3 : Vec F S128x128 .fp8e4m3) (p4 : Vec F S128x128 .fp8e4m3) (p5 : Vec F S128x128 .fp8e4m3) (p6 : Vec F S128x128 .fp8e4m3) (p7 : Vec F S128x128 .fp8e4m3) (p8 : Vec F S128x128 .fp8e4m3) (p9 : Vec F S128x128 .fp8e4m3) (p10 : Vec F S128x128 .fp8e4m3) (p11 : Vec F S128x128 .fp8e4m3) (p12 : Vec F S128x128 .fp8e4m3) (p13 : Vec F S128x128 .fp8e4m3) (p14 : Vec F S128x128 .fp8e4m3) (p15 : Vec F S128x128 .fp8e4m3) (p16 : Vec F S128x128 .fp8e4m3) (p17 : Vec F S128x128 .fp8e4m3) (p18 : Vec F S128x128 .fp8e4m3) (p19 : Vec F S128x128 .fp8e4m3) (p20 : Vec F S128x128 .fp8e4m3) (p21 : Vec F S128x128 .fp8e4m3) (p22 : Vec F S128x128 .fp8e4m3) (p23 : Vec F S128x128 .fp8e4m3) (p24 : Vec F S128x128 .fp8e4m3) (p25 : Vec F S128x128 .fp8e4m3) (p26 : Vec F S128x128 .fp8e4m3) (p27 : Vec F S128x128 .fp8e4m3) (p28 : Vec F S128x128 .fp8e4m3) (p29 : Vec F S128x128 .fp8e4m3) (p30 : Vec F S128x128 .fp8e4m3) (p31 : Vec F S128x128 .fp8e4m3) (p32 : Vec F S128x128 .fp8e4m3) (p33 : Vec F S128x128 .fp8e4m3) (p34 : Vec F S128x128 .fp8e4m3) (p35 : Vec F S128x128 .fp8e4m3) (p36 : Vec F S128x128 .fp8e4m3) (p37 : Vec F S128x128 .fp8e4m3) (p38 : Vec F S128x128 .fp8e4m3) (p39 : Vec F S128x128 .fp8e4m3) (p40 : Vec F S128x128 .fp8e4m3) (p41 : Vec F S128x128 .fp8e4m3) (p42 : Vec F S128x128 .fp8e4m3) (p43 : Vec F S128x128 .fp8e4m3) (p44 : Vec F S128x128 .fp8e4m3) (p45 : Vec F S128x128 .fp8e4m3) (p46 : Vec F S128x128 .fp8e4m3) (p47 : Vec F S128x128 .fp8e4m3) (p48 : Vec F S128x128 .fp8e4m3) (p49 : Vec F S128x128 .fp8e4m3) (p50 : Vec F S128x128 .fp8e4m3) (p51 : Vec F S128x128 .fp8e4m3) (p52 : Vec F S128x128 .fp8e4m3) (p53 : Vec F S128x128 .fp8e4m3) (p54 : Vec F S128x128 .fp8e4m3) (p55 : Vec F S128x128 .fp8e4m3) (y : S128x7168.Idx) :
    ∃ pc ∈ ([⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] : List (View.Piece (Elt F) S128x7168 .fp8e4m3)), y ∈ pc.1.set :=
  View.cover_of_tiled [⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] S128x128.size (by rfl) y

/-- Window 3's staging buffer after the body, from the input windows' blocks: its 1 store as pieces, LAST
    FIRST (Lib/Pipeline/FrameBody.lean `View.canon`; the payloads are the skeleton's and the values stated above). -/
def out0_3 (x0 : Vec F S128x7168 .bf16) (x1 : Vec F S1x7168 .bf16) : Vec F S128x56 .f32 :=
  View.canon [⟨r0_113, k0_pay3 (k0_pay8 (F := F) (k0_pay385 x0 x1)) (k0_pay16 (F := F) (k0_pay387 x0 x1) (k0_pay388 x0 x1)) (k0_pay22 (k0_pay390 x0 x1) (Scalar.ofBits .f32 0x3B124925#32)) (k0_pay28 (k0_pay391 x0 x1) (View.ld x1 r0_8)) (k0_pay392 x0 x1) (k0_pay42 (F := F) (k0_pay396 x0 x1)) (k0_pay50 (F := F) (k0_pay398 x0 x1) (k0_pay399 x0 x1)) (k0_pay56 (k0_pay401 x0 x1) (Scalar.ofBits .f32 0x3B124925#32)) (k0_pay62 (k0_pay402 x0 x1) (View.ld x1 r0_18)) (k0_pay403 x0 x1) (k0_pay76 (F := F) (k0_pay407 x0 x1)) (k0_pay84 (F := F) (k0_pay409 x0 x1) (k0_pay410 x0 x1)) (k0_pay90 (k0_pay412 x0 x1) (Scalar.ofBits .f32 0x3B124925#32)) (k0_pay96 (k0_pay413 x0 x1) (View.ld x1 r0_28)) (k0_pay414 x0 x1) (k0_pay110 (F := F) (k0_pay418 x0 x1)) (k0_pay118 (F := F) (k0_pay420 x0 x1) (k0_pay421 x0 x1)) (k0_pay124 (k0_pay423 x0 x1) (Scalar.ofBits .f32 0x3B124925#32)) (k0_pay130 (k0_pay424 x0 x1) (View.ld x1 r0_38)) (k0_pay425 x0 x1) (k0_pay144 (F := F) (k0_pay429 x0 x1)) (k0_pay152 (F := F) (k0_pay431 x0 x1) (k0_pay432 x0 x1)) (k0_pay158 (k0_pay434 x0 x1) (Scalar.ofBits .f32 0x3B124925#32)) (k0_pay164 (k0_pay435 x0 x1) (View.ld x1 r0_48)) (k0_pay436 x0 x1) (k0_pay178 (F := F) (k0_pay440 x0 x1)) (k0_pay186 (F := F) (k0_pay442 x0 x1) (k0_pay443 x0 x1)) (k0_pay192 (k0_pay445 x0 x1) (Scalar.ofBits .f32 0x3B124925#32)) (k0_pay198 (k0_pay446 x0 x1) (View.ld x1 r0_58)) (k0_pay447 x0 x1) (k0_pay212 (F := F) (k0_pay451 x0 x1)) (k0_pay220 (F := F) (k0_pay453 x0 x1) (k0_pay454 x0 x1)) (k0_pay226 (k0_pay456 x0 x1) (Scalar.ofBits .f32 0x3B124925#32)) (k0_pay232 (k0_pay457 x0 x1) (View.ld x1 r0_68)) (k0_pay458 x0 x1) (k0_pay246 (F := F) (k0_pay462 x0 x1)) (k0_pay254 (F := F) (k0_pay464 x0 x1) (k0_pay465 x0 x1)) (k0_pay260 (k0_pay467 x0 x1) (Scalar.ofBits .f32 0x3B124925#32)) (k0_pay266 (k0_pay468 x0 x1) (View.ld x1 r0_78)) (k0_pay469 x0 x1) (k0_pay280 (F := F) (k0_pay473 x0 x1)) (k0_pay288 (F := F) (k0_pay475 x0 x1) (k0_pay476 x0 x1)) (k0_pay294 (k0_pay478 x0 x1) (Scalar.ofBits .f32 0x3B124925#32)) (k0_pay300 (k0_pay479 x0 x1) (View.ld x1 r0_88)) (k0_pay480 x0 x1) (k0_pay314 (F := F) (k0_pay484 x0 x1)) (k0_pay322 (F := F) (k0_pay486 x0 x1) (k0_pay487 x0 x1)) (k0_pay328 (k0_pay489 x0 x1) (Scalar.ofBits .f32 0x3B124925#32)) (k0_pay334 (k0_pay490 x0 x1) (View.ld x1 r0_98)) (k0_pay491 x0 x1) (k0_pay348 (F := F) (k0_pay495 x0 x1)) (k0_pay356 (F := F) (k0_pay497 x0 x1) (k0_pay498 x0 x1)) (k0_pay362 (k0_pay500 x0 x1) (Scalar.ofBits .f32 0x3B124925#32)) (k0_pay368 (k0_pay501 x0 x1) (View.ld x1 r0_108)) (k0_pay502 x0 x1) (k0_pay506 x0 x1)⟩]

/-- Its stores tile the buffer (checked by evaluation), so they cover it. -/
theorem cover0_3 (p0 : Vec F S128x56 .f32) (y : S128x56.Idx) :
    ∃ pc ∈ ([⟨r0_113, p0⟩] : List (View.Piece (Elt F) S128x56 .f32)), y ∈ pc.1.set :=
  View.cover_of_tiled [⟨r0_113, p0⟩] S128x56.size (by rfl) y

/-- Window 4's staging buffer after the body, from the input windows' blocks: its 56 stores as pieces, LAST
    FIRST (Lib/Pipeline/FrameBody.lean `View.canon`; the payloads are the skeleton's and the values stated above). -/
def out0_4 (x0 : Vec F S128x7168 .bf16) (x1 : Vec F S1x7168 .bf16) : Vec F S128x7168 .bf16 :=
  View.canon [⟨r0_111, k0_pay2 (k0_pay504 x0 x1) (k0_pay505 x0 x1) (k0_pay506 x0 x1)⟩,
    ⟨r0_109, k0_pay378 (k0_pay502 x0 x1) (k0_pay503 x0 x1) (Scalar.ofBits .f32 0xC3E00000#32) (Scalar.ofBits .f32 0x43E00000#32)⟩,
    ⟨r0_107, k0_pay372 (k0_pay370 (k0_pay501 x0 x1) (View.ld x1 r0_108)) (k0_pay371 (k0_pay501 x0 x1) (View.ld x1 r0_108))⟩,
    ⟨r0_105, k0_pay364 (k0_pay499 x0 x1) (k0_pay500 x0 x1) (Scalar.ofBits .f32 0x3B124925#32)⟩,
    ⟨r0_103, k0_pay358 (k0_pay496 x0 x1) (k0_pay497 x0 x1) (k0_pay498 x0 x1)⟩,
    ⟨r0_101, k0_pay350 (k0_pay493 x0 x1) (k0_pay494 x0 x1) (k0_pay495 x0 x1)⟩,
    ⟨r0_99, k0_pay344 (k0_pay491 x0 x1) (k0_pay492 x0 x1) (Scalar.ofBits .f32 0xC3E00000#32) (Scalar.ofBits .f32 0x43E00000#32)⟩,
    ⟨r0_97, k0_pay338 (k0_pay336 (k0_pay490 x0 x1) (View.ld x1 r0_98)) (k0_pay337 (k0_pay490 x0 x1) (View.ld x1 r0_98))⟩,
    ⟨r0_95, k0_pay330 (k0_pay488 x0 x1) (k0_pay489 x0 x1) (Scalar.ofBits .f32 0x3B124925#32)⟩,
    ⟨r0_93, k0_pay324 (k0_pay485 x0 x1) (k0_pay486 x0 x1) (k0_pay487 x0 x1)⟩,
    ⟨r0_91, k0_pay316 (k0_pay482 x0 x1) (k0_pay483 x0 x1) (k0_pay484 x0 x1)⟩,
    ⟨r0_89, k0_pay310 (k0_pay480 x0 x1) (k0_pay481 x0 x1) (Scalar.ofBits .f32 0xC3E00000#32) (Scalar.ofBits .f32 0x43E00000#32)⟩,
    ⟨r0_87, k0_pay304 (k0_pay302 (k0_pay479 x0 x1) (View.ld x1 r0_88)) (k0_pay303 (k0_pay479 x0 x1) (View.ld x1 r0_88))⟩,
    ⟨r0_85, k0_pay296 (k0_pay477 x0 x1) (k0_pay478 x0 x1) (Scalar.ofBits .f32 0x3B124925#32)⟩,
    ⟨r0_83, k0_pay290 (k0_pay474 x0 x1) (k0_pay475 x0 x1) (k0_pay476 x0 x1)⟩,
    ⟨r0_81, k0_pay282 (k0_pay471 x0 x1) (k0_pay472 x0 x1) (k0_pay473 x0 x1)⟩,
    ⟨r0_79, k0_pay276 (k0_pay469 x0 x1) (k0_pay470 x0 x1) (Scalar.ofBits .f32 0xC3E00000#32) (Scalar.ofBits .f32 0x43E00000#32)⟩,
    ⟨r0_77, k0_pay270 (k0_pay268 (k0_pay468 x0 x1) (View.ld x1 r0_78)) (k0_pay269 (k0_pay468 x0 x1) (View.ld x1 r0_78))⟩,
    ⟨r0_75, k0_pay262 (k0_pay466 x0 x1) (k0_pay467 x0 x1) (Scalar.ofBits .f32 0x3B124925#32)⟩,
    ⟨r0_73, k0_pay256 (k0_pay463 x0 x1) (k0_pay464 x0 x1) (k0_pay465 x0 x1)⟩,
    ⟨r0_71, k0_pay248 (k0_pay460 x0 x1) (k0_pay461 x0 x1) (k0_pay462 x0 x1)⟩,
    ⟨r0_69, k0_pay242 (k0_pay458 x0 x1) (k0_pay459 x0 x1) (Scalar.ofBits .f32 0xC3E00000#32) (Scalar.ofBits .f32 0x43E00000#32)⟩,
    ⟨r0_67, k0_pay236 (k0_pay234 (k0_pay457 x0 x1) (View.ld x1 r0_68)) (k0_pay235 (k0_pay457 x0 x1) (View.ld x1 r0_68))⟩,
    ⟨r0_65, k0_pay228 (k0_pay455 x0 x1) (k0_pay456 x0 x1) (Scalar.ofBits .f32 0x3B124925#32)⟩,
    ⟨r0_63, k0_pay222 (k0_pay452 x0 x1) (k0_pay453 x0 x1) (k0_pay454 x0 x1)⟩,
    ⟨r0_61, k0_pay214 (k0_pay449 x0 x1) (k0_pay450 x0 x1) (k0_pay451 x0 x1)⟩,
    ⟨r0_59, k0_pay208 (k0_pay447 x0 x1) (k0_pay448 x0 x1) (Scalar.ofBits .f32 0xC3E00000#32) (Scalar.ofBits .f32 0x43E00000#32)⟩,
    ⟨r0_57, k0_pay202 (k0_pay200 (k0_pay446 x0 x1) (View.ld x1 r0_58)) (k0_pay201 (k0_pay446 x0 x1) (View.ld x1 r0_58))⟩,
    ⟨r0_55, k0_pay194 (k0_pay444 x0 x1) (k0_pay445 x0 x1) (Scalar.ofBits .f32 0x3B124925#32)⟩,
    ⟨r0_53, k0_pay188 (k0_pay441 x0 x1) (k0_pay442 x0 x1) (k0_pay443 x0 x1)⟩,
    ⟨r0_51, k0_pay180 (k0_pay438 x0 x1) (k0_pay439 x0 x1) (k0_pay440 x0 x1)⟩,
    ⟨r0_49, k0_pay174 (k0_pay436 x0 x1) (k0_pay437 x0 x1) (Scalar.ofBits .f32 0xC3E00000#32) (Scalar.ofBits .f32 0x43E00000#32)⟩,
    ⟨r0_47, k0_pay168 (k0_pay166 (k0_pay435 x0 x1) (View.ld x1 r0_48)) (k0_pay167 (k0_pay435 x0 x1) (View.ld x1 r0_48))⟩,
    ⟨r0_45, k0_pay160 (k0_pay433 x0 x1) (k0_pay434 x0 x1) (Scalar.ofBits .f32 0x3B124925#32)⟩,
    ⟨r0_43, k0_pay154 (k0_pay430 x0 x1) (k0_pay431 x0 x1) (k0_pay432 x0 x1)⟩,
    ⟨r0_41, k0_pay146 (k0_pay427 x0 x1) (k0_pay428 x0 x1) (k0_pay429 x0 x1)⟩,
    ⟨r0_39, k0_pay140 (k0_pay425 x0 x1) (k0_pay426 x0 x1) (Scalar.ofBits .f32 0xC3E00000#32) (Scalar.ofBits .f32 0x43E00000#32)⟩,
    ⟨r0_37, k0_pay134 (k0_pay132 (k0_pay424 x0 x1) (View.ld x1 r0_38)) (k0_pay133 (k0_pay424 x0 x1) (View.ld x1 r0_38))⟩,
    ⟨r0_35, k0_pay126 (k0_pay422 x0 x1) (k0_pay423 x0 x1) (Scalar.ofBits .f32 0x3B124925#32)⟩,
    ⟨r0_33, k0_pay120 (k0_pay419 x0 x1) (k0_pay420 x0 x1) (k0_pay421 x0 x1)⟩,
    ⟨r0_31, k0_pay112 (k0_pay416 x0 x1) (k0_pay417 x0 x1) (k0_pay418 x0 x1)⟩,
    ⟨r0_29, k0_pay106 (k0_pay414 x0 x1) (k0_pay415 x0 x1) (Scalar.ofBits .f32 0xC3E00000#32) (Scalar.ofBits .f32 0x43E00000#32)⟩,
    ⟨r0_27, k0_pay100 (k0_pay98 (k0_pay413 x0 x1) (View.ld x1 r0_28)) (k0_pay99 (k0_pay413 x0 x1) (View.ld x1 r0_28))⟩,
    ⟨r0_25, k0_pay92 (k0_pay411 x0 x1) (k0_pay412 x0 x1) (Scalar.ofBits .f32 0x3B124925#32)⟩,
    ⟨r0_23, k0_pay86 (k0_pay408 x0 x1) (k0_pay409 x0 x1) (k0_pay410 x0 x1)⟩,
    ⟨r0_21, k0_pay78 (k0_pay405 x0 x1) (k0_pay406 x0 x1) (k0_pay407 x0 x1)⟩,
    ⟨r0_19, k0_pay72 (k0_pay403 x0 x1) (k0_pay404 x0 x1) (Scalar.ofBits .f32 0xC3E00000#32) (Scalar.ofBits .f32 0x43E00000#32)⟩,
    ⟨r0_17, k0_pay66 (k0_pay64 (k0_pay402 x0 x1) (View.ld x1 r0_18)) (k0_pay65 (k0_pay402 x0 x1) (View.ld x1 r0_18))⟩,
    ⟨r0_15, k0_pay58 (k0_pay400 x0 x1) (k0_pay401 x0 x1) (Scalar.ofBits .f32 0x3B124925#32)⟩,
    ⟨r0_13, k0_pay52 (k0_pay397 x0 x1) (k0_pay398 x0 x1) (k0_pay399 x0 x1)⟩,
    ⟨r0_11, k0_pay44 (k0_pay394 x0 x1) (k0_pay395 x0 x1) (k0_pay396 x0 x1)⟩,
    ⟨r0_9, k0_pay38 (k0_pay392 x0 x1) (k0_pay393 x0 x1) (Scalar.ofBits .f32 0xC3E00000#32) (Scalar.ofBits .f32 0x43E00000#32)⟩,
    ⟨r0_7, k0_pay32 (k0_pay30 (k0_pay391 x0 x1) (View.ld x1 r0_8)) (k0_pay31 (k0_pay391 x0 x1) (View.ld x1 r0_8))⟩,
    ⟨r0_5, k0_pay24 (k0_pay389 x0 x1) (k0_pay390 x0 x1) (Scalar.ofBits .f32 0x3B124925#32)⟩,
    ⟨r0_3, k0_pay18 (k0_pay386 x0 x1) (k0_pay387 x0 x1) (k0_pay388 x0 x1)⟩,
    ⟨r0_1, k0_pay10 (k0_pay383 x0 x1) (k0_pay384 x0 x1) (k0_pay385 x0 x1)⟩]

/-- Its stores tile the buffer (checked by evaluation), so they cover it. -/
theorem cover0_4 (p0 : Vec F S128x128 .bf16) (p1 : Vec F S128x128 .bf16) (p2 : Vec F S128x128 .bf16) (p3 : Vec F S128x128 .bf16) (p4 : Vec F S128x128 .bf16) (p5 : Vec F S128x128 .bf16) (p6 : Vec F S128x128 .bf16) (p7 : Vec F S128x128 .bf16) (p8 : Vec F S128x128 .bf16) (p9 : Vec F S128x128 .bf16) (p10 : Vec F S128x128 .bf16) (p11 : Vec F S128x128 .bf16) (p12 : Vec F S128x128 .bf16) (p13 : Vec F S128x128 .bf16) (p14 : Vec F S128x128 .bf16) (p15 : Vec F S128x128 .bf16) (p16 : Vec F S128x128 .bf16) (p17 : Vec F S128x128 .bf16) (p18 : Vec F S128x128 .bf16) (p19 : Vec F S128x128 .bf16) (p20 : Vec F S128x128 .bf16) (p21 : Vec F S128x128 .bf16) (p22 : Vec F S128x128 .bf16) (p23 : Vec F S128x128 .bf16) (p24 : Vec F S128x128 .bf16) (p25 : Vec F S128x128 .bf16) (p26 : Vec F S128x128 .bf16) (p27 : Vec F S128x128 .bf16) (p28 : Vec F S128x128 .bf16) (p29 : Vec F S128x128 .bf16) (p30 : Vec F S128x128 .bf16) (p31 : Vec F S128x128 .bf16) (p32 : Vec F S128x128 .bf16) (p33 : Vec F S128x128 .bf16) (p34 : Vec F S128x128 .bf16) (p35 : Vec F S128x128 .bf16) (p36 : Vec F S128x128 .bf16) (p37 : Vec F S128x128 .bf16) (p38 : Vec F S128x128 .bf16) (p39 : Vec F S128x128 .bf16) (p40 : Vec F S128x128 .bf16) (p41 : Vec F S128x128 .bf16) (p42 : Vec F S128x128 .bf16) (p43 : Vec F S128x128 .bf16) (p44 : Vec F S128x128 .bf16) (p45 : Vec F S128x128 .bf16) (p46 : Vec F S128x128 .bf16) (p47 : Vec F S128x128 .bf16) (p48 : Vec F S128x128 .bf16) (p49 : Vec F S128x128 .bf16) (p50 : Vec F S128x128 .bf16) (p51 : Vec F S128x128 .bf16) (p52 : Vec F S128x128 .bf16) (p53 : Vec F S128x128 .bf16) (p54 : Vec F S128x128 .bf16) (p55 : Vec F S128x128 .bf16) (y : S128x7168.Idx) :
    ∃ pc ∈ ([⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] : List (View.Piece (Elt F) S128x7168 .bf16)), y ∈ pc.1.set :=
  View.cover_of_tiled [⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] S128x128.size (by rfl) y

/-! ## The body's triple -/

set_option maxHeartbeats 2272000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x7168 .bf16) (harg1 : arg1.IsWhole) (arg2 : Memref sig .tc .vmem S1x7168 .bf16) (harg2 : arg2.IsWhole) (arg3 : Memref sig .tc .vmem S128x7168 .fp8e4m3) (harg3 : arg3.IsWhole) (arg4 : Memref sig .tc .vmem S128x56 .f32) (harg4 : arg4.IsWhole) (arg5 : Memref sig .tc .vmem S128x7168 .bf16) (harg5 : arg5.IsWhole)
    (x0 : Vec F S128x7168 .bf16) (x1 : Vec F S1x7168 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_rms_quant i arg1 harg1 arg2 harg2 arg3 harg3 arg4 harg4 arg5 harg5) K := by
  simp only [cc0_rms_quant_eq_skeleton]; unfold cc0_rms_quant_skel
  simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.KernelIdealBlocks.lean ====
/- The projection call: the blocks its body finds, its three branch conditions in closed form, and where its output windows are idle. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.PureOps.Ideal
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

/-! # REGION 1 of @main: custom_call 1, `cc1_qkv_rope` (pipeline 1), at the entry contents `V` — class R -/

/-! ## The call's configuration

The call has a prefetched table, the positions, which no index map reads: its pipeline is the same one whatever the table
holds (`cfg1_at`), and is stated here once, at a table of zeros. -/

/-- A table of zeros. -/
abbrev zeros1 : (pcfg1 (F := Ideal)).Adm :=
  ⟨fun | 0 => fun _ => (0#32 : BitVec 32) | ⟨_ + 1, h⟩ => absurd h (Nat.not_lt.2 (Nat.le_add_left _ _)), trivial⟩
/-- The configuration, and its windows in operand order. -/
abbrev cfg1 : Pipeline.Cfg sig Λ₀ := pcfg1.at zeros1
abbrev win1 : Fin 7 → Pipeline.Window sig grid1 := cfg1.win
abbrev win1_0 : Pipeline.Window sig grid1 := cfg1.win 0
abbrev win1_1 : Pipeline.Window sig grid1 := cfg1.win 1
abbrev win1_2 : Pipeline.Window sig grid1 := cfg1.win 2
abbrev win1_3 : Pipeline.Window sig grid1 := cfg1.win 3
abbrev win1_4 : Pipeline.Window sig grid1 := cfg1.win 4
abbrev win1_5 : Pipeline.Window sig grid1 := cfg1.win 5
abbrev win1_6 : Pipeline.Window sig grid1 := cfg1.win 6

/-- The printed configuration is this one at any contents of the table. -/
theorem cfg1_at (a : (pcfg1 (F := F)).Adm) : pcfg1.at a = cfg1 := rfl

/-- The kernel body at point `t`, on what the pipeline calls it with (`defs₀`'s row at the slots). -/
abbrev bodyAt1 (t : Fin cfg1.N) : Prog (TpuEff nD τ sig (Elt F) Λ₀ .tc) PUnit :=
  cc1_qkv_rope (grid1.coords t) (Memref.whole main_v23) (Memref.isWhole_whole _) (spec1_0.stage (cfg1.slots t 0)) (hstage1_0 ((cfg1.slots t 0).cast nbuf1_0)) (spec1_1.stage (cfg1.slots t 1)) (hstage1_1 ((cfg1.slots t 1).cast nbuf1_1)) (spec1_2.stage (cfg1.slots t 2)) (hstage1_2 ((cfg1.slots t 2).cast nbuf1_2)) (spec1_3.stage (cfg1.slots t 3)) (hstage1_3 ((cfg1.slots t 3).cast nbuf1_3)) (spec1_4.stage (cfg1.slots t 4)) (hstage1_4 ((cfg1.slots t 4).cast nbuf1_4)) (spec1_5.stage (cfg1.slots t 5)) (hstage1_5 ((cfg1.slots t 5).cast nbuf1_5)) (spec1_6.stage (cfg1.slots t 6)) (hstage1_6 ((cfg1.slots t 6).cast nbuf1_6)) (Memref.whole cc1_scratch0) (Memref.isWhole_whole _)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points whose coordinates have i1 ≤ 3 — decided over the grid. -/
theorem hcond1_0 : ∀ t : Fin cfg1.N, cond1_0 (grid1.coords t) ↔ t.val % 12 ≤ 3 :=
  (by decide +kernel : ∀ t : Fin grid1.N, cond1_0 (grid1.coords t) ↔ t.val % 12 ≤ 3)

/-- The condition of the body's `scf.if` 1 (`k1_h2`), from the grid coordinates (the skeleton's scalar
    chain substituted). -/
abbrev cond1_1 (i : grid1.Coords) : Prop := k1_cond2 i = 1#1
/-- It holds at the points whose coordinates have 4 ≤ i1 and i1 ≤ 7 — decided over the grid. -/
theorem hcond1_1 : ∀ t : Fin cfg1.N, cond1_1 (grid1.coords t) ↔ (4 ≤ t.val % 12 ∧ t.val % 12 ≤ 7) :=
  (by decide +kernel : ∀ t : Fin grid1.N, cond1_1 (grid1.coords t) ↔ (4 ≤ t.val % 12 ∧ t.val % 12 ≤ 7))

/-- The condition of the body's `scf.if` 2 (`k1_h3`), from the grid coordinates (the skeleton's scalar
    chain substituted). -/
abbrev cond1_2 (i : grid1.Coords) : Prop := k1_cond3 i = 1#1
/-- It holds at the points whose coordinates have 8 ≤ i1 — decided over the grid. -/
theorem hcond1_2 : ∀ t : Fin cfg1.N, cond1_2 (grid1.coords t) ↔ 8 ≤ t.val % 12 :=
  (by decide +kernel : ∀ t : Fin grid1.N, cond1_2 (grid1.coords t) ↔ 8 ≤ t.val % 12)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- At the points of case A the printed configuration (`Cfg.idle`) calls output 4 live: the case stores into it. -/
theorem liveAt1_4_A : ∀ t : Fin cfg1.N, cond1_0 (grid1.coords t) → ¬cond1_1 (grid1.coords t) → ¬cond1_2 (grid1.coords t) → cfg1.idle 4 (grid1.coords t) = false := by decide +kernel
/-- At the points of case B the printed configuration (`Cfg.idle`) calls output 4 idle: the case stores nothing into it. -/
theorem idleAt1_4_B : ∀ t : Fin cfg1.N, ¬cond1_0 (grid1.coords t) → cond1_1 (grid1.coords t) → ¬cond1_2 (grid1.coords t) → cfg1.idle 4 (grid1.coords t) = true := by decide +kernel
/-- At the points of case B the pipeline does not write output 4's block back. -/
theorem noFlush1_4_B : ∀ t : Fin cfg1.N, ¬cond1_0 (grid1.coords t) → cond1_1 (grid1.coords t) → ¬cond1_2 (grid1.coords t) → (cfg1.win 4).flush t = false := by decide +kernel
/-- At the points of case C the printed configuration (`Cfg.idle`) calls output 4 idle: the case stores nothing into it. -/
theorem idleAt1_4_C : ∀ t : Fin cfg1.N, ¬cond1_0 (grid1.coords t) → ¬cond1_1 (grid1.coords t) → cond1_2 (grid1.coords t) → cfg1.idle 4 (grid1.coords t) = true := by decide +kernel
/-- At the points of case A the printed configuration (`Cfg.idle`) calls output 5 idle: the case stores nothing into it. -/
theorem idleAt1_5_A : ∀ t : Fin cfg1.N, cond1_0 (grid1.coords t) → ¬cond1_1 (grid1.coords t) → ¬cond1_2 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → ¬cond1_2 (grid1.coords t) → (cfg1.win 5).flush t = false := by decide +kernel
/-- At the points of case B the printed configuration (`Cfg.idle`) calls output 5 live: the case stores into it. -/
theorem liveAt1_5_B : ∀ t : Fin cfg1.N, ¬cond1_0 (grid1.coords t) → cond1_1 (grid1.coords t) → ¬cond1_2 (grid1.coords t) → cfg1.idle 5 (grid1.coords t) = false := by decide +kernel
/-- At the points of case C the printed configuration (`Cfg.idle`) calls output 5 idle: the case stores nothing into it. -/
theorem idleAt1_5_C : ∀ t : Fin cfg1.N, ¬cond1_0 (grid1.coords t) → ¬cond1_1 (grid1.coords t) → cond1_2 (grid1.coords t) → cfg1.idle 5 (grid1.coords t) = true := by decide +kernel
/-- At the points of case A the printed configuration (`Cfg.idle`) calls output 6 idle: the case stores nothing into it. -/
theorem idleAt1_6_A : ∀ t : Fin cfg1.N, cond1_0 (grid1.coords t) → ¬cond1_1 (grid1.coords t) → ¬cond1_2 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → ¬cond1_2 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → cond1_1 (grid1.coords t) → ¬cond1_2 (grid1.coords t) → cfg1.idle 6 (grid1.coords t) = true := by decide +kernel
/-- At the points of case B the pipeline does not write output 6's block back. -/
theorem noFlush1_6_B : ∀ t : Fin cfg1.N, ¬cond1_0 (grid1.coords t) → cond1_1 (grid1.coords t) → ¬cond1_2 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → ¬cond1_1 (grid1.coords t) → cond1_2 (grid1.coords t) → cfg1.idle 6 (grid1.coords t) = false := by decide +kernel

/-! ## The kernel body on any staging memrefs: a subtype the run finds -/

/-- One staging buffer of output window 4, through which its contents are stated (`View.read_writes_of_cover`: the
    choice does not matter). -/
abbrev VO1_4 : View sig .tc .vmem S768x512 .bf16 := (Memref.whole cc1_stg4_0 : Memref sig .tc .vmem S768x512 .bf16).view
/-- One staging buffer of output window 5, through which its contents are stated (`View.read_writes_of_cover`: the
    choice does not matter). -/
abbrev VO1_5 : View sig .tc .vmem S768x512 .bf16 := (Memref.whole cc1_stg5_0 : Memref sig .tc .vmem S768x512 .bf16).view
/-- One staging buffer of output window 6, through which its contents are stated (`View.read_writes_of_cover`: the
    choice does not matter). -/
abbrev VO1_6 : View sig .tc .vmem S768x512 .bf16 := (Memref.whole cc1_stg6_0 : Memref sig .tc .vmem S768x512 .bf16).view
/-- Each window's current staging memref at point `t`, spelled as the pipeline passes it (`bodyAt1`), and its wholeness. -/
abbrev ms1_0 (t : Fin cfg1.N) : Memref sig .tc .smem S48x56 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x7168 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x7168 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S768x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S768x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x512 .bf16 := win1_6.stage (cfg1.slots t 6)
abbrev hs1_6 (t : Fin cfg1.N) : (ms1_6 t).IsWhole := hstage1_6 ((cfg1.slots t 6).cast nbuf1_6)
/-- The table of positions, passed whole beside the windows, and what it holds when the region is entered. -/
abbrev tabM1 : Memref sig .tc .smem S8 .i32 := Memref.whole main_v23
def tab1 (c : Dev nD) : Vec F S8 .i32 := V c main_v23
/-- The scratch operands: whole scoped buffers of the kernel's own, passed beside the windows. -/
abbrev scM1_0 : Memref sig .tc .vmem S512x7168 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Regions

end Cert.KernelIdeal.Hand

end
-- ==== Proof.KernelIdealRunA.lean ====
/- The projection body at the points whose columns are query heads. -/
module

public import proofs.«01_k».proof.Proof.KernelIdealBlocks

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 7916000 in
/-- What the body's stores leave in each output's staging memref, as pieces (last first) IN CASE A (`scf.if` 0 taken, `scf.if` 1 not taken, `scf.if` 2 not taken: points 0, 1, … 87: 32 of 96), WITH the
    proof that on whole staging memrefs — the inputs' at their contents, the outputs it leaves idle (5, 6: no store, the window idle and not written back at the case's points) at contents `xi·` handed back untouched, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) :
    Σ' (L4 : List (View.Piece (Elt F) S768x512 .bf16)), Σ' (L5 : List (View.Piece (Elt F) S768x512 .bf16)), Σ' (L6 : List (View.Piece (Elt F) S768x512 .bf16)), { LT0 : List (View.Piece (Elt F) S512x7168 .bf16) //
      ∀ (xi5 : Vec F S768x512 .bf16) (xi6 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi5 ∗ owns (c : Thread nD τ) arg9 fullShare xi6 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L4) ∗ owns (c : Thread nD τ) arg8 fullShare xi5 ∗ owns (c : Thread nD τ) arg9 fullShare xi6 ∗ (∃ d, owns (c : Thread nD τ) arg10 fullShare d)) -∗ K ⟨⟩))
          ⊢ wp frame (wpE (defs₀ (F := F)) Variants.none c none) E (cc1_qkv_rope i arg2 harg2 arg3 harg3 arg4 harg4 arg5 harg5 arg6 harg6 arg7 harg7 arg8 harg8 arg9 harg9 arg10 harg10) K } := by
  refine ⟨?_, [], [], [], fun xi5 xi6 E K => ?run⟩
  case run =>
    simp only [cc1_qkv_rope_eq_skeleton]; unfold cc1_qkv_rope_skel
    simp only [k1_part78_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    iexists _, _; isplitr; swap; · iexact HS0
    ipureintro; rfl

/-- Case A's pieces for output 4 tile its block (4 stores of `S768x128`, checked by the kernel's evaluation: Lib/Ring.lean `Piece.tiledL`, linear in the pieces, through a loop's `@[irreducible]` trip theorem too), so they cover it. -/
theorem cover1_A_4 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) (y : S768x512.Idx) :
    ∃ pc ∈ (kernelRun1_A c i arg2 harg2 arg3 harg3 arg4 harg4 arg5 harg5 arg6 harg6 arg7 harg7 arg8 harg8 arg9 harg9 arg10 harg10 hc0 hc1 hc2 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 hc2 x0 x1 x2 x3 x4).1 S768x128.size (by sl_kernel_rfl) y

/-- What case A leaves in output 4's staging buffer: its pieces read back over junk. -/
def out1_A_4 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_4.read (Elt F) (VO1_4.writes (Elt F) VO1_4.junk (kernelRun1_A c i arg2 harg2 arg3 harg3 arg4 harg4 arg5 harg5 arg6 harg6 arg7 harg7 arg8 harg8 arg9 harg9 arg10 harg10 hc0 hc1 hc2 x0 x1 x2 x3 x4).1)

/-- Case A stores nothing into output 5 (the window is idle at its points and not written back there):
    no pieces — a placeholder (junk read back) that nothing consults, since at these points the window is neither
    written back nor read at the next point (Lib/Pipeline.lean "Idle points"). -/
def out1_A_5 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 hc2 x0 x1 x2 x3 x4).2.1)

/-- Case A stores nothing into output 6 (the window is idle at its points and not written back there):
    no pieces — a placeholder (junk read back) that nothing consults, since at these points the window is neither
    written back nor read at the next point (Lib/Pipeline.lean "Idle points"). -/
def out1_A_6 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : cond1_0 i) (hc1 : ¬cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 hc2 x0 x1 x2 x3 x4).2.2.1)

end Regions

end Cert.KernelIdeal.Hand

end
-- ==== Proof.KernelIdealRunB.lean ====
/- The projection body at the points whose columns are key heads. -/
module

public import proofs.«01_k».proof.Proof.KernelIdealBlocks

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 7916000 in
/-- What the body's stores leave in each output's staging memref, as pieces (last first) IN CASE B (`scf.if` 0 not taken, `scf.if` 1 taken, `scf.if` 2 not taken: points 4, 5, … 91: 32 of 96), WITH the
    proof that on whole staging memrefs — the inputs' at their contents, the outputs it leaves idle (4, 6: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) :
    Σ' (L4 : List (View.Piece (Elt F) S768x512 .bf16)), Σ' (L5 : List (View.Piece (Elt F) S768x512 .bf16)), Σ' (L6 : List (View.Piece (Elt F) S768x512 .bf16)), { LT0 : List (View.Piece (Elt F) S512x7168 .bf16) //
      ∀ (xi4 : Vec F S768x512 .bf16) (xi6 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi4 ∗ (∃ d, owns (c : Thread nD τ) arg8 fullShare d) ∗ owns (c : Thread nD τ) arg9 fullShare xi6 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LT0)) -∗ K ⟨⟩))
          ⊢ wp frame (wpE (defs₀ (F := F)) Variants.none c none) E (cc1_qkv_rope i arg2 harg2 arg3 harg3 arg4 harg4 arg5 harg5 arg6 harg6 arg7 harg7 arg8 harg8 arg9 harg9 arg10 harg10) K } := by
  refine ⟨[], ?_, [], ?_, fun xi4 xi6 E K => ?run⟩
  case run =>
    simp only [cc1_qkv_rope_eq_skeleton]; unfold cc1_qkv_rope_skel
    simp only [k1_part78_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

/-- Case B stores nothing into output 4 (the window is idle at its points and not written back there):
    no pieces — a placeholder (junk read back) that nothing consults, since at these points the window is neither
    written back nor read at the next point (Lib/Pipeline.lean "Idle points"). -/
def out1_B_4 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_4.read (Elt F) (VO1_4.writes (Elt F) VO1_4.junk (kernelRun1_B c i arg2 harg2 arg3 harg3 arg4 harg4 arg5 harg5 arg6 harg6 arg7 harg7 arg8 harg8 arg9 harg9 arg10 harg10 hc0 hc1 hc2 x0 x1 x2 x3 x4).1)

/-- Case B's pieces for output 5 tile its block (4 stores of `S768x128`, checked by the kernel's evaluation: Lib/Ring.lean `Piece.tiledL`, linear in the pieces, through a loop's `@[irreducible]` trip theorem too), so they cover it. -/
theorem cover1_B_5 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) (y : S768x512.Idx) :
    ∃ pc ∈ (kernelRun1_B c i arg2 harg2 arg3 harg3 arg4 harg4 arg5 harg5 arg6 harg6 arg7 harg7 arg8 harg8 arg9 harg9 arg10 harg10 hc0 hc1 hc2 x0 x1 x2 x3 x4).2.1, y ∈ pc.1.set :=
  View.cover_of_tiledL (kernelRun1_B c i arg2 harg2 arg3 harg3 arg4 harg4 arg5 harg5 arg6 harg6 arg7 harg7 arg8 harg8 arg9 harg9 arg10 harg10 hc0 hc1 hc2 x0 x1 x2 x3 x4).2.1 S768x128.size (by sl_kernel_rfl) y

/-- What case B leaves in output 5's staging buffer: its pieces read back over junk. -/
def out1_B_5 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 hc2 x0 x1 x2 x3 x4).2.1)

/-- Case B stores nothing into output 6 (the window is idle at its points and not written back there):
    no pieces — a placeholder (junk read back) that nothing consults, since at these points the window is neither
    written back nor read at the next point (Lib/Pipeline.lean "Idle points"). -/
def out1_B_6 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : cond1_1 i) (hc2 : ¬cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 hc2 x0 x1 x2 x3 x4).2.2.1)

end Regions

end Cert.KernelIdeal.Hand

end
-- ==== Proof.KernelIdealRunC.lean ====
/- The projection body at the points whose columns are value heads. -/
module

public import proofs.«01_k».proof.Proof.KernelIdealBlocks

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 7872000 in
/-- What the body's stores leave in each output's staging memref, as pieces (last first) IN CASE C (`scf.if` 0 not taken, `scf.if` 1 not taken, `scf.if` 2 taken: points 8, 9, … 95: 32 of 96), WITH the
    proof that on whole staging memrefs — the inputs' at their contents, the outputs it leaves idle (4, 5: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) :
    Σ' (L4 : List (View.Piece (Elt F) S768x512 .bf16)), Σ' (L5 : List (View.Piece (Elt F) S768x512 .bf16)), Σ' (L6 : List (View.Piece (Elt F) S768x512 .bf16)), { LT0 : List (View.Piece (Elt F) S512x7168 .bf16) //
      ∀ (xi4 : Vec F S768x512 .bf16) (xi5 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi4 ∗ owns (c : Thread nD τ) arg8 fullShare xi5 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LT0)) -∗ K ⟨⟩))
          ⊢ wp frame (wpE (defs₀ (F := F)) Variants.none c none) E (cc1_qkv_rope i arg2 harg2 arg3 harg3 arg4 harg4 arg5 harg5 arg6 harg6 arg7 harg7 arg8 harg8 arg9 harg9 arg10 harg10) K } := by
  refine ⟨[], [], ?_, ?_, fun xi4 xi5 E K => ?run⟩
  case run =>
    simp only [cc1_qkv_rope_eq_skeleton]; unfold cc1_qkv_rope_skel
    simp only [k1_part78_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

/-- Case C stores nothing into output 4 (the window is idle at its points and not written back there):
    no pieces — a placeholder (junk read back) that nothing consults, since at these points the window is neither
    written back nor read at the next point (Lib/Pipeline.lean "Idle points"). -/
def out1_C_4 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_4.read (Elt F) (VO1_4.writes (Elt F) VO1_4.junk (kernelRun1_C c i arg2 harg2 arg3 harg3 arg4 harg4 arg5 harg5 arg6 harg6 arg7 harg7 arg8 harg8 arg9 harg9 arg10 harg10 hc0 hc1 hc2 x0 x1 x2 x3 x4).1)

/-- Case C stores nothing into output 5 (the window is idle at its points and not written back there):
    no pieces — a placeholder (junk read back) that nothing consults, since at these points the window is neither
    written back nor read at the next point (Lib/Pipeline.lean "Idle points"). -/
def out1_C_5 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 hc2 x0 x1 x2 x3 x4).2.1)

/-- Case C's pieces for output 6 tile its block (1 store of `S768x512`, checked by the kernel's evaluation: Lib/Ring.lean `Piece.tiledL`, linear in the pieces, through a loop's `@[irreducible]` trip theorem too), so they cover it. -/
theorem cover1_C_6 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) (y : S768x512.Idx) :
    ∃ pc ∈ (kernelRun1_C c i arg2 harg2 arg3 harg3 arg4 harg4 arg5 harg5 arg6 harg6 arg7 harg7 arg8 harg8 arg9 harg9 arg10 harg10 hc0 hc1 hc2 x0 x1 x2 x3 x4).2.2.1, y ∈ pc.1.set :=
  View.cover_of_tiledL (kernelRun1_C c i arg2 harg2 arg3 harg3 arg4 harg4 arg5 harg5 arg6 harg6 arg7 harg7 arg8 harg8 arg9 harg9 arg10 harg10 hc0 hc1 hc2 x0 x1 x2 x3 x4).2.2.1 S768x512.size (by sl_kernel_rfl) y

/-- What case C leaves in output 6's staging buffer: its pieces read back over junk. -/
def out1_C_6 (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole) (hc0 : ¬cond1_0 i) (hc1 : ¬cond1_1 i) (hc2 : cond1_2 i)
    (x0 : Vec F S8 .i32) (x1 : Vec F S48x56 .f32) (x2 : Vec F S768x7168 .bf16) (x3 : Vec F S512x7168 .fp8e4m3) (x4 : Vec F S1x128 .f32) : Vec F S768x512 .bf16 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 hc2 x0 x1 x2 x3 x4).2.2.1)

end Regions

end Cert.KernelIdeal.Hand

end
-- ==== Proof.KernelIdealProj.lean ====
/- The projection call: what each of its output buffers holds after every grid point, and its run at every point. -/
module

public import proofs.«01_k».proof.Proof.KernelIdealRunA
public import proofs.«01_k».proof.Proof.KernelIdealRunB
public import proofs.«01_k».proof.Proof.KernelIdealRunC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when the region is entered
variable (V : (c : Dev nD) → (b : Ref sig .tc) → Buf (Elt F) ((c : Thread nD τ).loc b))

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S768x512 .bf16 × Vec F S768x512 .bf16 × Vec F S768x512 .bf16
  | 0, hn => (out1_A_4 c (grid1.coords ⟨0, hn⟩) tabM1 (Memref.isWhole_whole _) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (by (try dsimp only) <;> omega)) (fun h => (fun h => by (try dsimp only at h); omega) ((hcond1_1 ⟨0, hn⟩).mp h)) (fun h => (fun h => by (try dsimp only at h); omega) ((hcond1_2 ⟨0, hn⟩).mp h)) (tab1 V c) (iblk1 V c 0 ⟨0, hn⟩) (iblk1 V c 1 ⟨0, hn⟩) (iblk1 V c 2 ⟨0, hn⟩) (iblk1 V c 3 ⟨0, hn⟩), out1_A_5 c (grid1.coords ⟨0, hn⟩) tabM1 (Memref.isWhole_whole _) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (by (try dsimp only) <;> omega)) (fun h => (fun h => by (try dsimp only at h); omega) ((hcond1_1 ⟨0, hn⟩).mp h)) (fun h => (fun h => by (try dsimp only at h); omega) ((hcond1_2 ⟨0, hn⟩).mp h)) (tab1 V c) (iblk1 V c 0 ⟨0, hn⟩) (iblk1 V c 1 ⟨0, hn⟩) (iblk1 V c 2 ⟨0, hn⟩) (iblk1 V c 3 ⟨0, hn⟩), out1_A_6 c (grid1.coords ⟨0, hn⟩) tabM1 (Memref.isWhole_whole _) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (by (try dsimp only) <;> omega)) (fun h => (fun h => by (try dsimp only at h); omega) ((hcond1_1 ⟨0, hn⟩).mp h)) (fun h => (fun h => by (try dsimp only at h); omega) ((hcond1_2 ⟨0, hn⟩).mp h)) (tab1 V c) (iblk1 V c 0 ⟨0, hn⟩) (iblk1 V c 1 ⟨0, hn⟩) (iblk1 V c 2 ⟨0, hn⟩) (iblk1 V c 3 ⟨0, hn⟩))
  | n + 1, hn =>
    if h0 : (n + 1) % 12 ≤ 3 then
      if h1 : (4 ≤ (n + 1) % 12 ∧ (n + 1) % 12 ≤ 7) then
        False.elim (by have hN : n + 1 < 96 := lt_of_lt_of_eq hn (show cfg1.N = 96 from N_1); omega)
      else
        if h2 : 8 ≤ (n + 1) % 12 then
          False.elim (by have hN : n + 1 < 96 := lt_of_lt_of_eq hn (show cfg1.N = 96 from N_1); omega)
        else
          (out1_A_4 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩))
    else
      if h1 : (4 ≤ (n + 1) % 12 ∧ (n + 1) % 12 ≤ 7) then
        if h2 : 8 ≤ (n + 1) % 12 then
          False.elim (by have hN : n + 1 < 96 := lt_of_lt_of_eq hn (show cfg1.N = 96 from N_1); omega)
        else
          (out1_B_4 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩), out1_B_5 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩), out1_B_6 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (tab1 V c) (iblk1 V c 0 ⟨n + 1, hn⟩) (iblk1 V c 1 ⟨n + 1, hn⟩) (iblk1 V c 2 ⟨n + 1, hn⟩) (iblk1 V c 3 ⟨n + 1, hn⟩))
      else
        if h2 : 8 ≤ (n + 1) % 12 then
          (out1_C_4 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (tab1 V c) (iblk1 V c 0 ⟨n + 1, hn⟩) (iblk1 V c 1 ⟨n + 1, hn⟩) (iblk1 V c 2 ⟨n + 1, hn⟩) (iblk1 V c 3 ⟨n + 1, hn⟩), out1_C_5 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (tab1 V c) (iblk1 V c 0 ⟨n + 1, hn⟩) (iblk1 V c 1 ⟨n + 1, hn⟩) (iblk1 V c 2 ⟨n + 1, hn⟩) (iblk1 V c 3 ⟨n + 1, hn⟩), out1_C_6 c (grid1.coords ⟨n + 1, hn⟩) tabM1 (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (tab1 V c) (iblk1 V c 0 ⟨n + 1, hn⟩) (iblk1 V c 1 ⟨n + 1, hn⟩) (iblk1 V c 2 ⟨n + 1, hn⟩) (iblk1 V c 3 ⟨n + 1, hn⟩))
        else
          False.elim (by have hN : n + 1 < 96 := lt_of_lt_of_eq hn (show cfg1.N = 96 from N_1); omega)

/-- `outsAt1` at a point of case A: that case's contents. -/
theorem outsAt1_A (c : Dev nD) (t : Fin cfg1.N) (h0 : t.val % 12 ≤ 3) (h1 : ¬(4 ≤ t.val % 12 ∧ t.val % 12 ≤ 7)) (h2 : ¬8 ≤ t.val % 12) :
    outsAt1 V c t.val t.isLt = (out1_A_4 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (fun h => h2 ((hcond1_2 t).mp h)) (tab1 V c) (iblk1 V c 0 t) (iblk1 V c 1 t) (iblk1 V c 2 t) (iblk1 V c 3 t), out1_A_5 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (fun h => h2 ((hcond1_2 t).mp h)) (tab1 V c) (iblk1 V c 0 t) (iblk1 V c 1 t) (iblk1 V c 2 t) (iblk1 V c 3 t), out1_A_6 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (fun h => h2 ((hcond1_2 t).mp h)) (tab1 V c) (iblk1 V c 0 t) (iblk1 V c 1 t) (iblk1 V c 2 t) (iblk1 V c 3 t)) := by
  obtain ⟨n, hn⟩ := t
  cases n with
  | zero => exact rfl
  | succ n => exact (dif_pos h0).trans ((dif_neg h1).trans ((dif_neg h2).trans rfl))

/-- `outsAt1` at a point of case B: that case's contents. -/
theorem outsAt1_B (c : Dev nD) (t : Fin cfg1.N) (h0 : ¬t.val % 12 ≤ 3) (h1 : (4 ≤ t.val % 12 ∧ t.val % 12 ≤ 7)) (h2 : ¬8 ≤ t.val % 12) :
    outsAt1 V c t.val t.isLt = (out1_B_4 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (fun h => h2 ((hcond1_2 t).mp h)) (tab1 V c) (iblk1 V c 0 t) (iblk1 V c 1 t) (iblk1 V c 2 t) (iblk1 V c 3 t), out1_B_5 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (fun h => h2 ((hcond1_2 t).mp h)) (tab1 V c) (iblk1 V c 0 t) (iblk1 V c 1 t) (iblk1 V c 2 t) (iblk1 V c 3 t), out1_B_6 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (fun h => h2 ((hcond1_2 t).mp h)) (tab1 V c) (iblk1 V c 0 t) (iblk1 V c 1 t) (iblk1 V c 2 t) (iblk1 V c 3 t)) := by
  obtain ⟨n, hn⟩ := t
  cases n with
  | zero => exact (by exfalso; (try dsimp only at h0); exact by omega)
  | succ n => exact (dif_neg h0).trans ((dif_pos h1).trans ((dif_neg h2).trans rfl))

/-- `outsAt1` at a point of case C: that case's contents. -/
theorem outsAt1_C (c : Dev nD) (t : Fin cfg1.N) (h0 : ¬t.val % 12 ≤ 3) (h1 : ¬(4 ≤ t.val % 12 ∧ t.val % 12 ≤ 7)) (h2 : 8 ≤ t.val % 12) :
    outsAt1 V c t.val t.isLt = (out1_C_4 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) ((hcond1_2 t).mpr h2) (tab1 V c) (iblk1 V c 0 t) (iblk1 V c 1 t) (iblk1 V c 2 t) (iblk1 V c 3 t), out1_C_5 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) ((hcond1_2 t).mpr h2) (tab1 V c) (iblk1 V c 0 t) (iblk1 V c 1 t) (iblk1 V c 2 t) (iblk1 V c 3 t), out1_C_6 c (grid1.coords t) tabM1 (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) ((hcond1_2 t).mpr h2) (tab1 V c) (iblk1 V c 0 t) (iblk1 V c 1 t) (iblk1 V c 2 t) (iblk1 V c 3 t)) := by
  obtain ⟨n, hn⟩ := t
  cases n with
  | zero => exact (by exfalso; (try dsimp only at h0); exact by omega)
  | succ n => exact (dif_neg h0).trans ((dif_neg h1).trans ((dif_pos h2).trans rfl))

/-! ## The pipeline's proof data -/

/-- The point of `t`'s row of the grid whose stores window 4's buffer holds after point `t`: `t` itself at the
    query columns, and after them the last query column, 3. -/
def sel4 (t : Fin cfg1.N) : Fin cfg1.N := ⟨t.val - (t.val % 12 - 3), lt_of_le_of_lt (Nat.sub_le _ _) t.isLt⟩

/-- The same for window 5, whose last key column is 7. -/
def sel5 (t : Fin cfg1.N) : Fin cfg1.N := ⟨t.val - (t.val % 12 - 7), lt_of_le_of_lt (Nat.sub_le _ _) t.isLt⟩

/-- The proof data of pipeline 1 on core `c`: the arrays as the region finds them (`V`); after the body at
    point `t` each input's buffer at its block and the outputs' at `outsAt1`, of the last point that stored into
    the buffer (`sel4`, `sel5`: the queries' and the keys' last blocks are written back at points that store nothing); the invariant the class's
    (Lib/Pipeline/Frame.lean `ΦA`: the scoped rest and the generator register) beside the table of positions, held whole; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c (sel4 t).val (sel4 t).isLt).1
    | ⟨5, _⟩ => (outsAt1 V c (sel5 t).val (sel5 t).isLt).2.1
    | ⟨6, _⟩ => (outsAt1 V c t.val t.isLt).2.2
  Φ _ := iprop(owns (c : Thread nD τ) tabM1 fullShare (tab1 V c) ∗ Pipeline.ΦA spec1 c)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c (sel4 t).val (sel4 t).isLt).1 := by dsimp only [dat1]
theorem after1_5 (c : Dev nD) (t : Fin cfg1.N) : (dat1 V c).after 5 t = (outsAt1 V c (sel5 t).val (sel5 t).isLt).2.1 := by dsimp only [dat1]
theorem after1_6 (c : Dev nD) (t : Fin cfg1.N) : (dat1 V c).after 6 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The contents the queries' and the keys' windows keep past their columns -/

/-- At a query column window 4 is left at what that point stores. -/
theorem after1_4_live (c : Dev nD) (t : Fin cfg1.N) (h : t.val % 12 ≤ 3) :
    (dat1 V c).after 4 t = (outsAt1 V c t.val t.isLt).1 := by
  have e : sel4 t = t := Fin.ext (by unfold sel4; dsimp only; omega)
  rw [after1_4, e]

/-- At a key column window 5 is left at what that point stores. -/
theorem after1_5_live (c : Dev nD) (t : Fin cfg1.N) (h : t.val % 12 ≤ 7) :
    (dat1 V c).after 5 t = (outsAt1 V c t.val t.isLt).2.1 := by
  have e : sel5 t = t := Fin.ext (by unfold sel5; dsimp only; omega)
  rw [after1_5, e]

/-- What a live point leaves in an uncut window's buffer is what the body left. -/
theorem left_live {Λ₀ : Idealize.SL.Sem.Labels} {cfg : Pipeline.Cfg sig Λ₀} {c : Dev nD} (dat : Dat τ (Elt F) Unit ℕ (UR sig nD τ) ℕ cfg c) (w : Fin cfg.W)
    (t : Fin cfg.N) (hi : cfg.idle w (cfg.grid.coords t) = false)
    (hclip : ∀ (i : cfg.grid.Coords) a, (cfg.win w).clip i a = none) (d) : dat.left w t d = dat.after w t := by
  unfold Dat.left; rw [hi]; dsimp only; unfold Dat.kept
  rw [Pipeline.fill_of_clip_none _ _ (hclip _) d (dat.after w _), Window.fill_cut]

/-- What an idle point leaves is what it found. -/
theorem left_idle {Λ₀ : Idealize.SL.Sem.Labels} {cfg : Pipeline.Cfg sig Λ₀} {c : Dev nD} (dat : Dat τ (Elt F) Unit ℕ (UR sig nD τ) ℕ cfg c) (w : Fin cfg.W)
    (t : Fin cfg.N) (hi : cfg.idle w (cfg.grid.coords t) = true) (d) : dat.left w t d = dat.before w t d := by
  unfold Dat.left; rw [hi]

/-- Window 4 is stored into at the query columns only, -/
theorem idle4 : ∀ t : Fin cfg1.N, cfg1.idle 4 (grid1.coords t) = decide (4 ≤ t.val % 12) := by decide +kernel
/-- and not written back between column 3 and column 11. -/
theorem noFlush4 : ∀ t : Fin cfg1.N, 3 ≤ t.val % 12 → t.val % 12 ≤ 10 → (cfg1.win 4).flush t = false := by decide +kernel
/-- Window 5 is stored into at the key columns only, -/
theorem idle5 : ∀ t : Fin cfg1.N, cfg1.idle 5 (grid1.coords t) = decide (t.val % 12 ≤ 3 ∨ 8 ≤ t.val % 12) := by decide +kernel
/-- and not written back between column 7 and column 11. -/
theorem noFlush5 : ∀ t : Fin cfg1.N, 7 ≤ t.val % 12 → t.val % 12 ≤ 10 → (cfg1.win 5).flush t = false := by decide +kernel

/-- Past the query columns window 4's buffer still holds what column 3 stored. -/
theorem before1_4_idle (c : Dev nD) (n : ℕ) : ∀ (t : Fin cfg1.N), t.val = n → 4 ≤ t.val % 12 → ∀ d,
    (dat1 V c).before 4 t d = (dat1 V c).after 4 t := by
  induction n with
  | zero => intro t h h4; omega
  | succ n ih =>
    intro t h h4 d
    have hN : t.val < 96 := lt_of_lt_of_eq t.isLt (show cfg1.N = 96 from N_1)
    have e : sel4 ⟨t.val - 1, Nat.lt_of_le_of_lt (Nat.sub_le _ _) t.isLt⟩ = sel4 t :=
      Fin.ext (by unfold sel4; dsimp only; omega)
    rw [(dat1 V c).before_of_pos 4 t (by omega) ((cfg1.win 4).fetch_out rfl t) d,
      noFlush4 ⟨t.val - 1, _⟩ (by dsimp only; omega) (by dsimp only; omega), if_neg Bool.false_ne_true]
    by_cases h5 : t.val % 12 = 4
    · rw [left_live _ _ _ ((idle4 ⟨t.val - 1, _⟩).trans (decide_eq_false (by dsimp only; omega))) (fun _ _ => rfl),
        after1_4, after1_4, e]
    · rw [left_idle _ _ _ ((idle4 ⟨t.val - 1, _⟩).trans (decide_eq_true (by dsimp only; omega))),
        ih ⟨t.val - 1, Nat.lt_of_le_of_lt (Nat.sub_le _ _) t.isLt⟩ (by dsimp only; omega) (by dsimp only; omega) d,
        after1_4, after1_4, e]

/-- Past the key columns window 5's buffer still holds what column 7 stored. -/
theorem before1_5_idle (c : Dev nD) (n : ℕ) : ∀ (t : Fin cfg1.N), t.val = n → 8 ≤ t.val % 12 → ∀ d,
    (dat1 V c).before 5 t d = (dat1 V c).after 5 t := by
  induction n with
  | zero => intro t h h4; omega
  | succ n ih =>
    intro t h h4 d
    have hN : t.val < 96 := lt_of_lt_of_eq t.isLt (show cfg1.N = 96 from N_1)
    have e : sel5 ⟨t.val - 1, Nat.lt_of_le_of_lt (Nat.sub_le _ _) t.isLt⟩ = sel5 t :=
      Fin.ext (by unfold sel5; dsimp only; omega)
    rw [(dat1 V c).before_of_pos 5 t (by omega) ((cfg1.win 5).fetch_out rfl t) d,
      noFlush5 ⟨t.val - 1, _⟩ (by dsimp only; omega) (by dsimp only; omega), if_neg Bool.false_ne_true]
    by_cases h5 : t.val % 12 = 8
    · rw [left_live _ _ _ ((idle5 ⟨t.val - 1, _⟩).trans (decide_eq_false (by dsimp only; omega))) (fun _ _ => rfl),
        after1_5, after1_5, e]
    · rw [left_idle _ _ _ ((idle5 ⟨t.val - 1, _⟩).trans (decide_eq_true (by dsimp only; omega))),
        ih ⟨t.val - 1, Nat.lt_of_le_of_lt (Nat.sub_le _ _) t.isLt⟩ (by dsimp only; omega) (by dsimp only; omega) d,
        after1_5, after1_5, e]

/-- So a point past the query columns leaves window 4 as it must, written back there or not, -/
theorem leaves4_idle (c : Dev nD) (t : Fin cfg1.N) (h : 4 ≤ t.val % 12) (d) :
    (owns (c : Thread nD τ) (ms1_4 t) fullShare ((dat1 V c).before 4 t d) : sProp 𝕄) ⊢ (dat1 V c).leavesExact 4 t := by
  unfold Dat.leavesExact
  rw [(idle4 t).trans (decide_eq_true h)]
  cases (cfg1.win 4).flush t with
  | false => iintro H; iexists d; iexact H
  | true => dsimp only; rw [before1_4_idle V c t.val t rfl h d]

/-- and one past the key columns window 5. -/
theorem leaves5_idle (c : Dev nD) (t : Fin cfg1.N) (h : 8 ≤ t.val % 12) (d) :
    (owns (c : Thread nD τ) (ms1_5 t) fullShare ((dat1 V c).before 5 t d) : sProp 𝕄) ⊢ (dat1 V c).leavesExact 5 t := by
  unfold Dat.leavesExact
  rw [(idle5 t).trans (decide_eq_true (Or.inr h))]
  cases (cfg1.win 5).flush t with
  | false => iintro H; iexists d; iexact H
  | true => dsimp only; rw [before1_5_idle V c t.val t rfl h d]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 2400000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  rw [show (dat1 V c).Φ t.castSucc = iprop(owns (c : Thread nD τ) tabM1 fullShare (tab1 V c) ∗ Pipeline.ΦA spec1 c) from rfl, PhiA1_eq]
  have hN : t.val < 96 := lt_of_lt_of_eq t.isLt (show cfg1.N = 96 from N_1)
  by_cases h0 : t.val % 12 ≤ 3
  · by_cases h1 : (4 ≤ t.val % 12 ∧ t.val % 12 ≤ 7)
    · exfalso; omega
    · by_cases h2 : 8 ≤ t.val % 12
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4_A t ((hcond1_0 t).mpr h0) (fun h => h1 ((hcond1_1 t).mp h)) (fun h => h2 ((hcond1_2 t).mp h))], after1_4_live V c t h0]
        rw [Dat.leavesExact_idle (dat1 V c) 5 t (idleAt1_5_A t ((hcond1_0 t).mpr h0) (fun h => h1 ((hcond1_1 t).mp h)) (fun h => h2 ((hcond1_2 t).mp h))) (noFlush1_5_A t ((hcond1_0 t).mpr h0) (fun h => h1 ((hcond1_1 t).mp h)) (fun h => h2 ((hcond1_2 t).mp h)))]
        rw [Dat.leavesExact_idle (dat1 V c) 6 t (idleAt1_6_A t ((hcond1_0 t).mpr h0) (fun h => h1 ((hcond1_1 t).mp h)) (fun h => h2 ((hcond1_2 t).mp h))) (noFlush1_6_A t ((hcond1_0 t).mpr h0) (fun h => h1 ((hcond1_1 t).mp h)) (fun h => h2 ((hcond1_2 t).mp h)))]
        rw [outsAt1_A V c t h0 h1 h2]
        unfold out1_A_4; (try dsimp only)
        iintro ⟨⟨HT, ⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (fun h => h2 ((hcond1_2 t).mp h)) (tab1 V c) (iblk1 V c 0 t) (iblk1 V c 1 t) (iblk1 V c 2 t) (iblk1 V c 3 t)).2.2.2.2 _ _ Set.univ _)
        isplitl [HT]; · iexact HT
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        iintro ⟨HT, H0, H1, H2, H3, ⟨%e4, H4⟩, H5, H6, HS0⟩
        isplitl [HT HR0 HR1 HR2 HR3 HR4 HR5 HR6 HR7 HR8 HS0 Hg]
        · isplitl [HT]; · iexact HT
          isplitl [HR0 HR1 HR2 HR3 HR4 HR5 HR6 HR7 HR8 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexact HS0
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _ _ _)
        isplitl [H5]; · iexists _; iexact H5
        iexists _; iexact H6
  · by_cases h1 : (4 ≤ t.val % 12 ∧ t.val % 12 ≤ 7)
    · by_cases h2 : 8 ≤ t.val % 12
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [Dat.leavesExact_idle (dat1 V c) 4 t (idleAt1_4_B t (fun h => h0 ((hcond1_0 t).mp h)) ((hcond1_1 t).mpr h1) (fun h => h2 ((hcond1_2 t).mp h))) (noFlush1_4_B t (fun h => h0 ((hcond1_0 t).mp h)) ((hcond1_1 t).mpr h1) (fun h => h2 ((hcond1_2 t).mp h)))]
        rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1) (fun h => h2 ((hcond1_2 t).mp h))], after1_5_live V c t h1.2]
        rw [Dat.leavesExact_idle (dat1 V c) 6 t (idleAt1_6_B t (fun h => h0 ((hcond1_0 t).mp h)) ((hcond1_1 t).mpr h1) (fun h => h2 ((hcond1_2 t).mp h))) (noFlush1_6_B t (fun h => h0 ((hcond1_0 t).mp h)) ((hcond1_1 t).mpr h1) (fun h => h2 ((hcond1_2 t).mp h)))]
        rw [outsAt1_B V c t h0 h1 h2]
        unfold out1_B_5; (try dsimp only)
        iintro ⟨⟨HT, ⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) ((hcond1_1 t).mpr h1) (fun h => h2 ((hcond1_2 t).mp h)) (tab1 V c) (iblk1 V c 0 t) (iblk1 V c 1 t) (iblk1 V c 2 t) (iblk1 V c 3 t)).2.2.2.2 _ _ Set.univ _)
        isplitl [HT]; · iexact HT
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨HT, H0, H1, H2, H3, H4, ⟨%e5, H5⟩, H6, ⟨%fT0, HS0⟩⟩
        isplitl [HT HR0 HR1 HR2 HR3 HR4 HR5 HR6 HR7 HR8 HS0 Hg]
        · isplitl [HT]; · iexact HT
          isplitl [HR0 HR1 HR2 HR3 HR4 HR5 HR6 HR7 HR8 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexists _; unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]
        · unfold owns; iexists _; isplitr
          swap; · iexact H5
          ipureintro; exact View.read_writes_of_cover _ _ _ _ _ (cover1_B_5 c _ _ _ _ _ _ _ _ _ _ _ _ _ _ _ _ _ _ _ _ _ _ _ _ _ _ _)
        iexists _; iexact H6
    · by_cases h2 : 8 ≤ t.val % 12
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 6 t = owns (c : Thread nD τ) (ms1_6 t) fullShare ((dat1 V c).after 6 t) from by
      unfold Dat.leavesExact; rw [liveAt1_6_C t (fun h => h0 ((hcond1_0 t).mp h)) (fun h => h1 ((hcond1_1 t).mp h)) ((hcond1_2 t).mpr h2)], after1_6]
        rw [outsAt1_C V c t h0 h1 h2]
        unfold out1_C_6; (try dsimp only)
        iintro ⟨⟨HT, ⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) (fun h => h1 ((hcond1_1 t).mp h)) ((hcond1_2 t).mpr h2) (tab1 V c) (iblk1 V c 0 t) (iblk1 V c 1 t) (iblk1 V c 2 t) (iblk1 V c 3 t)).2.2.2.2 _ _ Set.univ _)
        isplitl [HT]; · iexact HT
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨HT, H0, H1, H2, H3, H4, H5, ⟨%e6, H6⟩, ⟨%fT0, HS0⟩⟩
        isplitl [HT HR0 HR1 HR2 HR3 HR4 HR5 HR6 HR7 HR8 HS0 Hg]
        · isplitl [HT]; · iexact HT
          isplitl [HR0 HR1 HR2 HR3 HR4 HR5 HR6 HR7 HR8 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexists _; unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iapply (leaves4_idle V c t (by omega) d4); iexact H4
        isplitl [H5]; · iapply (leaves5_idle V c t h2 d5); iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _)
      · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand

end
-- ==== Proof.KernelIdealMain.lean ====
/- The whole program: the two calls and the host operations between them, from the launch to the return. -/
module

public import proofs.«01_k».proof.Proof.KernelIdealQuant
public import proofs.«01_k».proof.Proof.KernelIdealProj

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_cst, main_v4, main_v5, main_cst_0, main_v6, main_v7, main_v8, main_cst_1, main_v9, main_v10, main_cst_2, main_v11, main_v12, main_v13, main_v14, main_v15, main_v16, main_c, main_v17, main_v18, main_v19, main_v20, main_v21, main_v22, main_v23]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- A table of positions as the contents the second call is pinned at: the call asks nothing of them. -/
abbrev tabAdm (x : Vec F S8 .i32) : (pcfg1 (F := F)).Adm :=
  ⟨fun | 0 => x | ⟨_ + 1, h⟩ => absurd h (Nat.not_lt.2 (Nat.le_add_left _ _)), trivial⟩
/-- The prefetched tables' admissible contents: the first call has no table, the second's holds the positions that the host
    operations before it leave (the mesh has one device). -/
abbrev adm : (p : Fin 2) → (pcfgs (F := F) p).Adm
  | ⟨0, _⟩ => cfg0.toPCfg_adm
  | ⟨1, _⟩ => tabAdm (tab1 (V3 m ρ) 0)
/-- The second call's table, held whole at contents `x`, is its memref owned at them. -/
theorem prefHeld1_eq (c : Dev nD) (x : pre1.Contents (Elt F)) :
    (Pipeline.prefHeld pre1 c (fun _ => fullShare) x : sProp 𝕄) = owns (c : Thread nD τ) tabM1 fullShare (x 0) := by
  unfold Pipeline.prefHeld
  rw [bigSep_univ_eq_bigSepL [(0 : Fin 1)] (by decide) (by decide)]
  exact (owns_whole (c : Thread nD τ) main_v23 fullShare (x 0)).symm
/-- So at the contents the call is pinned at it is the memref owned at the positions the region finds. -/
theorem prefHeld1_adm (c : Dev nD) :
    (Pipeline.prefHeld (pcfgs (F := F) 1).pre c (fun _ => fullShare) (adm m ρ 1).1 : sProp 𝕄) = owns (c : Thread nD τ) tabM1 fullShare (tab1 (V3 m ρ) c) := by
  obtain rfl : c = 0 := Subsingleton.elim c 0
  exact prefHeld1_eq 0 (adm m ρ 1).1
/-- What bypasses the second region's arrays is its table and the rest. -/
theorem rest1_eq (c : Dev nD) :
    (Pipeline.unscopedRest (Pipeline.pin (pcfgs (F := F)) (adm m ρ) 1).spec c (V3 m ρ c) : sProp 𝕄)
      = iprop(owns (c : Thread nD τ) tabM1 fullShare (tab1 (V3 m ρ) c) ∗ Pipeline.unscopedRestP pre1 spec1 c (V3 m ρ c)) :=
  (Pipeline.unscopedRest_split preFacts1 c (V3 m ρ c)).trans
    (congrArg (fun P : sProp 𝕄 => iprop(P ∗ Pipeline.unscopedRestP pre1 spec1 c (V3 m ρ c))) (prefHeld1_eq c fun k => V3 m ρ c (pre1.ref k)))
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) (adm m ρ) (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ) (pdats m ρ) winFacts0 arr_whole0 c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register and the
    table of positions into the invariant and out; nothing owed; no semaphore of the kernel's own. -/
def reg1 : Pipeline.RegionSeg (pcfgs (F := F)) (adm m ρ) (pdats m ρ) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ owns (c : Thread nD τ) tabM1 fullShare (tab1 (V3 m ρ) c))
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) (adm m ρ) (pdats m ρ) winFacts1 arr_whole1 c
      ((pdats m ρ 1 c).share_full fun _ => rfl) (V3 m ρ c) (A_eq1 (V3 m ρ) c)
    rw [Pipeline.unscopedBufs_held, rest1_eq] at hsplit
    rw [prefHeld1_adm]
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = iprop(owns (c : Thread nD τ) tabM1 fullShare (tab1 (V3 m ρ) c) ∗ Pipeline.ΦA spec1 c) from rfl, prefHeld1_adm]; unfold Pipeline.ΦA
    iintro ⟨Hp, HT, Hr⟩
    isplitl [HT]; · iexact HT
    isplitl [Hr]; · iexact Hr
    iexact Hp
  hout c := by
    rw [Pipeline.ownSems0_none, show (pdats m ρ 1 c).Φ (Fin.last _) = iprop(owns (c : Thread nD τ) tabM1 fullShare (tab1 (V3 m ρ) c) ∗ Pipeline.ΦA spec1 c) from rfl]; unfold Pipeline.ΦA
    iintro ⟨HT, Hr, Hp⟩
    isplitl [Hp HT]
    · isplitl [Hp]; · iexact Hp
      iexact HT
    isplitr; · iempintro
    iexact Hr
  hexit c := by
    have hjoin := Pipeline.unscopedBufs_of_arrays (p := 1) (pcfgs (F := F)) (adm m ρ) (Ix := Unit) (Name := ℕ) (U := UR sig nD τ) (Lvl := ℕ)
      winFacts1 arr_whole1 c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held, rest1_eq] at hjoin
    iintro ⟨Ha, HO, ⟨HY, HT⟩, Hrest⟩
    imodintro
    isplitl [Ha HT Hrest HY]
    · isplitl [Ha HT Hrest]
      · iapply hjoin
        isplitl [Ha]; · iexact Ha
        isplitl [HT]; · iexact HT
        iexact Hrest
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main terminates, nothing faulting, and every
    final state has every unscoped buffer at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame claim: the argument arrays end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩, hz⟩) (run m ρ)

end Cert.KernelIdeal.Hand

end
-- ==== Proof.KernelIdealQuantForm.lean ====
module
public import proofs.«01_k».proof.Proof.KernelIdealQuant
public import Idealize.ShloMosaic.Lib.Pipeline.ValueKit
public import Idealize.ShloMosaic.Lib.Pipeline.ReadBack
@[expose] public section

set_option maxRecDepth 16384

noncomputable section

namespace Cert.KernelIdeal.Hand

open Cert.KernelIdeal.Gen
open Idealize.ShloMosaic

variable {F : FTy → Type} [FloatOps F]

/-- The columns of group `g` in a block of 128 tokens. -/
def gx (g : Fin 56) : Rect S128x7168 := Rect.unit ![0, 128 * g.val] ![128, 128] (by
  intro a; have := g.isLt; fin_cases a <;> simp [S128x7168] <;> omega)
def gw (g : Fin 56) : Rect S1x7168 := Rect.unit ![0, 128 * g.val] ![1, 128] (by
  intro a; have := g.isLt; fin_cases a <;> simp [S1x7168] <;> omega)

def qR (x0 : Vec F S128x7168 .bf16) : FVec F S128x1 .f32 := k0_pay4 (View.ld x0 r0_0)
def qY (x0 : Vec F S128x7168 .bf16) (x1 : Vec F S1x7168 .bf16) (g : Fin 56) : FVec F S128x128 .f32 :=
  k0_pay11 (qR x0) (View.ld x0 (gx g)) (View.ld x1 (gw g))
def qE (x0 : Vec F S128x7168 .bf16) (x1 : Vec F S1x7168 .bf16) (g : Fin 56) : IVec S128x1 32 :=
  select (k0_pay13 (qR x0) (View.ld x0 (gx g)) (View.ld x1 (gw g))) (broadcast S128x1 0#32)
    (addi (k0_pay14 (qR x0) (View.ld x0 (gx g)) (View.ld x1 (gw g))) (broadcast S128x1 1#32))
def qScale (x0 : Vec F S128x7168 .bf16) (x1 : Vec F S1x7168 .bf16) (g : Fin 56) : FVec F S128x1 .f32 :=
  bitcastToFloat .f32 (shli (addi (qE x0 x1 g) (broadcast S128x1 127#32)) (broadcast S128x1 23#32))
def qCode (x0 : Vec F S128x7168 .bf16) (x1 : Vec F S1x7168 .bf16) (g : Fin 56) : FVec F S128x128 .fp8e4m3 :=
  k0_pay1 (qY x0 x1 g) (qE x0 x1 g)
def qXa (x0 : Vec F S128x7168 .bf16) (x1 : Vec F S1x7168 .bf16) (g : Fin 56) : FVec F S128x128 .bf16 :=
  k0_pay2 (qY x0 x1 g) (qE x0 x1 g) (qScale x0 x1 g)

set_option maxHeartbeats 2000000 in
theorem out2_eq (x0 : Vec F S128x7168 .bf16) (x1 : Vec F S1x7168 .bf16) :
    out0_2 x0 x1 = View.canon (List.ofFn fun k : Fin 56 => (⟨gx k.rev, qCode x0 x1 k.rev⟩ : View.Piece (Elt F) S128x7168 .fp8e4m3)) := by
  rfl

set_option maxHeartbeats 2000000 in
theorem out4_eq (x0 : Vec F S128x7168 .bf16) (x1 : Vec F S1x7168 .bf16) :
    out0_4 x0 x1 = View.canon (List.ofFn fun k : Fin 56 => (⟨gx k.rev, qXa x0 x1 k.rev⟩ : View.Piece (Elt F) S128x7168 .bf16)) := by
  rfl

theorem concatenates_qScale : Shape.Concatenates ((List.ofFn fun _ : Fin 56 => S128x1)) S128x56 1 := by decide

set_option maxHeartbeats 2000000 in
theorem out3_eq (x0 : Vec F S128x7168 .bf16) (x1 : Vec F S1x7168 .bf16) :
    out0_3 x0 x1 = View.canon [⟨r0_113, (concatenate S128x56 1
      (List.ofFn fun n : Fin 56 => (⟨S128x1, qScale x0 x1 n⟩ : (s : Shape) × (s.Idx → Elt F .f32))) concatenates_qScale)⟩] := by
  rfl
end Cert.KernelIdeal.Hand
-- ==== Proof.Row.lean ====
/- One token's row as extended reals: the normalised values, the scale of each group of 128, the codes; the scale built
   from an exponent's bits is the power of two the reference takes, in the range of the precondition. -/
module
public import Idealize.ShloMosaic.PureOps
public import Idealize.ShloMosaic.PureOps.Ideal
public import Idealize.ShloMosaic.PureOps.Ideal.Laws
public import Mathlib.Analysis.SpecialFunctions.Log.Basic
public import Mathlib.Analysis.SpecialFunctions.Pow.Real
@[expose] public section

set_option maxRecDepth 16384

noncomputable section

namespace Cert.Row

open Idealize.ShloMosaic

/-- The reciprocal root of a row's mean square. -/
def rr (x : Fin 7168 → EReal) : EReal :=
  Ideal.rsqrt (Ideal.div (∑ k, x k * x k) (Ideal.ofBits FTy.f32 1172307968#32) + Ideal.ofBits FTy.f32 897988541#32)

/-- The normalised, weighted value at a column. -/
def yy (x w : Fin 7168 → EReal) (k : Fin 7168) : EReal := x k * rr x * w k

/-- Column `l` of group `g`. -/
def col (g : Fin 56) (l : Fin 128) : Fin 7168 := ⟨128 * g.val + l.val, by omega⟩

/-- The largest magnitude of a group. -/
def gm (x w : Fin 7168 → EReal) (g : Fin 56) : EReal :=
  Finset.fold max (Ideal.ofBits FTy.f32 4286578688#32) (fun l : Fin 128 => FloatOps.absf (F := Ideal) (φ := FTy.f32) (yy x w (col g l))) Finset.univ

/-- The floor of the binary logarithm of a group's largest magnitude over 448. -/
def lg (M : EReal) : EReal :=
  Ideal.liftRound Int.floor (Ideal.div (Ideal.log (M * Ideal.ofBits FTy.f32 991054117#32)) (Scalar.log (F := Ideal) (Ideal.ofBits FTy.f32 1073741824#32)))

/-- The exponent of a group's scale, as the reference has it. -/
def ee (M : EReal) : EReal := if M = 0 then 0 else lg M + 1
/-- The scale, and its inverse. -/
def sc (M : EReal) : EReal := Ideal.exp2 (ee M)
def iv (M : EReal) : EReal := Ideal.exp2 (0 - ee M)

/-- The exponent as the kernel has it, an integer word. -/
def ek (M : EReal) : BitVec 32 :=
  if M * Ideal.ofBits FTy.f32 991054117#32 = 0 then 0#32 else IntOp.addi (FloatOps.fptosi (F := Ideal) (φ := FTy.f32) 32 (lg M)) 1#32
def sck (M : EReal) : EReal := Ideal.ofBits FTy.f32 (IntOp.shli ArithUnit.vector (IntOp.addi (ek M) 127#32) 23#32)
def ivk (M : EReal) : EReal := Ideal.ofBits FTy.f32 (IntOp.shli ArithUnit.vector (IntOp.subi 127#32 (ek M)) 23#32)

/-- A value's code, given the inverse scale. -/
def code (y s : EReal) : EReal :=
  min (Ideal.ofBits FTy.f32 1138753536#32) (max (Ideal.ofBits FTy.f32 3286237184#32) (y * s))

theorem ieee_pow (n : ℕ) (h1 : 1 ≤ n) (h2 : n ≤ 254) (b : BitVec 32) (hneg : (b.extractLsb' (8 + 23) 1 == 1#1) = false)
    (hex : (b.extractLsb' 23 8).toNat = n) (hfr : (b.extractLsb' 0 23).toNat = 0) :
    Ideal.ieee 8 23 b = (((2 : ℝ) ^ ((n : ℤ) - 127) : ℝ) : EReal) := by
  unfold Ideal.ieee
  simp only [hneg, hex, hfr]
  rw [if_neg (by omega), if_neg (by omega)]
  congr 1
  have : ((n : ℤ) - (2 ^ (8 - 1) - 1) - (23 : ℕ)) = ((n : ℤ) - 127) - 23 := by norm_num
  rw [this, zpow_sub₀ (by norm_num) ((n : ℤ) - 127) 23]
  norm_num
  exact mul_div_cancel₀ _ (by norm_num)

theorem bits_pow (n : ℕ) (h1 : 1 ≤ n) (h2 : n ≤ 254) :
    Ideal.ofBits FTy.f32 (IntOp.shli ArithUnit.vector (BitVec.ofNat 32 n) 23#32) = (((2 : ℝ) ^ ((n : ℤ) - 127) : ℝ) : EReal) := by
  have e1 : IntOp.shli ArithUnit.vector (BitVec.ofNat 32 n) 23#32 = BitVec.ofNat 32 (n * 8388608) := by
    unfold IntOp.shli
    rw [if_pos (by decide)]
    apply BitVec.eq_of_toNat_eq
    simp [BitVec.toNat_shiftLeft, Nat.shiftLeft_eq]
  have hlt : n * 8388608 < 2 ^ 32 := by omega
  have ht : (BitVec.ofNat 32 (n * 8388608)).toNat = n * 8388608 := by
    rw [BitVec.toNat_ofNat]; exact Nat.mod_eq_of_lt hlt
  rw [e1]
  refine ieee_pow n h1 h2 _ ?_ ?_ ?_
  · rw [beq_eq_false_iff_ne]; intro h
    have := congrArg BitVec.toNat h
    rw [BitVec.extractLsb'_toNat, ht, Nat.shiftRight_eq_div_pow, Nat.div_eq_of_lt (by omega)] at this
    exact absurd this (by decide)
  · rw [BitVec.extractLsb'_toNat, ht, Nat.shiftRight_eq_div_pow, show 2 ^ 23 = 8388608 by norm_num,
      Nat.mul_div_cancel _ (by norm_num)]
    exact Nat.mod_eq_of_lt (by omega)
  · rw [BitVec.extractLsb'_toNat, ht, Nat.shiftRight_eq_div_pow, show 2 ^ 0 = 1 by norm_num, Nat.div_one,
      show 2 ^ 23 = 8388608 by norm_num]
    exact Nat.mul_mod_left _ _

theorem c448 : Ideal.ofBits FTy.f32 991054117#32 = (((9586981 : ℝ) * (2 : ℝ) ^ (-32 : ℤ) : ℝ) : EReal) := by
  show Ideal.ieee 8 23 (991054117#32) = _
  unfold Ideal.ieee
  have a1 : ((991054117#32).extractLsb' (8 + 23) 1 == 1#1) = false := by decide
  have a2 : ((991054117#32).extractLsb' 23 8).toNat = 118 := by decide
  have a3 : ((991054117#32).extractLsb' 0 23).toNat = 1198373 := by decide
  simp only [a1, a2, a3]
  rw [if_neg (by omega), if_neg (by omega)]
  congr 1
  norm_num

theorem c2 : Ideal.ofBits FTy.f32 1073741824#32 = ((2 : ℝ) : EReal) := by
  have := bits_pow 128 (by norm_num) (by norm_num)
  have e : IntOp.shli ArithUnit.vector (BitVec.ofNat 32 128) 23#32 = 1073741824#32 := by decide
  rw [e] at this
  rw [this]; norm_num

theorem lg_coe (r : ℝ) (hr : 0 < r) : lg (r : EReal) = (((⌊Real.log (r * (9586981 * (2 : ℝ) ^ (-32 : ℤ))) / Real.log 2⌋ : ℝ)) : EReal) := by
  unfold lg
  rw [c448, c2, ← EReal.coe_mul]
  have h2 : Scalar.log (F := Ideal) (φ := FTy.f32) (((2 : ℝ) : EReal)) = ((Real.log 2 : ℝ) : EReal) := by
    show Ideal.log ((2 : ℝ) : EReal) = _
    show (if (2 : ℝ) ≤ 0 then (⊥ : EReal) else ((Real.log 2 : ℝ) : EReal)) = _
    rw [if_neg (by norm_num)]
  have h1 : Ideal.log (((r * (9586981 * (2 : ℝ) ^ (-32 : ℤ)) : ℝ)) : EReal) = ((Real.log (r * (9586981 * (2 : ℝ) ^ (-32 : ℤ))) : ℝ) : EReal) := by
    show (if _ then _ else _) = _
    rw [if_neg]
    rw [not_le]; positivity
  rw [h1, h2, Ideal.div_coe (ne_of_gt (Real.log_pos (by norm_num))), ← EReal.coe_mul]
  show (((⌊_⌋ : ℤ) : ℝ) : EReal) = _
  rw [mul_one_div]

/-- In the range, the kernel's scale and inverse are the reference's. -/
theorem scale_eq (r : ℝ) (hr : r = 0 ∨ ((2 : ℝ) ^ (-111 : ℤ) ≤ r ∧ r ≤ (2 : ℝ) ^ (80 : ℤ))) :
    sck (r : EReal) = sc (r : EReal) ∧ ivk (r : EReal) = iv (r : EReal) := by
  obtain ⟨e, he1, he2, hee, hek⟩ : ∃ e : ℤ, -120 ≤ e ∧ e ≤ 120 ∧ ee (r : EReal) = (((e : ℝ)) : EReal) ∧ ek (r : EReal) = BitVec.ofInt 32 e := by
    rcases hr with rfl | ⟨h1, h2⟩
    · refine ⟨0, by norm_num, by norm_num, ?_, ?_⟩
      · simp [ee]
      · simp [ek]
    · have hpos : 0 < r := lt_of_lt_of_le (by positivity) h1
      have hl := lg_coe r hpos
      set q : ℝ := r * (9586981 * (2 : ℝ) ^ (-32 : ℤ)) with hq
      have hq0 : 0 < q := by positivity
      have hlog2 : 0 < Real.log 2 := Real.log_pos (by norm_num)
      have b1 : (-120 : ℝ) ≤ (Real.log q / Real.log 2) := by
        rw [le_div_iff₀ hlog2, show (-120 : ℝ) * Real.log 2 = Real.log ((2 : ℝ) ^ (-120 : ℤ)) by rw [Real.log_zpow]; norm_num]
        refine Real.log_le_log (by positivity) ?_
        calc (2 : ℝ) ^ (-120 : ℤ) ≤ (2 : ℝ) ^ (-111 : ℤ) * (9586981 * (2 : ℝ) ^ (-32 : ℤ)) := by norm_num
          _ ≤ q := by rw [hq]; gcongr
      have b2 : (Real.log q / Real.log 2) ≤ (80 : ℝ) := by
        rw [div_le_iff₀ hlog2, show (80 : ℝ) * Real.log 2 = Real.log ((2 : ℝ) ^ (80 : ℤ)) by rw [Real.log_zpow]; norm_num]
        refine Real.log_le_log hq0 ?_
        calc q ≤ (2 : ℝ) ^ (80 : ℤ) * (9586981 * (2 : ℝ) ^ (-32 : ℤ)) := by rw [hq]; gcongr
          _ ≤ (2 : ℝ) ^ (80 : ℤ) := by norm_num
      have f1 : (-120 : ℤ) ≤ ⌊(Real.log q / Real.log 2)⌋ := Int.le_floor.mpr (by exact_mod_cast b1)
      have f2 : ⌊(Real.log q / Real.log 2)⌋ ≤ (80 : ℤ) := by
        have := Int.floor_le_floor b2
        simpa using this
      generalize ⌊(Real.log q / Real.log 2)⌋ = n at *
      refine ⟨n + 1, by omega, by omega, ?_, ?_⟩
      · unfold ee
        rw [if_neg (by exact_mod_cast hpos.ne'), hl]
        push_cast
        rfl
      · unfold ek
        rw [c448, ← EReal.coe_mul, if_neg (by exact_mod_cast hq0.ne'), hl]
        show BitVec.ofInt 32 (Ideal.toIntClamped _ _ _) + 1#32 = _
        rw [Ideal.toIntClamped_coe]
        have : (if (0 : ℝ) ≤ (n : ℝ) then ⌊(n : ℝ)⌋ else ⌈(n : ℝ)⌉) = n := by simp
        rw [this, min_eq_right (by norm_num; omega), max_eq_right (by norm_num; omega)]
        rw [BitVec.ofInt_add]; rfl
  have w1 : IntOp.addi (ek (r : EReal)) 127#32 = BitVec.ofNat 32 (e + 127).toNat := by
    rw [hek]
    show BitVec.ofInt 32 e + 127#32 = _
    have : ((e + 127).toNat : ℤ) = e + 127 := Int.toNat_of_nonneg (by omega)
    rw [show BitVec.ofNat 32 (e + 127).toNat = BitVec.ofInt 32 ((e + 127).toNat : ℤ) from (BitVec.ofInt_natCast ..).symm, this, BitVec.ofInt_add]; rfl
  have w2 : IntOp.subi 127#32 (ek (r : EReal)) = BitVec.ofNat 32 (127 - e).toNat := by
    rw [hek]
    show 127#32 - BitVec.ofInt 32 e = _
    have : ((127 - e).toNat : ℤ) = 127 - e := Int.toNat_of_nonneg (by omega)
    rw [show BitVec.ofNat 32 (127 - e).toNat = BitVec.ofInt 32 ((127 - e).toNat : ℤ) from (BitVec.ofInt_natCast ..).symm, this, sub_eq_add_neg, BitVec.ofInt_add, BitVec.ofInt_neg, BitVec.sub_eq_add_neg]; rfl
  constructor
  · unfold sck sc
    rw [w1, bits_pow _ (by omega) (by omega), hee]
    show _ = ((Real.rpow 2 (e : ℝ) : ℝ) : EReal)
    congr 1
    show _ = (2 : ℝ) ^ (e : ℝ)
    rw [Real.rpow_intCast]; congr 1; omega
  · unfold ivk iv
    rw [w2, bits_pow _ (by omega) (by omega), hee]
    have : (0 : EReal) - ((e : ℝ) : EReal) = (((-e : ℤ) : ℝ) : EReal) := by push_cast; simp
    rw [this]
    show _ = ((Real.rpow 2 ((-e : ℤ) : ℝ) : ℝ) : EReal)
    congr 1
    show _ = (2 : ℝ) ^ (((-e : ℤ)) : ℝ)
    rw [Real.rpow_intCast]; congr 1; omega

/-- A value is zero or of a magnitude between `2^-a` and `2^b`. -/
def Rng (a b : ℤ) (v : EReal) : Prop := ∃ r : ℝ, v = (r : EReal) ∧ (r = 0 ∨ ((2 : ℝ) ^ (-a) ≤ |r| ∧ |r| ≤ (2 : ℝ) ^ b))

theorem c7168 : Ideal.ofBits FTy.f32 1172307968#32 = ((7168 : ℝ) : EReal) := by
  show Ideal.ieee 8 23 (1172307968#32) = _
  unfold Ideal.ieee
  have a1 : ((1172307968#32).extractLsb' (8 + 23) 1 == 1#1) = false := by decide
  have a2 : ((1172307968#32).extractLsb' 23 8).toNat = 139 := by decide
  have a3 : ((1172307968#32).extractLsb' 0 23).toNat = 6291456 := by decide
  simp only [a1, a2, a3]
  rw [if_neg (by omega), if_neg (by omega)]
  congr 1
  norm_num

theorem ceps : Ideal.ofBits FTy.f32 897988541#32 = (((8796093 : ℝ) * (2 : ℝ) ^ (-43 : ℤ) : ℝ) : EReal) := by
  show Ideal.ieee 8 23 (897988541#32) = _
  unfold Ideal.ieee
  have a1 : ((897988541#32).extractLsb' (8 + 23) 1 == 1#1) = false := by decide
  have a2 : ((897988541#32).extractLsb' 23 8).toNat = 107 := by decide
  have a3 : ((897988541#32).extractLsb' 0 23).toNat = 407485 := by decide
  simp only [a1, a2, a3]
  rw [if_neg (by omega), if_neg (by omega)]
  congr 1
  norm_num

theorem cbot : Ideal.ofBits FTy.f32 4286578688#32 = ⊥ := by
  show Ideal.ieee 8 23 (4286578688#32) = _
  unfold Ideal.ieee
  have a1 : ((4286578688#32).extractLsb' (8 + 23) 1 == 1#1) = true := by decide
  have a2 : ((4286578688#32).extractLsb' 23 8).toNat = 255 := by decide
  have a3 : ((4286578688#32).extractLsb' 0 23).toNat = 0 := by decide
  simp only [a1, a2, a3]
  rw [if_pos (by norm_num)]
  simp

theorem abs_bound {r : ℝ} {b : ℤ} {a : ℤ} (h : r = 0 ∨ ((2 : ℝ) ^ a ≤ |r| ∧ |r| ≤ (2 : ℝ) ^ b)) : |r| ≤ (2 : ℝ) ^ b := by
  rcases h with rfl | h
  · rw [abs_zero]; positivity
  · exact h.2

theorem coe_sum {ι : Type} (s : Finset ι) (f : ι → ℝ) : (((∑ k ∈ s, f k : ℝ)) : EReal) = ∑ k ∈ s, ((f k : ℝ) : EReal) := by
  classical
  induction s using Finset.induction_on with
  | empty => simp
  | insert a s ha ih => rw [Finset.sum_insert ha, Finset.sum_insert ha, EReal.coe_add, ih]

theorem rr_range (x : Fin 7168 → EReal) (hx : ∀ k, Rng 40 60 (x k)) :
    ∃ ρ : ℝ, rr x = (ρ : EReal) ∧ (2 : ℝ) ^ (-61 : ℤ) ≤ ρ ∧ ρ ≤ (2 : ℝ) ^ (10 : ℤ) := by
  choose a ha hb using hx
  have hsum : (∑ k, x k * x k) = (((∑ k, a k * a k : ℝ)) : EReal) := by
    rw [coe_sum]
    refine Finset.sum_congr rfl fun k _ => ?_
    rw [ha k, EReal.coe_mul]
  have h0 : 0 ≤ ∑ k, a k * a k := Finset.sum_nonneg fun k _ => mul_self_nonneg _
  have h1 : ∑ k, a k * a k ≤ 7168 * (2 : ℝ) ^ (120 : ℤ) := by
    calc ∑ k, a k * a k ≤ ∑ _k : Fin 7168, (2 : ℝ) ^ (120 : ℤ) := by
          refine Finset.sum_le_sum fun k _ => ?_
          have := abs_bound (hb k)
          rw [← abs_mul_abs_self]
          calc |a k| * |a k| ≤ (2 : ℝ) ^ (60 : ℤ) * (2 : ℝ) ^ (60 : ℤ) := mul_le_mul this this (abs_nonneg _) (by positivity)
            _ = (2 : ℝ) ^ (120 : ℤ) := by rw [← zpow_add₀ (by norm_num)]; norm_num
      _ = _ := by rw [Finset.sum_const, Finset.card_univ, Fintype.card_fin, nsmul_eq_mul]; norm_num
  set S : ℝ := ∑ k, a k * a k with hS
  have hq : rr x = Ideal.rsqrt (((S * (1 / 7168) + 8796093 * (2 : ℝ) ^ (-43 : ℤ) : ℝ)) : EReal) := by
    unfold rr
    rw [hsum, c7168, ceps, Ideal.div_coe (by norm_num), ← EReal.coe_mul, ← EReal.coe_add]
  set q : ℝ := S * (1 / 7168) + 8796093 * (2 : ℝ) ^ (-43 : ℤ) with hqd
  have q0 : 0 ≤ S * (1 / 7168) := by positivity
  have q1 : (2 : ℝ) ^ (-20 : ℤ) ≤ q := by
    have : (2 : ℝ) ^ (-20 : ℤ) ≤ 8796093 * (2 : ℝ) ^ (-43 : ℤ) := by norm_num
    rw [hqd]
    exact le_trans this (le_add_of_nonneg_left q0)
  have q2 : q ≤ (2 : ℝ) ^ (122 : ℤ) := by
    have e1 : S * (1 / 7168) ≤ (2 : ℝ) ^ (120 : ℤ) := by
      rw [mul_one_div, div_le_iff₀ (by norm_num), mul_comm]; exact h1
    have e2 : 8796093 * (2 : ℝ) ^ (-43 : ℤ) ≤ (2 : ℝ) ^ (120 : ℤ) := by norm_num
    have e3 : (2 : ℝ) ^ (120 : ℤ) + (2 : ℝ) ^ (120 : ℤ) ≤ (2 : ℝ) ^ (122 : ℤ) := by norm_num
    linarith
  have qpos : 0 < q := lt_of_lt_of_le (by positivity) q1
  refine ⟨(Real.sqrt q)⁻¹, ?_, ?_, ?_⟩
  · rw [hq, Ideal.rsqrt_coe, if_neg (not_lt.mpr qpos.le), if_neg qpos.ne']
  · have : Real.sqrt q ≤ (2 : ℝ) ^ (61 : ℤ) := by
      rw [Real.sqrt_le_left (by positivity)]
      calc q ≤ (2 : ℝ) ^ (122 : ℤ) := q2
        _ = _ := by norm_num
    rw [show ((2 : ℝ) ^ (-61 : ℤ)) = ((2 : ℝ) ^ (61 : ℤ))⁻¹ by rw [zpow_neg]]
    exact inv_anti₀ (Real.sqrt_pos.mpr qpos) this
  · have : (2 : ℝ) ^ (-10 : ℤ) ≤ Real.sqrt q := by
      rw [Real.le_sqrt' (by positivity)]
      calc ((2 : ℝ) ^ (-10 : ℤ)) ^ 2 = (2 : ℝ) ^ (-20 : ℤ) := by norm_num
        _ ≤ q := q1
    rw [show ((2 : ℝ) ^ (10 : ℤ)) = ((2 : ℝ) ^ (-10 : ℤ))⁻¹ by rw [zpow_neg, inv_inv]]
    exact inv_anti₀ (by positivity) this

theorem yy_range (x w : Fin 7168 → EReal) (hx : ∀ k, Rng 40 60 (x k)) (hw : ∀ k, Rng 10 10 (w k)) (k : Fin 7168) :
    Rng 111 80 (yy x w k) := by
  obtain ⟨ρ, h1, h2, h3⟩ := rr_range x hx
  obtain ⟨a, ha, ha'⟩ := hx k
  obtain ⟨b, hb, hb'⟩ := hw k
  have hρ : 0 < ρ := lt_of_lt_of_le (by positivity) h2
  refine ⟨a * ρ * b, ?_, ?_⟩
  · unfold yy; rw [h1, ha, hb, EReal.coe_mul, EReal.coe_mul]
  · rcases ha' with rfl | ha'
    · left; ring
    rcases hb' with rfl | hb'
    · left; ring
    right
    rw [abs_mul, abs_mul, abs_of_pos hρ]
    constructor
    · calc (2 : ℝ) ^ (-111 : ℤ) = (2 : ℝ) ^ (-40 : ℤ) * (2 : ℝ) ^ (-61 : ℤ) * (2 : ℝ) ^ (-10 : ℤ) := by
            rw [← zpow_add₀ (by norm_num), ← zpow_add₀ (by norm_num)]; norm_num
        _ ≤ _ := mul_le_mul (mul_le_mul ha'.1 h2 (by positivity) (by positivity)) hb'.1 (by positivity) (by positivity)
    · calc _ ≤ (2 : ℝ) ^ (60 : ℤ) * (2 : ℝ) ^ (10 : ℤ) * (2 : ℝ) ^ (10 : ℤ) :=
            mul_le_mul (mul_le_mul ha'.2 h3 hρ.le (by positivity)) hb'.2 (by positivity) (by positivity)
        _ = _ := by rw [← zpow_add₀ (by norm_num), ← zpow_add₀ (by norm_num)]; norm_num

/-- The largest magnitude of a group is in the range in which the two ways to a scale agree. -/
theorem gm_range (x w : Fin 7168 → EReal) (hx : ∀ k, Rng 40 60 (x k)) (hw : ∀ k, Rng 10 10 (w k)) (g : Fin 56) :
    sck (gm x w g) = sc (gm x w g) ∧ ivk (gm x w g) = iv (gm x w g) := by
  obtain ⟨l, -, hl⟩ := Finset.exists_mem_eq_sup (Finset.univ : Finset (Fin 128)) ⟨0, Finset.mem_univ _⟩
    (fun l : Fin 128 => (FloatOps.absf (F := Ideal) (φ := FTy.f32) (yy x w (col g l)) : EReal))
  have hgm : gm x w g = FloatOps.absf (F := Ideal) (φ := FTy.f32) (yy x w (col g l)) := by
    rw [← hl]; unfold gm; rw [cbot]; rfl
  obtain ⟨r, hr, hr'⟩ := yy_range x w hx hw (col g l)
  have habs : gm x w g = ((|r| : ℝ) : EReal) := by
    rw [hgm, hr]
    show max ((r : ℝ) : EReal) (-((r : ℝ) : EReal)) = _
    rw [← EReal.coe_neg]
    exact (EReal.coe_strictMono.monotone.map_max (a := r) (b := -r)).symm
  rw [habs]
  refine scale_eq _ ?_
  rcases hr' with rfl | h
  · left; exact abs_zero
  · right; exact h

end Cert.Row
-- ==== Proof.KernelIdealQuantValue.lean ====
/- What one block of 128 tokens leaves: each token's codes, scales and dequantised values, as functions of its row. -/
module
public import proofs.«01_k».proof.Proof.KernelIdealQuantForm
public import proofs.«01_k».proof.Proof.Row
public import Idealize.ShloMosaic.Lib.Pointwise
@[expose] public section

set_option maxRecDepth 16384

noncomputable section

namespace Cert.KernelIdeal.Hand

open Cert.KernelIdeal.Gen
open Idealize.ShloMosaic

/-- A token's row in a block, and the row of weights. -/
def rowX (x0 : Vec Ideal S128x7168 .bf16) (i : Fin 128) : Fin 7168 → EReal := fun k => x0 (ix2 i k)
def rowW (x1 : Vec Ideal S1x7168 .bf16) : Fin 7168 → EReal := fun k => x1 (ix2 0 k)

variable (x0 : Vec Ideal S128x7168 .bf16) (x1 : Vec Ideal S1x7168 .bf16) (g : Fin 56) (i l : Fin 128)

theorem qR_apply : qR x0 (ix2 i 0) = Row.rr (rowX x0 i) := by
  unfold qR
  pointwise [k0_pay4, r0_0]
  rfl

theorem qY_apply : qY x0 x1 g (ix2 i l) = Row.yy (rowX x0 i) (rowW x1) (Row.col g l) := by
  unfold qY
  pointwise [k0_pay11, gx, gw]
  rw [qR_apply]
  rfl

theorem qE_apply : qE x0 x1 g (ix2 i 0) = Row.ek (Row.gm (rowX x0 i) (rowW x1) g) := by
  unfold qE
  pointwise [k0_pay13, k0_pay14, k0_pay12]
  have h : Finset.fold max (Ideal.ofBits FTy.f32 4286578688#32)
      (fun x : Fin 128 => FloatOps.absf (F := Ideal) (φ := FTy.f32) (k0_pay11 (qR x0) (View.ld x0 (gx g)) (View.ld x1 (gw g)) (ix2 i x))) Finset.univ
      = Row.gm (rowX x0 i) (rowW x1) g := by
    unfold Row.gm
    congr 1
    funext x
    exact congrArg _ (qY_apply x0 x1 g i x)
  rw [h]
  rfl

theorem qScale_apply : qScale x0 x1 g (ix2 i 0) = Row.sck (Row.gm (rowX x0 i) (rowW x1) g) := by
  unfold qScale
  pointwise []
  rw [qE_apply]
  rfl

theorem qCode_apply : qCode x0 x1 g (ix2 i l)
    = Row.code (Row.yy (rowX x0 i) (rowW x1) (Row.col g l)) (Row.ivk (Row.gm (rowX x0 i) (rowW x1) g)) := by
  unfold qCode
  pointwise [k0_pay1]
  rw [qE_apply, qY_apply]
  rfl

theorem qXa_apply : qXa x0 x1 g (ix2 i l)
    = Row.code (Row.yy (rowX x0 i) (rowW x1) (Row.col g l)) (Row.ivk (Row.gm (rowX x0 i) (rowW x1) g))
      * Row.sck (Row.gm (rowX x0 i) (rowW x1) g) := by
  unfold qXa
  pointwise [k0_pay2]
  rw [qScale_apply]
  exact congrArg (fun z : EReal => z * _) (qCode_apply x0 x1 g i l)

/-- The group of a column. -/
def grp (k : Fin 7168) : Fin 56 := ⟨k.val / 128, by omega⟩

theorem tiles_cover (i : Fin 128) (k : Fin 7168) : ∃ n : Fin 56, ∀ a, (![0, 128 * n.rev.val] : Fin 2 → ℕ) a ≤ (ix2 i k : S128x7168.Idx) a
    ∧ ((ix2 i k : S128x7168.Idx) a : ℕ) < (![0, 128 * n.rev.val] : Fin 2 → ℕ) a + (![128, 128] : Fin 2 → ℕ) a := by
  refine ⟨(grp k).rev, ?_⟩
  have h := k.isLt
  have hi := i.isLt
  rw [Fin.rev_rev]
  intro a
  match a with
  | ⟨0, _⟩ => exact ⟨Nat.zero_le _, by show i.val < 0 + 128; omega⟩
  | ⟨1, _⟩ => exact ⟨by show 128 * (k.val / 128) ≤ k.val; omega, by show k.val < 128 * (k.val / 128) + 128; omega⟩

theorem out2_apply (k : Fin 7168) : out0_2 x0 x1 (ix2 i k)
    = Row.code (Row.yy (rowX x0 i) (rowW x1) k) (Row.ivk (Row.gm (rowX x0 i) (rowW x1) (grp k))) := by
  rw [out2_eq]
  refine View.canon_ofFn_unit_eq_of_forall (Val := Elt Ideal) (S := S128x7168) (e := .fp8e4m3) (fun n : Fin 56 => ![0, 128 * n.rev.val]) ![128, 128] _
    (fun n => qCode x0 x1 n.rev) (ix2 i k) _ (tiles_cover i k) fun n x hx => ?_
  obtain ⟨a, b, rfl⟩ : ∃ (a b : Fin 128), x = ix2 a b := ⟨x 0, x 1, eq_ix2 x⟩
  have h0 : i.val = 0 + a.val := hx 0
  have h1 : k.val = 128 * n.rev.val + b.val := hx 1
  have e0 : a = i := Fin.ext (by omega)
  have e1 : Row.col n.rev b = k := Fin.ext h1.symm
  have e2 : grp k = n.rev := Fin.ext (by show k.val / 128 = _; omega)
  subst e0
  show qCode x0 x1 n.rev (ix2 a b) = _
  rw [qCode_apply, e1, e2]

theorem out4_apply (k : Fin 7168) : out0_4 x0 x1 (ix2 i k)
    = Row.code (Row.yy (rowX x0 i) (rowW x1) k) (Row.ivk (Row.gm (rowX x0 i) (rowW x1) (grp k)))
      * Row.sck (Row.gm (rowX x0 i) (rowW x1) (grp k)) := by
  rw [out4_eq]
  refine View.canon_ofFn_unit_eq_of_forall (Val := Elt Ideal) (S := S128x7168) (e := .bf16) (fun n : Fin 56 => ![0, 128 * n.rev.val]) ![128, 128] _
    (fun n => qXa x0 x1 n.rev) (ix2 i k) _ (tiles_cover i k) fun n x hx => ?_
  obtain ⟨a, b, rfl⟩ : ∃ (a b : Fin 128), x = ix2 a b := ⟨x 0, x 1, eq_ix2 x⟩
  have h0 : i.val = 0 + a.val := hx 0
  have h1 : k.val = 128 * n.rev.val + b.val := hx 1
  have e0 : a = i := Fin.ext (by omega)
  have e1 : Row.col n.rev b = k := Fin.ext h1.symm
  have e2 : grp k = n.rev := Fin.ext (by show k.val / 128 = _; omega)
  subst e0
  show qXa x0 x1 n.rev (ix2 a b) = _
  rw [qXa_apply, e1, e2]

theorem out3_apply (g : Fin 56) : out0_3 x0 x1 (ix2 i g) = Row.sck (Row.gm (rowX x0 i) (rowW x1) g) := by
  rw [out3_eq]
  have hz : (![0, 0] : Fin 2 → ℕ) = fun _ => 0 := by funext a; fin_cases a <;> rfl
  refine (congrFun (View.canon_unit_zero hz inb_S128x56_S128x56_0_0 _) (ix2 i g)).trans ?_
  refine (concatenate_ofFn_unit_apply (t := S128x56) (s₁ := S128x1) 1 (fun n : Fin 56 => qScale x0 x1 n) _ rfl rfl (ix2 i g) g rfl (ix2 i 0) ?_).trans ?_
  · intro b hb
    match b with
    | ⟨0, _⟩ => rfl
    | ⟨1, _⟩ => exact absurd rfl hb
  · exact qScale_apply x0 x1 g i

end Cert.KernelIdeal.Hand
-- ==== Proof.KernelIdealQuantArr.lean ====
/- The three arrays after the quantising launch, element by element. -/
module
public import proofs.«01_k».proof.Proof.KernelIdealQuantValue
public import Idealize.ShloMosaic.Lib.Pipeline.ValueKit
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable (V : (c : Dev nD) → (b : Ref sig .tc) → Buf (Elt Ideal) ((c : Thread nD τ).loc b)) (c : Dev nD)

theorem idx0 : ∀ t : Fin grid0.N, win0_0.index t = ![t.val, 0] ∧ win0_1.index t = ![0, 0] ∧ win0_2.index t = ![t.val, 0]
    ∧ win0_3.index t = ![t.val, 0] ∧ win0_4.index t = ![t.val, 0] := by decide +kernel

theorem blk0_0 (t : Fin cfg0.N) (i : Fin 128) (k : Fin 7168) (j : Fin 6144) (hj : j.val = 128 * t.val + i.val) :
    iblk0 V c 0 t (ix2 i k) = V c (Pipeline.arrRef spec0 0) (ix2 j k) := by
  obtain ⟨e0, e1, e2, e3, e4⟩ := idx0 t
  blk_ext [iblk0, e0]

theorem blk0_1 (t : Fin cfg0.N) (i : Fin 1) (k : Fin 7168) :
    iblk0 V c 1 t (ix2 i k) = V c (Pipeline.arrRef spec0 1) (ix2 0 k) := by
  obtain ⟨e0, e1, e2, e3, e4⟩ := idx0 t
  blk_ext [iblk0, e1]

/-- A token's row in the whole array. -/
def tok (A : Vec Ideal S6144x7168 .bf16) (i : Fin 6144) : Fin 7168 → EReal := fun k => A (ix2 i k)
def codeArr (A : Vec Ideal S6144x7168 .bf16) (B : Vec Ideal S1x7168 .bf16) : Vec Ideal S6144x7168 .fp8e4m3 := fun y =>
  Row.code (Row.yy (tok A (y 0)) (rowW B) (y 1)) (Row.ivk (Row.gm (tok A (y 0)) (rowW B) (grp (y 1))))
def scaleArr (A : Vec Ideal S6144x7168 .bf16) (B : Vec Ideal S1x7168 .bf16) : Vec Ideal S6144x56 .f32 := fun y =>
  Row.sck (Row.gm (tok A (y 0)) (rowW B) (y 1))
def xaArr (A : Vec Ideal S6144x7168 .bf16) (B : Vec Ideal S1x7168 .bf16) : Vec Ideal S6144x7168 .bf16 := fun y =>
  Row.code (Row.yy (tok A (y 0)) (rowW B) (y 1)) (Row.ivk (Row.gm (tok A (y 0)) (rowW B) (grp (y 1))))
    * Row.sck (Row.gm (tok A (y 0)) (rowW B) (grp (y 1)))

/-- The token a block's row is. -/
def tokAt (t : Fin cfg0.N) (i : Fin 128) : Fin 6144 := ⟨128 * t.val + i.val, by have : t.val < 48 := t.isLt; omega⟩

theorem rowX_blk (t : Fin cfg0.N) (i : Fin 128) : rowX (iblk0 V c 0 t) i = tok (V c (Pipeline.arrRef spec0 0)) (tokAt t i) :=
  funext fun k => blk0_0 V c t i k (tokAt t i) rfl
theorem rowW_blk (t : Fin cfg0.N) : rowW (iblk0 V c 1 t) = rowW (V c (Pipeline.arrRef spec0 1)) :=
  funext fun k => blk0_1 V c t 0 k

theorem codes_arr : (dat0 V c).arrAt 2 cfg0.N = codeArr (V c (Pipeline.arrRef spec0 0)) (V c (Pipeline.arrRef spec0 1)) := by
  refine (dat0 V c).arrAt_eq_of_covers 2 _ (by decide +kernel) fun t hf y => ?_
  obtain ⟨e0, e1, e2, e3, e4⟩ := idx0 t
  blk_simp [e2]
  rw [after0_2]
  obtain ⟨i, k, rfl⟩ : ∃ (i : Fin 128) (k : Fin 7168), y = ix2 i k := ⟨y 0, y 1, eq_ix2 y⟩
  have hemb : (win0_2.blk t).view.emb (ix2 i k) = ix2 (tokAt t i) k := by blk_ext [e2, tokAt]
  rw [hemb]
  refine (out2_apply _ _ i k).trans ?_
  rw [rowX_blk, rowW_blk]; rfl

theorem scale_arr : (dat0 V c).arrAt 3 cfg0.N = scaleArr (V c (Pipeline.arrRef spec0 0)) (V c (Pipeline.arrRef spec0 1)) := by
  refine (dat0 V c).arrAt_eq_of_covers 3 _ (by decide +kernel) fun t hf y => ?_
  obtain ⟨e0, e1, e2, e3, e4⟩ := idx0 t
  blk_simp [e3]
  rw [after0_3]
  obtain ⟨i, k, rfl⟩ : ∃ (i : Fin 128) (k : Fin 56), y = ix2 i k := ⟨y 0, y 1, eq_ix2 y⟩
  have hemb : (win0_3.blk t).view.emb (ix2 i k) = ix2 (tokAt t i) k := by blk_ext [e3, tokAt]
  rw [hemb]
  refine (out3_apply _ _ i k).trans ?_
  rw [rowX_blk, rowW_blk]; rfl

theorem xa_arr : (dat0 V c).arrAt 4 cfg0.N = xaArr (V c (Pipeline.arrRef spec0 0)) (V c (Pipeline.arrRef spec0 1)) := by
  refine (dat0 V c).arrAt_eq_of_covers 4 _ (by decide +kernel) fun t hf y => ?_
  obtain ⟨e0, e1, e2, e3, e4⟩ := idx0 t
  blk_simp [e4]
  rw [after0_4]
  obtain ⟨i, k, rfl⟩ : ∃ (i : Fin 128) (k : Fin 7168), y = ix2 i k := ⟨y 0, y 1, eq_ix2 y⟩
  have hemb : (win0_4.blk t).view.emb (ix2 i k) = ix2 (tokAt t i) k := by blk_ext [e4, tokAt]
  rw [hemb]
  refine (out4_apply _ _ i k).trans ?_
  rw [rowX_blk, rowW_blk]; rfl

end Cert.KernelIdeal.Hand
-- ==== Proof.KernelIdealTiles.lean ====
module
public import proofs.«01_k».proof.Proof.KernelIdealRunA
public import Idealize.ShloMosaic.Lib.Pipeline.ValueKit
public import Idealize.ShloMosaic.Lib.Pipeline.ReadBack
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The tile of weight rows `128 h ..` and columns `128 g ..`, for `k = 56 h + g`. -/
def wr (k : Fin 224) : Rect S512x7168 := Rect.unit ![128 * (k.val / 56), 128 * (k.val % 56)] S128x128.size (by
  intro a; have := k.isLt; fin_cases a <;> simp [S512x7168] <;> omega)

/-- Where the scale of that tile is in the table of scales, at grid point `i`. -/
def scOff (i : grid1.Coords) (k : Fin 224) : Fin 2 → ℕ :=
  ![BitVec.toNat (Scalar.indexCast (Scalar.addi (Scalar.muli (BitVec.ofNat 32 ↑(i 1)) 4#32) (BitVec.ofNat 32 (k.val / 56)))), k.val % 56]

theorem scOff_eq (i : grid1.Coords) (k : Fin 224) : scOff i k = ![4 * (i 1).val + k.val / 56, k.val % 56] := by
  have h1 : (i 1).val < 12 := (i 1).isLt
  have := k.isLt
  unfold scOff
  congr 1
  generalize (i 1).val = j at *
  show ((BitVec.ofNat 32 j * 4#32) + BitVec.ofNat 32 (k.val / 56)).toNat = _
  simp only [BitVec.toNat_add, BitVec.toNat_mul, BitVec.toNat_ofNat]
  omega

theorem scOff_inb (i : grid1.Coords) (k : Fin 224) : ∀ a, scOff i k a + S1x1.size a ≤ S48x56.size a := by
  have h1 : (i 1).val < 12 := (i 1).isLt
  have := k.isLt
  rw [scOff_eq]
  intro a; fin_cases a <;> simp <;> omega

def wTile (i : grid1.Coords) (arg3 : Memref sig .tc .smem S48x56 .f32) (harg3 : arg3.IsWhole) (arg5 : Memref sig .tc .vmem S512x7168 .fp8e4m3) (harg5 : arg5.IsWhole)
    (x1 : Vec F S48x56 .f32) (x3 : Vec F S512x7168 .fp8e4m3) (k : Fin 224) : FVec F S128x128 .bf16 :=
  k1_pay21 (View.readAt (Elt F) arg3.view (Rect.unit (s := S48x56) (scOff i k) S1x1.size (scOff_inb i k)).toLoadRect (harg3.unread x1) (Shape.Idx.first (show 0 < S1x1.numel by decide)))
    (View.readAt (Elt F) arg5.view (wr k).toLoadRect (harg5.unread x3))

set_option maxHeartbeats 2000000 in
theorem stores_A (c : Dev nD) (i : grid1.Coords) (arg3 : Memref sig .tc .smem S48x56 .f32) (harg3 : arg3.IsWhole) (arg5 : Memref sig .tc .vmem S512x7168 .fp8e4m3) (harg5 : arg5.IsWhole)
    (x1 : Vec F S48x56 .f32) (x3 : Vec F S512x7168 .fp8e4m3) :
    kernelRun1_A.sl.HS0_224 c i arg3 harg3 arg5 harg5 x1 x3 = List.ofFn fun k : Fin 224 => (⟨wr k.rev, wTile i arg3 harg3 arg5 harg5 x1 x3 k.rev⟩ : View.Piece (Elt F) S512x7168 .bf16) := by
  rfl
end Cert.KernelIdeal.Hand
-- ==== Proof.KernelIdealWb.lean ====
/- The weights a grid point multiplies by: each of the 224 tiles stored in the scratch is the tile of codes times its scale. -/
module
public import proofs.«01_k».proof.Proof.KernelIdealTiles
public import proofs.«01_k».proof.Proof.KernelIdealRunB
public import proofs.«01_k».proof.Proof.KernelIdealRunC
public import Idealize.ShloMosaic.Lib.Pipeline.ValueKit
public import Idealize.ShloMosaic.Lib.Pipeline.ReadBack
public import Idealize.ShloMosaic.Lib.Pointwise
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

section
variable {F : FTy → Type} [FloatOps F]
set_option maxHeartbeats 2000000 in
theorem stores_B (c : Dev nD) (i : grid1.Coords) (arg3 : Memref sig .tc .smem S48x56 .f32) (harg3 : arg3.IsWhole) (arg5 : Memref sig .tc .vmem S512x7168 .fp8e4m3) (harg5 : arg5.IsWhole)
    (x1 : Vec F S48x56 .f32) (x3 : Vec F S512x7168 .fp8e4m3) :
    kernelRun1_B.sl.HS0_224 c i arg3 harg3 arg5 harg5 x1 x3 = List.ofFn fun k : Fin 224 => (⟨wr k.rev, wTile i arg3 harg3 arg5 harg5 x1 x3 k.rev⟩ : View.Piece (Elt F) S512x7168 .bf16) := by
  rfl
set_option maxHeartbeats 2000000 in
theorem stores_C (c : Dev nD) (i : grid1.Coords) (arg3 : Memref sig .tc .smem S48x56 .f32) (harg3 : arg3.IsWhole) (arg5 : Memref sig .tc .vmem S512x7168 .fp8e4m3) (harg5 : arg5.IsWhole)
    (x1 : Vec F S48x56 .f32) (x3 : Vec F S512x7168 .fp8e4m3) :
    kernelRun1_C.sl.HS0_224 c i arg3 harg3 arg5 harg5 x1 x3 = List.ofFn fun k : Fin 224 => (⟨wr k.rev, wTile i arg3 harg3 arg5 harg5 x1 x3 k.rev⟩ : View.Piece (Elt F) S512x7168 .bf16) := by
  rfl
end

variable (i : grid1.Coords) (arg3 : Memref sig .tc .smem S48x56 .f32) (harg3 : arg3.IsWhole) (arg5 : Memref sig .tc .vmem S512x7168 .fp8e4m3) (harg5 : arg5.IsWhole)
    (x1 : Vec Ideal S48x56 .f32) (x3 : Vec Ideal S512x7168 .fp8e4m3)

/-- Tile `k`'s scale at grid column `j`. -/
def scIx (i : grid1.Coords) (k : Fin 224) : S48x56.Idx :=
  ix2 ⟨4 * (i 1).val + k.val / 56, by have h1 : (i 1).val < 12 := (i 1).isLt; have := k.isLt; omega⟩ ⟨k.val % 56, by omega⟩

theorem wTile_apply (k : Fin 224) (a b : Fin 128) : wTile i arg3 harg3 arg5 harg5 x1 x3 k (ix2 a b)
    = x3 (ix2 ⟨128 * (k.val / 56) + a.val, by have := k.isLt; omega⟩ ⟨128 * (k.val % 56) + b.val, by omega⟩) * x1 (scIx i k) := by
  unfold wTile
  rw [View.readAt_eq_ld, View.readAt_eq_ld, harg3.read_unread, harg5.read_unread]
  have h0 : View.ld x1 (Rect.unit (s := S48x56) (scOff i k) S1x1.size (scOff_inb i k)) (Shape.Idx.first (show 0 < S1x1.numel by decide)) = x1 (scIx i k) := by
    refine View.ld_unit_apply_of x1 (scOff i k) S1x1.size _ _ _ fun a => ?_
    refine Eq.trans ?_ (congrArg (· + 0) (congrFun (scOff_eq i k) a)).symm
    match a with
    | ⟨0, _⟩ => rfl
    | ⟨1, _⟩ => rfl
  rw [h0]
  have h1 : View.ld x3 (wr k) (ix2 a b) = x3 (ix2 ⟨128 * (k.val / 56) + a.val, by have := k.isLt; omega⟩ ⟨128 * (k.val % 56) + b.val, by omega⟩) := by
    refine View.ld_unit_apply_of x3 _ S128x128.size _ _ _ fun a => ?_
    match a with
    | ⟨0, _⟩ => rfl
    | ⟨1, _⟩ => rfl
  rw [← h1]
  generalize View.ld x3 (wr k) = X
  generalize x1 (scIx i k) = s
  pointwise [k1_pay21]

/-- The dequantised weights of grid column `j`. -/
def wbVal (i : grid1.Coords) (x1 : Vec Ideal S48x56 .f32) (x3 : Vec Ideal S512x7168 .fp8e4m3) : Vec Ideal S512x7168 .bf16 := fun y =>
  x3 y * x1 (ix2 ⟨4 * (i 1).val + (y 0).val / 128, by have h1 : (i 1).val < 12 := (i 1).isLt; have : (y 0).val < 512 := (y 0).isLt; omega⟩
    ⟨(y 1).val / 128, by have : (y 1).val < 7168 := (y 1).isLt; omega⟩)

theorem wr_cover (r : Fin 512) (q : Fin 7168) : ∃ n : Fin 224, ∀ a, (![128 * (n.rev.val / 56), 128 * (n.rev.val % 56)] : Fin 2 → ℕ) a ≤ (ix2 r q : S512x7168.Idx) a
    ∧ ((ix2 r q : S512x7168.Idx) a : ℕ) < (![128 * (n.rev.val / 56), 128 * (n.rev.val % 56)] : Fin 2 → ℕ) a + S128x128.size a := by
  have h := r.isLt
  have h' := q.isLt
  have hk : r.val / 128 * 56 + q.val / 128 < 224 := by omega
  refine ⟨(⟨r.val / 128 * 56 + q.val / 128, hk⟩ : Fin 224).rev, ?_⟩
  rw [Fin.rev_rev]
  intro a
  match a with
  | ⟨0, _⟩ => exact ⟨by show 128 * ((r.val / 128 * 56 + q.val / 128) / 56) ≤ r.val; omega, by show r.val < 128 * ((r.val / 128 * 56 + q.val / 128) / 56) + 128; omega⟩
  | ⟨1, _⟩ => exact ⟨by show 128 * ((r.val / 128 * 56 + q.val / 128) % 56) ≤ q.val; omega, by show q.val < 128 * ((r.val / 128 * 56 + q.val / 128) % 56) + 128; omega⟩

theorem tiles_canon : View.canon (List.ofFn fun k : Fin 224 => (⟨wr k.rev, wTile i arg3 harg3 arg5 harg5 x1 x3 k.rev⟩ : View.Piece (Elt Ideal) S512x7168 .bf16))
    = wbVal i x1 x3 := by
  funext y
  obtain ⟨r, q, rfl⟩ : ∃ (r : Fin 512) (q : Fin 7168), y = ix2 r q := ⟨y 0, y 1, eq_ix2 y⟩
  refine View.canon_ofFn_unit_eq_of_forall (Val := Elt Ideal) (S := S512x7168) (e := .bf16) (fun n : Fin 224 => ![128 * (n.rev.val / 56), 128 * (n.rev.val % 56)]) S128x128.size _
    (fun n => wTile i arg3 harg3 arg5 harg5 x1 x3 n.rev) (ix2 r q) _ (wr_cover r q) fun n x hx => ?_
  obtain ⟨a, b, rfl⟩ : ∃ (a b : Fin 128), x = ix2 a b := ⟨x 0, x 1, eq_ix2 x⟩
  have h0 : r.val = 128 * (n.rev.val / 56) + a.val := hx 0
  have h1 : q.val = 128 * (n.rev.val % 56) + b.val := hx 1
  refine (wTile_apply i arg3 harg3 arg5 harg5 x1 x3 n.rev a b).trans ?_
  generalize n.rev = k at h0 h1
  have hk := k.isLt
  have ha := a.isLt
  have hb := b.isLt
  have hr : (⟨128 * (k.val / 56) + a.val, by omega⟩ : Fin 512) = r := Fin.ext h0.symm
  have hq : (⟨128 * (k.val % 56) + b.val, by omega⟩ : Fin 7168) = q := Fin.ext h1.symm
  rw [hr, hq]
  have e0 : r.val / 128 = k.val / 56 := by omega
  have e1 : q.val / 128 = k.val % 56 := by omega
  show x3 (ix2 r q) * x1 (scIx i k) = x3 (ix2 r q) * x1 (ix2 ⟨4 * (i 1).val + r.val / 128, _⟩ ⟨q.val / 128, _⟩)
  unfold scIx
  simp only [e0, e1]

theorem tiles_mem (y : S512x7168.Idx) : ∃ p ∈ (List.ofFn fun k : Fin 224 => (⟨wr k.rev, wTile i arg3 harg3 arg5 harg5 x1 x3 k.rev⟩ : View.Piece (Elt Ideal) S512x7168 .bf16)), y ∈ p.1.set := by
  obtain ⟨r, q, rfl⟩ : ∃ (r : Fin 512) (q : Fin 7168), y = ix2 r q := ⟨y 0, y 1, eq_ix2 y⟩
  obtain ⟨n, hn⟩ := wr_cover r q
  have hm : ix2 r q ∈ (wr n.rev).set := Rect.mem_set_unit.mpr hn
  exact ⟨_, List.mem_ofFn.mpr ⟨n, rfl⟩, hm⟩

/-- A load of the whole scratch after the tiles are stored. -/
theorem wb_read (arg10 : Memref sig .tc .vmem S512x7168 .bf16) (L : List (View.Piece (Elt Ideal) S512x7168 .bf16))
    (hL : L = List.ofFn fun k : Fin 224 => (⟨wr k.rev, wTile i arg3 harg3 arg5 harg5 x1 x3 k.rev⟩ : View.Piece (Elt Ideal) S512x7168 .bf16)) :
    arg10.view.readCov L (Rect.unit (s := S512x7168) ![0, 0] S512x7168.size inb_S512x7168_S512x7168_0_0) = wbVal i x1 x3 := by
  subst hL
  rw [View.readCov_eq_canon_ld _ _ _ (tiles_mem i arg3 harg3 arg5 harg5 x1 x3), tiles_canon]
  exact View.ld_unit_lit _ _ (by decide)

end Cert.KernelIdeal.Hand
-- ==== Proof.KernelIdealRope.lean ====
/- What one block of 768 tokens and four heads leaves: each head's rotated products, or the products themselves. -/
module
public import proofs.«01_k».proof.Proof.KernelIdealWb
@[expose] public section

set_option maxRecDepth 16384

noncomputable section

namespace Cert.Row
open Idealize.ShloMosaic

/-- A product rotated: `A` the entry, `B` the entry half a head away, `ang` the angle, `l` the lane. -/
def rope (A B ang : EReal) (l : ℕ) : EReal := A * Ideal.cos ang + B * (if l < 64 then 0 - Ideal.sin ang else Ideal.sin ang)

end Cert.Row

namespace Cert.KernelIdeal.Hand

open Cert.KernelIdeal.Gen
open Idealize.ShloMosaic Idealize.ShloMosaic.TcCoe Idealize.ShloMosaic.Tactic
open Idealize.SL Idealize.SL.RA Idealize.SL.BI

/-- The angle of the token `a` of a block whose first token is at `p`, lane `l`. -/
def ang (p : Elt Ideal .i32) (f : Vec Ideal S1x128 .f32) (a : Fin 768) (l : Fin 128) : EReal :=
  FloatOps.sitofp (F := Ideal) FTy.f32 (IntOp.addi (BitVec.ofNat 32 a.val) p) * f (ix2 0 l)

section pieces
variable (acc : FVec Ideal S768x512 .f32) (p : Elt Ideal .i32) (f : Vec Ideal S1x128 .f32) (i : Fin 768) (l : Fin 128)

theorem cos_apply : k1_pay4 p f (ix2 i l) = Ideal.cos (ang p f i l) := by
  pointwise [k1_pay4, k1_pay3]
  rfl

theorem sel_lane (a b : EReal) : Scalar.select (IntOp.cmpi CmpIPredicate.slt (BitVec.ofNat 32 l.val) 64#32) a b = if l.val < 64 then a else b := by
  have e : ∀ l : Fin 128, (BitVec.ofNat 32 l.val).slt 64#32 = decide (l.val < 64) := by decide
  unfold Scalar.select IntOp.cmpi
  show (if BitVec.ofBool ((BitVec.ofNat 32 l.val).slt 64#32) = 1 then a else b) = _
  rw [e]
  by_cases hh : l.val < 64 <;> simp [hh]

theorem sin_apply : k1_pay5 p f (ix2 i l) = if l.val < 64 then 0 - Ideal.sin (ang p f i l) else Ideal.sin (ang p f i l) := by
  pointwise [k1_pay5, k1_pay3]
  rw [sel_lane]
  rfl

/-- One rotated head, at column offset `o`. -/
def headEl (o : ℕ) (ho : o + 128 ≤ 512) : EReal :=
  Row.rope (acc (ix2 i ⟨o + l.val, by omega⟩)) (acc (ix2 i ⟨o + (l.val + 128 - 64) % 128, by omega⟩)) (ang p f i l) l.val

theorem head0 : k1_pay6 acc p f (ix2 i l) = headEl acc p f i l 0 (by omega) := by
  pointwise [k1_pay6]
  rw [cos_apply, sin_apply]
  simp only [headEl, Row.rope, Nat.zero_add]
theorem head1 : k1_pay7 acc p f (ix2 i l) = headEl acc p f i l 128 (by omega) := by
  pointwise [k1_pay7]
  rw [cos_apply, sin_apply]
  rfl
theorem head2 : k1_pay8 acc p f (ix2 i l) = headEl acc p f i l 256 (by omega) := by
  pointwise [k1_pay8]
  rw [cos_apply, sin_apply]
  rfl
theorem head3 : k1_pay320 (k1_pay10 acc p f) (k1_pay11 acc p f) (ix2 i l) = headEl acc p f i l 384 (by omega) := by
  pointwise [k1_pay320, k1_pay10, k1_pay11, k1_pay9]
  rw [cos_apply, sin_apply]
  rfl
end pieces

/-- The column half a head away. -/
def partner (b : Fin 512) : Fin 512 := ⟨b.val / 128 * 128 + (b.val % 128 + 64) % 128, by omega⟩

/-- Four rotated heads. -/
def ropeV (acc : FVec Ideal S768x512 .f32) (p : Elt Ideal .i32) (f : Vec Ideal S1x128 .f32) (a : Fin 768) (b : Fin 512) : EReal :=
  Row.rope (acc (ix2 a b)) (acc (ix2 a (partner b))) (ang p f a ⟨b.val % 128, by omega⟩) (b.val % 128)

theorem headEl_eq (acc : FVec Ideal S768x512 .f32) (p : Elt Ideal .i32) (f : Vec Ideal S1x128 .f32) (a : Fin 768) (l : Fin 128) (b : Fin 512)
    (o : ℕ) (ho : o + 128 ≤ 512) (h8 : o % 128 = 0) (hb : b.val = o + l.val) : headEl acc p f a l o ho = ropeV acc p f a b := by
  have hl := l.isLt
  have e1 : (⟨o + l.val, by omega⟩ : Fin 512) = b := Fin.ext hb.symm
  have e2 : (⟨o + (l.val + 128 - 64) % 128, by omega⟩ : Fin 512) = partner b := Fin.ext (by show o + (l.val + 128 - 64) % 128 = b.val / 128 * 128 + (b.val % 128 + 64) % 128; omega)
  have e3 : b.val % 128 = l.val := by omega
  have e4 : (⟨b.val % 128, by omega⟩ : Fin 128) = l := Fin.ext e3
  unfold headEl ropeV
  rw [e1, e2, e4, e3]

theorem rope_canon (acc : FVec Ideal S768x512 .f32) (p : Elt Ideal .i32) (f : Vec Ideal S1x128 .f32) (a : Fin 768) (b : Fin 512) :
    View.canon ([⟨Rect.unit ![0, 384] ![768, 128] inb_S768x512_S768x128_0_384, k1_pay320 (k1_pay10 acc p f) (k1_pay11 acc p f)⟩,
      ⟨Rect.unit ![0, 256] ![768, 128] inb_S768x512_S768x128_0_256, k1_pay8 acc p f⟩,
      ⟨Rect.unit ![0, 128] ![768, 128] inb_S768x512_S768x128_0_128, k1_pay7 acc p f⟩,
      ⟨Rect.unit ![0, 0] ![768, 128] inb_S768x512_S768x128_0_0, k1_pay6 acc p f⟩] : List (View.Piece (Elt Ideal) S768x512 .bf16)) (ix2 a b) = ropeV acc p f a b := by
  canon_tiles x h
  all_goals
    obtain ⟨a', l, rfl⟩ : ∃ (a' : Fin 768) (l : Fin 128), x = ix2 a' l := ⟨x 0, x 1, eq_ix2 x⟩
    obtain rfl : a' = a := Fin.ext h0.symm
  · exact (head3 acc p f a' l).trans (headEl_eq acc p f a' l b 384 _ rfl h1)
  · exact (head2 acc p f a' l).trans (headEl_eq acc p f a' l b 256 _ rfl h1)
  · exact (head1 acc p f a' l).trans (headEl_eq acc p f a' l b 128 _ rfl h1)
  · exact (head0 acc p f a' l).trans (headEl_eq acc p f a' l b 0 _ rfl (h1.trans (Nat.zero_add _).symm))

/-- The products of a block. -/
def accV (i : grid1.Coords) (x1 : Vec Ideal S48x56 .f32) (x2 : Vec Ideal S768x7168 .bf16) (x3 : Vec Ideal S512x7168 .fp8e4m3) : FVec Ideal S768x512 .f32 :=
  fun y => ∑ k : Fin 7168, x2 (ix2 (y 0) k) * wbVal i x1 x3 (ix2 (y 1) k)

theorem acc_eq (i : grid1.Coords) (x1 : Vec Ideal S48x56 .f32) (x2 : Vec Ideal S768x7168 .bf16) (x3 : Vec Ideal S512x7168 .fp8e4m3) :
    k1_pay319 x2 (wbVal i x1 x3) = accV i x1 x2 x3 := by
  unfold accV
  generalize wbVal i x1 x3 = w
  funext y
  obtain ⟨a, b, rfl⟩ : ∃ (a : Fin 768) (b : Fin 512), y = ix2 a b := ⟨y 0, y 1, eq_ix2 y⟩
  pointwise [k1_pay319]

section outs
variable (c : Dev nD) (i : grid1.Coords) (arg2 : Memref sig .tc .smem S8 .i32) (harg2 : arg2.IsWhole) (arg3 : Memref sig .tc .smem S48x56 .f32) (harg3 : arg3.IsWhole) (arg4 : Memref sig .tc .vmem S768x7168 .bf16) (harg4 : arg4.IsWhole) (arg5 : Memref sig .tc .vmem S512x7168 .fp8e4m3) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x512 .bf16) (harg8 : arg8.IsWhole) (arg9 : Memref sig .tc .vmem S768x512 .bf16) (harg9 : arg9.IsWhole) (arg10 : Memref sig .tc .vmem S512x7168 .bf16) (harg10 : arg10.IsWhole)
    (x0 : Vec Ideal S8 .i32) (x1 : Vec Ideal S48x56 .f32) (x2 : Vec Ideal S768x7168 .bf16) (x3 : Vec Ideal S512x7168 .fp8e4m3) (x4 : Vec Ideal S1x128 .f32)

theorem xa_read : View.readAt (Elt Ideal) arg4.view (Rect.unit (s := S768x7168) ![0, 0] S768x7168.size inb_S768x7168_S768x7168_0_0).toLoadRect (harg4.unread x2) = x2 := by
  rw [View.readAt_eq_ld, harg4.read_unread]
  exact View.ld_unit_lit _ _ (by decide)
theorem freq_read : View.readAt (Elt Ideal) arg6.view (Rect.unit (s := S1x128) ![0, 0] S1x128.size inb_S1x128_S1x128_0_0).toLoadRect (harg6.unread x4) = x4 := by
  rw [View.readAt_eq_ld, harg6.read_unread]
  exact View.ld_unit_lit _ _ (by decide)

/-- The position of the block's first token. -/
def posAt (i : grid1.Coords) (x0 : Vec Ideal S8 .i32) : Elt Ideal .i32 := x0 (Idealize.ShloMosaic.ix1 (i 0))

theorem pos_read (off : Fin 1 → ℕ) (hoff : off = ![(i 0).val]) (inb : ∀ a, off a + S1.size a ≤ S8.size a) (h : 0 < S1.numel) :
    View.readAt (Elt Ideal) arg2.view (Rect.unit (s := S8) off S1.size inb).toLoadRect (harg2.unread x0) (Shape.Idx.first h) = posAt i x0 := by
  subst hoff
  rw [View.readAt_eq_ld, harg2.read_unread]
  refine View.ld_unit_apply_of x0 _ S1.size _ _ _ fun a => ?_
  match a with
  | ⟨0, _⟩ => rfl

theorem off57_eq : k1_off57 i = ![(i 0).val] := by
  have h1 : (i 0).val < 8 := (i 0).isLt
  have e : (BitVec.ofNat 32 (i 0).val).toNat = (i 0).val := by rw [BitVec.toNat_ofNat]; omega
  show ![(BitVec.ofNat 32 (i 0).val).toNat] = _
  rw [e]
theorem off58_eq : k1_off58 i = ![(i 0).val] := by
  have h1 : (i 0).val < 8 := (i 0).isLt
  have e : (BitVec.ofNat 32 (i 0).val).toNat = (i 0).val := by rw [BitVec.toNat_ofNat]; omega
  show ![(BitVec.ofNat 32 (i 0).val).toNat] = _
  rw [e]

theorem outA_apply (hc0 : cond1_0 i) (hc1 : ¬cond1_1 i) (hc2 : ¬cond1_2 i) (a : Fin 768) (b : Fin 512) :
    out1_A_4 c i arg2 harg2 arg3 harg3 arg4 harg4 arg5 harg5 arg6 harg6 arg7 harg7 arg8 harg8 arg9 harg9 arg10 harg10 hc0 hc1 hc2 x0 x1 x2 x3 x4 (ix2 a b)
      = ropeV (accV i x1 x2 x3) (posAt i x0) x4 a b := by
  unfold out1_A_4
  rw [View.read_writes_junk_eq_canon]
  have hw : kernelRun1_A.sl.v2690 c i arg3 harg3 arg5 harg5 arg10 x1 x3 = wbVal i x1 x3 :=
    wb_read i arg3 harg3 arg5 harg5 x1 x3 arg10 _ (stores_A c i arg3 harg3 arg5 harg5 x1 x3)
  have hp : kernelRun1_A.sl.r_298 c i arg2 harg2 hc0 x0 = posAt i x0 := pos_read i arg2 harg2 x0 _ (off57_eq i) _ _
  unfold kernelRun1_A
  dsimp only
  unfold kernelRun1_A.sl.r_299 kernelRun1_A.sl.r_300
  rw [hw, hp, xa_read, freq_read, acc_eq]
  exact rope_canon _ _ _ a b

theorem outB_apply (hc0 : ¬cond1_0 i) (hc1 : cond1_1 i) (hc2 : ¬cond1_2 i) (a : Fin 768) (b : Fin 512) :
    out1_B_5 c i arg2 harg2 arg3 harg3 arg4 harg4 arg5 harg5 arg6 harg6 arg7 harg7 arg8 harg8 arg9 harg9 arg10 harg10 hc0 hc1 hc2 x0 x1 x2 x3 x4 (ix2 a b)
      = ropeV (accV i x1 x2 x3) (posAt i x0) x4 a b := by
  unfold out1_B_5
  rw [View.read_writes_junk_eq_canon]
  have hw : kernelRun1_B.sl.v2690 c i arg3 harg3 arg5 harg5 arg10 x1 x3 = wbVal i x1 x3 :=
    wb_read i arg3 harg3 arg5 harg5 x1 x3 arg10 _ (stores_B c i arg3 harg3 arg5 harg5 x1 x3)
  have hp : kernelRun1_B.sl.r_299 c i arg2 harg2 hc1 x0 = posAt i x0 := pos_read i arg2 harg2 x0 _ (off58_eq i) _ _
  unfold kernelRun1_B
  dsimp only
  unfold kernelRun1_B.sl.r_300 kernelRun1_B.sl.r_301 kernelRun1_B.sl.r_298
  rw [hw, hp, xa_read, freq_read, acc_eq]
  exact rope_canon _ _ _ a b

theorem outC_apply (hc0 : ¬cond1_0 i) (hc1 : ¬cond1_1 i) (hc2 : cond1_2 i) (a : Fin 768) (b : Fin 512) :
    out1_C_6 c i arg2 harg2 arg3 harg3 arg4 harg4 arg5 harg5 arg6 harg6 arg7 harg7 arg8 harg8 arg9 harg9 arg10 harg10 hc0 hc1 hc2 x0 x1 x2 x3 x4 (ix2 a b)
      = accV i x1 x2 x3 (ix2 a b) := by
  unfold out1_C_6
  rw [View.read_writes_junk_eq_canon]
  have hw : kernelRun1_C.sl.v2690 c i arg3 harg3 arg5 harg5 arg10 x1 x3 = wbVal i x1 x3 :=
    wb_read i arg3 harg3 arg5 harg5 x1 x3 arg10 _ (stores_C c i arg3 harg3 arg5 harg5 x1 x3)
  unfold kernelRun1_C
  dsimp only
  unfold kernelRun1_C.sl.r_298
  rw [hw, xa_read, acc_eq]
  generalize accV i x1 x2 x3 = A
  refine (congrFun (View.canon_unit_zero (Val := Elt Ideal) (S := S768x512) (e := .bf16) (by decide) inb_S768x512_S768x512_0_0 _) (ix2 a b)).trans ?_
  pointwise [k1_pay2]
end outs

end Cert.KernelIdeal.Hand
-- ==== Proof.KernelIdealQkv.lean ====
/- The three arrays after the projecting launch, element by element. -/
module
public import proofs.«01_k».proof.Proof.KernelIdealRope
public import proofs.«01_k».proof.Proof.KernelIdealProj
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

/-- A product of token `i` and weight row `r`. -/
def prodA (S : Vec Ideal S48x56 .f32) (X : Vec Ideal S6144x7168 .bf16) (W : Vec Ideal S6144x7168 .fp8e4m3) (i r : Fin 6144) : EReal :=
  ∑ k : Fin 7168, X (ix2 i k) * (W (ix2 r k) * S (ix2 ⟨r.val / 128, by omega⟩ ⟨k.val / 128, by omega⟩))
/-- The row half a head away. -/
def half (r : Fin 6144) : Fin 6144 := ⟨r.val / 128 * 128 + (r.val % 128 + 64) % 128, by omega⟩
def angA (P : Vec Ideal S8 .i32) (f : Vec Ideal S1x128 .f32) (i : Fin 6144) (l : Fin 128) : EReal :=
  FloatOps.sitofp (F := Ideal) FTy.f32 (IntOp.addi (BitVec.ofNat 32 (i.val % 768)) (P (Idealize.ShloMosaic.ix1 ⟨i.val / 768, by omega⟩))) * f (ix2 0 l)
def ropeA (S : Vec Ideal S48x56 .f32) (P : Vec Ideal S8 .i32) (X : Vec Ideal S6144x7168 .bf16) (W : Vec Ideal S6144x7168 .fp8e4m3) (f : Vec Ideal S1x128 .f32)
    (i r : Fin 6144) : EReal :=
  Row.rope (prodA S X W i r) (prodA S X W i (half r)) (angA P f i ⟨r.val % 128, by omega⟩) (r.val % 128)

/-- Column `n` of result `s` (queries, keys, values) is weight row `2048 s + n`. -/
def rowOf (s : ℕ) (hs : s < 3) (n : Fin 2048) : Fin 6144 := ⟨2048 * s + n.val, by omega⟩

theorem coords1 : ∀ t : Fin grid1.N, (grid1.coords t 0).val = t.val / 12 ∧ (grid1.coords t 1).val = t.val % 12 := by decide +kernel
theorem idx1 : ∀ t : Fin grid1.N, win1_0.index t = ![0, 0] ∧ win1_1.index t = ![t.val / 12, 0]
    ∧ win1_2.index t = ![t.val % 12, 0] ∧ win1_3.index t = ![0, 0] := by decide +kernel
theorem idx1o : ∀ t : Fin grid1.N, win1_4.index t = ![t.val / 12, min (t.val % 12) 3] ∧ win1_5.index t = ![t.val / 12, min (t.val % 12 - 4) 3]
    ∧ win1_6.index t = ![t.val / 12, t.val % 12 - 8] := by decide +kernel
theorem fl4 : ∀ t : Fin grid1.N, win1_4.flush t = true → t.val % 12 ≤ 3 ∨ t.val % 12 = 11 := by decide +kernel
theorem fl5 : ∀ t : Fin grid1.N, win1_5.flush t = true → (4 ≤ t.val % 12 ∧ t.val % 12 ≤ 7) ∨ t.val % 12 = 11 := by decide +kernel
theorem fl6 : ∀ t : Fin grid1.N, win1_6.flush t = true → 8 ≤ t.val % 12 := by decide +kernel

variable (V : (c : Dev nD) → (b : Ref sig .tc) → Buf (Elt Ideal) ((c : Thread nD τ).loc b)) (c : Dev nD)

theorem blk1_0 (t : Fin cfg1.N) : iblk1 V c 0 t = V c (Pipeline.arrRef spec1 0) := by
  obtain ⟨e0, e1, e2, e3⟩ := idx1 t
  funext y
  obtain ⟨i, k, rfl⟩ : ∃ (i : Fin 48) (k : Fin 56), y = ix2 i k := ⟨y 0, y 1, eq_ix2 y⟩
  blk_ext [iblk1, e0]
theorem blk1_1 (t : Fin cfg1.N) (i : Fin 768) (k : Fin 7168) (j : Fin 6144) (hj : j.val = 768 * (t.val / 12) + i.val) :
    iblk1 V c 1 t (ix2 i k) = V c (Pipeline.arrRef spec1 1) (ix2 j k) := by
  obtain ⟨e0, e1, e2, e3⟩ := idx1 t
  blk_ext [iblk1, e1]
theorem blk1_2 (t : Fin cfg1.N) (i : Fin 512) (k : Fin 7168) (j : Fin 6144) (hj : j.val = 512 * (t.val % 12) + i.val) :
    iblk1 V c 2 t (ix2 i k) = V c (Pipeline.arrRef spec1 2) (ix2 j k) := by
  obtain ⟨e0, e1, e2, e3⟩ := idx1 t
  blk_ext [iblk1, e2]
theorem blk1_3 (t : Fin cfg1.N) : iblk1 V c 3 t = V c (Pipeline.arrRef spec1 3) := by
  obtain ⟨e0, e1, e2, e3⟩ := idx1 t
  funext y
  obtain ⟨i, k, rfl⟩ : ∃ (i : Fin 1) (k : Fin 128), y = ix2 i k := ⟨y 0, y 1, eq_ix2 y⟩
  blk_ext [iblk1, e3]

/-- The token and the weight row of a block's entry. -/
def tokB (t : Fin cfg1.N) (a : Fin 768) : Fin 6144 := ⟨768 * (t.val / 12) + a.val, by have : t.val < 96 := t.isLt; omega⟩
def rowB (t : Fin cfg1.N) (b : Fin 512) : Fin 6144 := ⟨512 * (t.val % 12) + b.val, by omega⟩

theorem acc_blk (t : Fin cfg1.N) (a : Fin 768) (b : Fin 512) :
    accV (grid1.coords t) (iblk1 V c 0 t) (iblk1 V c 1 t) (iblk1 V c 2 t) (ix2 a b)
      = prodA (V c (Pipeline.arrRef spec1 0)) (V c (Pipeline.arrRef spec1 1)) (V c (Pipeline.arrRef spec1 2)) (tokB t a) (rowB t b) := by
  refine Finset.sum_congr rfl fun k _ => ?_
  have h2 := blk1_1 V c t a k (tokB t a) rfl
  have h3 := blk1_2 V c t b k (rowB t b) rfl
  refine congrArg₂ (fun x y : EReal => x * y) h2 (congrArg₂ (fun x y : EReal => x * y) h3 ?_)
  rw [blk1_0]
  have hb := b.isLt
  refine congrArg _ (congrArg₂ ix2 (Fin.ext ?_) rfl)
  show 4 * (grid1.coords t 1).val + b.val / 128 = (512 * (t.val % 12) + b.val) / 128
  rw [(coords1 t).2]
  omega

theorem rope_blk (t : Fin cfg1.N) (a : Fin 768) (b : Fin 512) :
    ropeV (accV (grid1.coords t) (iblk1 V c 0 t) (iblk1 V c 1 t) (iblk1 V c 2 t)) (posAt (grid1.coords t) (tab1 V c)) (iblk1 V c 3 t) a b
      = ropeA (V c (Pipeline.arrRef spec1 0)) (tab1 V c) (V c (Pipeline.arrRef spec1 1)) (V c (Pipeline.arrRef spec1 2)) (V c (Pipeline.arrRef spec1 3)) (tokB t a) (rowB t b) := by
  have ha := a.isLt
  have hb := b.isLt
  have ht : t.val < 96 := t.isLt
  unfold ropeV ropeA
  rw [acc_blk, acc_blk, blk1_3]
  have e1 : rowB t (partner b) = half (rowB t b) := Fin.ext (by
    show 512 * (t.val % 12) + (b.val / 128 * 128 + (b.val % 128 + 64) % 128) = (512 * (t.val % 12) + b.val) / 128 * 128 + ((512 * (t.val % 12) + b.val) % 128 + 64) % 128
    omega)
  have e2 : (rowB t b).val % 128 = b.val % 128 := by show (512 * (t.val % 12) + b.val) % 128 = _; omega
  have e3 : (tokB t a).val % 768 = a.val := by show (768 * (t.val / 12) + a.val) % 768 = _; omega
  have e4 : (⟨(tokB t a).val / 768, by have := (tokB t a).isLt; omega⟩ : Fin 8) = grid1.coords t 0 := Fin.ext (by
    rw [(coords1 t).1]; show (768 * (t.val / 12) + a.val) / 768 = _; omega)
  rw [e1]
  unfold ang angA posAt
  simp only [e2, e3, e4]

def qArr (s : ℕ) (hs : s < 3) (S : Vec Ideal S48x56 .f32) (P : Vec Ideal S8 .i32) (X : Vec Ideal S6144x7168 .bf16) (W : Vec Ideal S6144x7168 .fp8e4m3) (f : Vec Ideal S1x128 .f32) :
    Vec Ideal S6144x2048 .bf16 := fun y => ropeA S P X W f (y 0) (rowOf s hs (y 1))
def vArr (S : Vec Ideal S48x56 .f32) (X : Vec Ideal S6144x7168 .bf16) (W : Vec Ideal S6144x7168 .fp8e4m3) :
    Vec Ideal S6144x2048 .bf16 := fun y => prodA S X W (y 0) (rowOf 2 (by omega) (y 1))

/-- What a query column's point leaves. -/
theorem left_q (t : Fin cfg1.N) (h : t.val % 12 ≤ 3) (a : Fin 768) (b : Fin 512) :
    (outsAt1 V c t.val t.isLt).1 (ix2 a b) = ropeA (V c (Pipeline.arrRef spec1 0)) (tab1 V c) (V c (Pipeline.arrRef spec1 1)) (V c (Pipeline.arrRef spec1 2)) (V c (Pipeline.arrRef spec1 3)) (tokB t a) (rowB t b) := by
  rw [outsAt1_A V c t h (by omega) (by omega)]
  dsimp only
  rw [outA_apply]
  exact rope_blk V c t a b
/-- What a key column's point leaves. -/
theorem left_k (t : Fin cfg1.N) (h : 4 ≤ t.val % 12 ∧ t.val % 12 ≤ 7) (a : Fin 768) (b : Fin 512) :
    (outsAt1 V c t.val t.isLt).2.1 (ix2 a b) = ropeA (V c (Pipeline.arrRef spec1 0)) (tab1 V c) (V c (Pipeline.arrRef spec1 1)) (V c (Pipeline.arrRef spec1 2)) (V c (Pipeline.arrRef spec1 3)) (tokB t a) (rowB t b) := by
  rw [outsAt1_B V c t (by omega) h (by omega)]
  dsimp only
  rw [outB_apply]
  exact rope_blk V c t a b
/-- What a value column's point leaves. -/
theorem left_v (t : Fin cfg1.N) (h : 8 ≤ t.val % 12) (a : Fin 768) (b : Fin 512) :
    (outsAt1 V c t.val t.isLt).2.2 (ix2 a b) = prodA (V c (Pipeline.arrRef spec1 0)) (V c (Pipeline.arrRef spec1 1)) (V c (Pipeline.arrRef spec1 2)) (tokB t a) (rowB t b) := by
  rw [outsAt1_C V c t (by omega) (by omega) h]
  dsimp only
  rw [outC_apply]
  exact acc_blk V c t a b

theorem q_arr : (dat1 V c).arrAt 4 cfg1.N = qArr 0 (by omega) (V c (Pipeline.arrRef spec1 0)) (tab1 V c) (V c (Pipeline.arrRef spec1 1)) (V c (Pipeline.arrRef spec1 2)) (V c (Pipeline.arrRef spec1 3)) := by
  refine (dat1 V c).arrAt_eq_of_covers 4 _ (by decide +kernel) fun t hf y => ?_
  obtain ⟨e4, e5, e6⟩ := idx1o t
  have hfl := fl4 t hf
  have ht : t.val < 96 := t.isLt
  blk_simp [e4]
  rw [after1_4]
  have hs : (sel4 t).val % 12 = min (t.val % 12) 3 := by unfold sel4; dsimp only; omega
  have hs' : (sel4 t).val / 12 = t.val / 12 := by unfold sel4; dsimp only; omega
  obtain ⟨a, b, rfl⟩ : ∃ (a : Fin 768) (b : Fin 512), y = ix2 a b := ⟨y 0, y 1, eq_ix2 y⟩
  have hemb : (win1_4.blk t).view.emb (ix2 a b) = ix2 (tokB (sel4 t) a) ⟨512 * min (t.val % 12) 3 + b.val, by omega⟩ := by blk_ext [e4, tokB, hs']
  rw [hemb]
  refine (left_q V c (sel4 t) (by omega) a b).trans ?_
  have er : rowB (sel4 t) b = rowOf 0 (by omega) ⟨512 * min (t.val % 12) 3 + b.val, by omega⟩ := Fin.ext (by
    show 512 * ((sel4 t).val % 12) + b.val = 2048 * 0 + (512 * min (t.val % 12) 3 + b.val); omega)
  rw [er]
  rfl

theorem k_arr : (dat1 V c).arrAt 5 cfg1.N = qArr 1 (by omega) (V c (Pipeline.arrRef spec1 0)) (tab1 V c) (V c (Pipeline.arrRef spec1 1)) (V c (Pipeline.arrRef spec1 2)) (V c (Pipeline.arrRef spec1 3)) := by
  refine (dat1 V c).arrAt_eq_of_covers 5 _ (by decide +kernel) fun t hf y => ?_
  obtain ⟨e4, e5, e6⟩ := idx1o t
  have hfl := fl5 t hf
  have ht : t.val < 96 := t.isLt
  blk_simp [e5]
  rw [after1_5]
  have hs : (sel5 t).val % 12 = min (t.val % 12 - 4) 3 + 4 := by unfold sel5; dsimp only; omega
  have hs' : (sel5 t).val / 12 = t.val / 12 := by unfold sel5; dsimp only; omega
  obtain ⟨a, b, rfl⟩ : ∃ (a : Fin 768) (b : Fin 512), y = ix2 a b := ⟨y 0, y 1, eq_ix2 y⟩
  have hemb : (win1_5.blk t).view.emb (ix2 a b) = ix2 (tokB (sel5 t) a) ⟨512 * min (t.val % 12 - 4) 3 + b.val, by omega⟩ := by blk_ext [e5, tokB, hs']
  rw [hemb]
  refine (left_k V c (sel5 t) (by omega) a b).trans ?_
  have er : rowB (sel5 t) b = rowOf 1 (by omega) ⟨512 * min (t.val % 12 - 4) 3 + b.val, by omega⟩ := Fin.ext (by
    show 512 * ((sel5 t).val % 12) + b.val = 2048 * 1 + (512 * min (t.val % 12 - 4) 3 + b.val); omega)
  rw [er]
  rfl

theorem v_arr : (dat1 V c).arrAt 6 cfg1.N = vArr (V c (Pipeline.arrRef spec1 0)) (V c (Pipeline.arrRef spec1 1)) (V c (Pipeline.arrRef spec1 2)) := by
  refine (dat1 V c).arrAt_eq_of_covers 6 _ (by decide +kernel) fun t hf y => ?_
  obtain ⟨e4, e5, e6⟩ := idx1o t
  have hfl := fl6 t hf
  have ht : t.val < 96 := t.isLt
  blk_simp [e6]
  rw [after1_6]
  obtain ⟨a, b, rfl⟩ : ∃ (a : Fin 768) (b : Fin 512), y = ix2 a b := ⟨y 0, y 1, eq_ix2 y⟩
  have hemb : (win1_6.blk t).view.emb (ix2 a b) = ix2 (tokB t a) ⟨512 * (t.val % 12 - 8) + b.val, by omega⟩ := by blk_ext [e6, tokB]
  rw [hemb]
  refine (left_v V c (t) (by omega) a b).trans ?_
  have er : rowB t b = rowOf 2 (by omega) ⟨512 * (t.val % 12 - 8) + b.val, by omega⟩ := Fin.ext (by
    show 512 * (t.val % 12) + b.val = 2048 * 2 + (512 * (t.val % 12 - 8) + b.val); omega)
  rw [er]
  rfl

end Cert.KernelIdeal.Hand
-- ==== Proof.KernelIdealOut.lean ====
/- The kernel's five results, as functions of its arguments. -/
module
public import proofs.«01_k».proof.Proof.KernelIdealMain
public import proofs.«01_k».proof.Proof.KernelIdealQuantArr
public import proofs.«01_k».proof.Proof.KernelIdealQkv
public import Idealize.ShloMosaic.Lib.StableHlo.RunHlo
public import Idealize.ShloMosaic.Lib.Claim
public import Idealize.ShloMosaic.Lib.Pointwise
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

/-- The tokens in one axis, and the norm's weights as a row. -/
def flatX (x : Vec Ideal S4x1536x7168 .bf16) : Vec Ideal S6144x7168 .bf16 := shapeCast S6144x7168 x shapeCasts_S4x1536x7168_S6144x7168
def flatW (w : Vec Ideal S7168 .bf16) : Vec Ideal S1x7168 .bf16 := shapeCast S1x7168 w shapeCasts_S7168_S1x7168

/-- The inverse frequencies. -/
def invF : FVec Ideal S64 .f32 :=
  Host.powf (broadcastInDim S64 ![] bcast_S_S64 (constant S_ FTy.f32 1176256512#32))
    (Host.divf
      (Host.negf
        (addf (broadcastInDim S64 ![] bcast_S_S64 (constant S_ FTy.f32 0#32))
          (mulf (broadcastInDim S64 ![] bcast_S_S64 (constant S_ FTy.f32 1073741824#32))
            (sitofp FTy.f32 (iotaInDim S64 32 0)))))
      (broadcastInDim S64 ![] bcast_S_S64 (constant S_ FTy.f32 1124073472#32)))

def freqV : Vec Ideal S1x128 .f32 :=
  shapeCast S1x128 (concatenate S128 0 [⟨S64, invF⟩, ⟨S64, invF⟩] concatenates_S64_S64_S128_d0) shapeCasts_S128_S1x128

/-- The position of the first token of each block of 768. -/
def posV (p : Vec Ideal S4 .i32) : Vec Ideal S8 .i32 :=
  shapeCast S8
    (addi
      (broadcastInDim S4x2 ![0, 1] bcast_S4x1_S4x2_0_1 (broadcastInDim S4x1 ![0] bcast_S4_S4x1_0 p))
      (broadcastInDim S4x2 ![0, 1] bcast_S1x2_S4x2_0_1
        (broadcastInDim S1x2 ![1] bcast_S2_S1x2_1
          (muli (broadcastInDim S2 ![] bcast_S_S2 (constantI S_ 32 768#32)) (iotaInDim S2 32 0)))))
    shapeCasts_S4x2_S8

theorem freqV_apply (l : Fin 128) : freqV (ix2 0 l) = invF (Idealize.ShloMosaic.ix1 ⟨l.val % 64, by omega⟩) := by
  unfold freqV
  generalize invF = X
  pointwise []
  have hl := l.isLt
  split
  · exact congrArg X (congrArg Idealize.ShloMosaic.ix1 (Fin.ext (by show l.val = l.val % 64; omega)))
  · exact congrArg X (congrArg Idealize.ShloMosaic.ix1 (Fin.ext (by show l.val - 64 = l.val % 64; omega)))

theorem posV_apply (p : Vec Ideal S4 .i32) (q : Fin 8) : posV p (Idealize.ShloMosaic.ix1 q) = p (Idealize.ShloMosaic.ix1 ⟨q.val / 2, by omega⟩) + 768#32 * BitVec.ofNat 32 (q.val % 2) := by
  unfold posV
  pointwise []
  rfl

variable (m : (ℓ : Loc nD τ sig) → Buf (Elt Ideal) ℓ) (ρ : Dev nD → PrngReg) (c : Dev nD)

abbrev a0 : Vec Ideal S4x1536x7168 .bf16 := m ((c : Thread nD τ).loc main_arg0)
abbrev a1 : Vec Ideal S7168 .bf16 := m ((c : Thread nD τ).loc main_arg1)
abbrev a2 : Vec Ideal S6144x7168 .fp8e4m3 := m ((c : Thread nD τ).loc main_arg2)
abbrev a3 : Vec Ideal S48x56 .f32 := m ((c : Thread nD τ).loc main_arg3)
abbrev a4 : Vec Ideal S4 .i32 := m ((c : Thread nD τ).loc main_arg4)

theorem V1_x : V1 m ρ c (Pipeline.arrRef spec0 0) = flatX (a0 m c) := by
  show (W1 m ρ c (Proc.devRef .tc main_v0) : Vec Ideal S6144x7168 .bf16) = flatX (a0 m c)
  unfold_abbrev_sides
  after_results
  rfl
theorem V1_w : V1 m ρ c (Pipeline.arrRef spec0 1) = flatW (a1 m c) := by
  show (W1 m ρ c (Proc.devRef .tc main_v1) : Vec Ideal S1x7168 .bf16) = flatW (a1 m c)
  unfold_abbrev_sides
  after_results
  rfl
theorem V3_ws : V3 m ρ c (Pipeline.arrRef spec1 0) = a3 m c := W3_args m ρ c main_arg3 (by decide)
theorem V3_w : V3 m ρ c (Pipeline.arrRef spec1 2) = a2 m c := W3_args m ρ c main_arg2 (by decide)
theorem V3_xa : V3 m ρ c (Pipeline.arrRef spec1 1) = xaArr (flatX (a0 m c)) (flatW (a1 m c)) := by
  refine (W3_of m ρ c main_v2_2 (by decide)).trans ?_
  refine (W2_arr m ρ c 4).trans ?_
  rw [xa_arr, V1_x, V1_w]
theorem W2_pos : W2 m ρ c (Proc.devRef .tc main_arg4) = a4 m c := W2_args m ρ c main_arg4 (by decide)
theorem V3_pos : tab1 (V3 m ρ) c = posV (a4 m c) := by
  show (W3 m ρ c (Proc.devRef .tc main_v23) : Vec Ideal S8 .i32) = posV (a4 m c)
  unfold_abbrev_sides
  after_results
  rw [W2_pos]
  rfl
theorem V3_freq : V3 m ρ c (Pipeline.arrRef spec1 3) = freqV := by
  show (W3 m ρ c (Proc.devRef .tc main_v14) : Vec Ideal S1x128 .f32) = freqV
  unfold_abbrev_sides
  after_results
  rfl

/-- The kernel's queries (`s = 0`) and keys (`s = 1`). -/
def resQ (s : ℕ) (hs : s < 3) (x : Vec Ideal S4x1536x7168 .bf16) (w : Vec Ideal S7168 .bf16) (W : Vec Ideal S6144x7168 .fp8e4m3) (S : Vec Ideal S48x56 .f32) (p : Vec Ideal S4 .i32) :=
  qArr s hs S (posV p) (xaArr (flatX x) (flatW w)) W freqV

theorem out_q : W4 m ρ c (Proc.devRef .tc main_v24_0) = resQ 0 (by omega) (a0 m c) (a1 m c) (a2 m c) (a3 m c) (a4 m c) := by
  refine (W4_arr m ρ c 4).trans ?_
  rw [q_arr, V3_ws, V3_pos, V3_xa, V3_w, V3_freq]; rfl
theorem out_k : W4 m ρ c (Proc.devRef .tc main_v24_1) = resQ 1 (by omega) (a0 m c) (a1 m c) (a2 m c) (a3 m c) (a4 m c) := by
  refine (W4_arr m ρ c 5).trans ?_
  rw [k_arr, V3_ws, V3_pos, V3_xa, V3_w, V3_freq]; rfl
theorem out_v : W4 m ρ c (Proc.devRef .tc main_v24_2) = vArr (a3 m c) (xaArr (flatX (a0 m c)) (flatW (a1 m c))) (a2 m c) := by
  refine (W4_arr m ρ c 6).trans ?_
  rw [v_arr, V3_ws, V3_xa, V3_w]
theorem out_codes : W4 m ρ c (Proc.devRef .tc main_v2_0) = codeArr (flatX (a0 m c)) (flatW (a1 m c)) := by
  refine (W4_of_ne m ρ c main_v2_0 (by decide)).trans ?_
  refine (W3_of m ρ c main_v2_0 (by decide)).trans ?_
  refine (W2_arr m ρ c 2).trans ?_
  rw [codes_arr, V1_x, V1_w]
theorem out_scale : W4 m ρ c (Proc.devRef .tc main_v2_1) = scaleArr (flatX (a0 m c)) (flatW (a1 m c)) := by
  refine (W4_of_ne m ρ c main_v2_1 (by decide)).trans ?_
  refine (W3_of m ρ c main_v2_1 (by decide)).trans ?_
  refine (W2_arr m ρ c 3).trans ?_
  rw [scale_arr, V1_x, V1_w]

end Cert.KernelIdeal.Hand
-- ==== Proof.ReferenceIdealRow.lean ====
/- The reference's values, element by element: one row's normalised values, scales and codes, the products and their rotation. -/
module
public import proofs.«01_k».proof.Proof.Gen.ReferenceIdeal.Value
public import proofs.«01_k».proof.Proof.Row
public import proofs.«01_k».proof.Proof.KernelIdealOut
public import Idealize.ShloMosaic.Lib.Pointwise
@[expose] public section

set_option maxRecDepth 16384

noncomputable section

namespace Cert.ReferenceIdeal.Hand

open Cert.ReferenceIdeal.Gen
open Idealize.ShloMosaic

/-- The largest magnitude of each group, and the exponent of a scale from it. -/
def gmax (Y : FVec Ideal S6144x56x128 .f32) : FVec Ideal S6144x56 .f32 :=
  multiReduction .maximumf [2] S6144x56 (absf Y) 0xFF800000#32 reduces_S6144x56x128_S6144x56 (.inl rfl) rfl
def gexp (M : FVec Ideal S6144x56 .f32) : FVec Ideal S6144x56 .f32 :=
  select (cmpf .oeq M (broadcast S6144x56 (Scalar.ofBits .f32 0x00000000#32))) (broadcast S6144x56 (Scalar.ofBits .f32 0x00000000#32))
    (addf (floor (divf (log (mulf M (broadcast S6144x56 (Scalar.ofBits .f32 0x3B124925#32)))) (broadcast S6144x56 (Scalar.log (Scalar.ofBits .f32 0x40000000#32)))))
      (broadcast S6144x56 (Scalar.ofBits .f32 0x3F800000#32)))
/-- The scaled values clipped below, from the values and the exponents. -/
def gclip (Y : FVec Ideal S6144x56x128 .f32) (E : FVec Ideal S6144x56 .f32) : FVec Ideal S6144x56x128 .f32 :=
  maximumf (broadcast S6144x56x128 (Scalar.ofBits .f32 0xC3E00000#32))
    (mulf Y (broadcastTo S6144x56x128 (shapeCast S6144x56x1 (exp2 (subf (broadcast S6144x56 (Scalar.ofBits .f32 0x00000000#32)) E)) shapeCasts_S6144x56_S6144x56x1) broadcasts_S6144x56x1_S6144x56x128))

variable (P0 : Vec Ideal S6144x7168 .bf16) (P1 : Vec Ideal S1x7168 .bf16) (P2 : Vec Ideal S6144x7168 .fp8e4m3) (P3 : Vec Ideal S48x56 .f32)
  (P4 : Vec Ideal S6144x1 .i32) (P5 : Vec Ideal S1x64 .f32)
  (Y : FVec Ideal S6144x56x128 .f32) (E M A : FVec Ideal S6144x56 .f32) (B C : FVec Ideal S6144x56x128 .f32)

/-- The body's values as these functions. -/
theorem pay5_eq : k0_pay5 P0 P1 = gexp (gmax (k0_pay4 P0 P1)) := rfl
theorem pay6_eq : k0_pay6 P0 P1 = exp2 (k0_pay5 P0 P1) := rfl
theorem pay7_eq : k0_pay7 P0 P1 = gclip (k0_pay4 P0 P1) (k0_pay5 P0 P1) := rfl

theorem gmax_apply (i : Fin 6144) (g : Fin 56) :
    gmax Y (ix2 i g) = Finset.fold max (Ideal.ofBits FTy.f32 4286578688#32) (fun x : Fin 128 => FloatOps.absf (F := Ideal) (φ := FTy.f32) (Y (ix3 i g x))) Finset.univ := by
  unfold gmax
  pointwise []
theorem gexp_apply (i : Fin 6144) (g : Fin 56) : gexp M (ix2 i g) = Row.ee (M (ix2 i g)) := by
  unfold gexp
  pointwise []
  rfl
theorem gscale_apply (i : Fin 6144) (g : Fin 56) : exp2 E (ix2 i g) = Ideal.exp2 (E (ix2 i g)) := rfl
theorem gclip_apply (i : Fin 6144) (g : Fin 56) (l : Fin 128) :
    gclip Y E (ix3 i g l) = max (Ideal.ofBits FTy.f32 3286237184#32) (Y (ix3 i g l) * Ideal.exp2 (0 - E (ix2 i g))) := by
  unfold gclip
  pointwise []
  rfl

/-- A token's row, and the norm's weights. -/
def tok (i : Fin 6144) : Fin 7168 → EReal := fun k => P0 (ix2 i k)
def wts : Fin 7168 → EReal := fun k => P1 (ix2 0 k)

/-- The normalised values, and from them the largest magnitudes, exponents, scales and clipped values. -/
theorem yy_apply (i : Fin 6144) (g : Fin 56) (l : Fin 128) :
    k0_pay4 P0 P1 (ix3 i g l) = Row.yy (tok P0 i) (wts P1) (Row.col g l) := by
  unfold k0_pay4
  pointwise []
  have hc : (⟨g.val * 128 + l.val, by have := g.isLt; have := l.isLt; omega⟩ : Fin 7168) = Row.col g l := Fin.ext (by show g.val * 128 + l.val = 128 * g.val + l.val; omega)
  rw [hc]
  rfl
theorem gm_apply (i : Fin 6144) (g : Fin 56) : gmax (k0_pay4 P0 P1) (ix2 i g) = Row.gm (tok P0 i) (wts P1) g := by
  rw [gmax_apply]
  refine congrArg (fun f => Finset.fold max (Ideal.ofBits FTy.f32 4286578688#32) f Finset.univ) (funext fun l => ?_)
  rw [yy_apply]
theorem exp_apply (i : Fin 6144) (g : Fin 56) : k0_pay5 P0 P1 (ix2 i g) = Row.ee (Row.gm (tok P0 i) (wts P1) g) := by
  rw [pay5_eq, gexp_apply, gm_apply]
theorem scale_apply (i : Fin 6144) (g : Fin 56) : k0_pay6 P0 P1 (ix2 i g) = Row.sc (Row.gm (tok P0 i) (wts P1) g) := by
  rw [pay6_eq, gscale_apply, exp_apply]; rfl
theorem clip_apply (i : Fin 6144) (g : Fin 56) (l : Fin 128) :
    min (Ideal.ofBits FTy.f32 1138753536#32) (k0_pay7 P0 P1 (ix3 i g l)) = Row.code (Row.yy (tok P0 i) (wts P1) (Row.col g l)) (Row.iv (Row.gm (tok P0 i) (wts P1) g)) := by
  rw [pay7_eq, gclip_apply, yy_apply, exp_apply]; rfl

/-- The codes from the clipped values. -/
theorem codes_pay (i : Fin 6144) (k : Fin 7168) :
    k0_pay10 (F := Ideal) B k0_pay8 (ix2 i k) = min (Ideal.ofBits FTy.f32 1138753536#32) (B (ix3 i ⟨k.val / 128, by omega⟩ ⟨k.val % 128, by omega⟩)) := by
  pointwise [k0_pay10, k0_pay9, k0_pay8]
/-- The products from the scales and the clipped values. -/
theorem prod_pay (i : Fin 6144) (h : Fin 48) (l : Fin 128) :
    k0_pay11 (F := Ideal) A B k0_pay8 P2 P3 (ix3 i h l)
      = ∑ x : Fin 7168, min (Ideal.ofBits FTy.f32 1138753536#32) (B (ix3 i ⟨x.val / 128, by omega⟩ ⟨x.val % 128, by omega⟩)) * A (ix2 i ⟨x.val / 128, by omega⟩)
          * (P2 (ix2 ⟨h.val * 128 + l.val, by omega⟩ x) * P3 (ix2 h ⟨x.val / 128, by omega⟩)) := by
  pointwise [k0_pay11, k0_pay9, k0_pay8]

/-- The cosines and the signed sines of a token's angles, the two halves of a head in turn. -/
theorem rot_cos (i : Fin 6144) (l : Fin 128) :
    k0_pay13 P4 P5 (ix3 i 0 l) = Ideal.cos (FloatOps.sitofp (F := Ideal) FTy.f32 (P4 (ix2 i 0)) * P5 (ix2 0 ⟨l.val % 64, by omega⟩)) := by
  pointwise [k0_pay13, k0_pay12]
  have hl := l.isLt
  split
  · have h : (⟨l.val, by omega⟩ : Fin 64) = ⟨l.val % 64, by omega⟩ := Fin.ext (by show l.val = l.val % 64; omega)
    rw [h]
  · have h : (⟨l.val - 64, by omega⟩ : Fin 64) = ⟨l.val % 64, by omega⟩ := Fin.ext (by show l.val - 64 = l.val % 64; omega)
    rw [h]
theorem rot_sin (i : Fin 6144) (l : Fin 128) :
    k0_pay14 P4 P5 (ix3 i 0 l) = if l.val < 64 then 0 - Ideal.sin (FloatOps.sitofp (F := Ideal) FTy.f32 (P4 (ix2 i 0)) * P5 (ix2 0 ⟨l.val % 64, by omega⟩))
      else Ideal.sin (FloatOps.sitofp (F := Ideal) FTy.f32 (P4 (ix2 i 0)) * P5 (ix2 0 ⟨l.val % 64, by omega⟩)) := by
  pointwise [k0_pay14, k0_pay12]
  have hl := l.isLt
  split
  · have h : (⟨l.val, by omega⟩ : Fin 64) = ⟨l.val % 64, by omega⟩ := Fin.ext (by show l.val = l.val % 64; omega)
    rw [h]
  · have h : (⟨l.val - 64, by omega⟩ : Fin 64) = ⟨l.val % 64, by omega⟩ := Fin.ext (by show l.val - 64 = l.val % 64; omega)
    rw [h]

open Cert.KernelIdeal.Hand (rowOf half prodA grp)

/-- The products of a token with every weight row, the heads in one axis. -/
def flat (T : FVec Ideal S6144x48x128 .f32) (i r : Fin 6144) : EReal := T (ix3 i ⟨r.val / 128, by omega⟩ ⟨r.val % 128, by omega⟩)

/-- Half a head away in the rolled products, and the product itself, by the weight's row. -/
theorem partner (T : FVec Ideal S6144x48x128 .f32) (i : Fin 6144) (s : ℕ) (hs : s < 3) (k : Fin 2048) (h : Fin 48) (hh : h.val = 16 * s + k.val / 128) :
    (if hk : k.val % 128 < 64 then T (ix3 i h ⟨64 + k.val % 128, by omega⟩) else T (ix3 i h ⟨k.val % 128 - 64, by omega⟩)) = flat T i (half (rowOf s hs k)) := by
  have hk2 := k.isLt
  have e : (⟨(half (rowOf s hs k)).val / 128, by omega⟩ : Fin 48) = h := Fin.ext (by show ((2048 * s + k.val) / 128 * 128 + ((2048 * s + k.val) % 128 + 64) % 128) / 128 = h.val; omega)
  unfold flat
  rw [e]
  split
  · exact congrArg T (congrArg (ix3 i h) (Fin.ext (by show 64 + k.val % 128 = ((2048 * s + k.val) / 128 * 128 + ((2048 * s + k.val) % 128 + 64) % 128) % 128; omega)))
  · exact congrArg T (congrArg (ix3 i h) (Fin.ext (by show k.val % 128 - 64 = ((2048 * s + k.val) / 128 * 128 + ((2048 * s + k.val) % 128 + 64) % 128) % 128; omega)))
theorem itself (T : FVec Ideal S6144x48x128 .f32) (i : Fin 6144) (s : ℕ) (hs : s < 3) (k : Fin 2048) (h : Fin 48) (hh : h.val = 16 * s + k.val / 128) :
    T (ix3 i h ⟨k.val % 128, by omega⟩) = flat T i (rowOf s hs k) := by
  have hk2 := k.isLt
  exact congrArg T (congrArg₂ (ix3 i) (Fin.ext (by show h.val = (2048 * s + k.val) / 128; omega)) (Fin.ext (by show k.val % 128 = (2048 * s + k.val) % 128; omega)))

/-- The rotated queries, the rotated keys and the values, from the products. -/
theorem q_pay (V : FVec Ideal S6144x1x128 .f32) (i : Fin 6144) (k : Fin 2048) :
    k0_pay1 V (k0_pay16 A B C P2 P3 P4 P5) (k0_pay17 A B C P2 P3) (ix2 i k)
      = flat (k0_pay11 A B C P2 P3) i (rowOf 0 (by omega) k) * k0_pay13 P4 P5 (ix3 i 0 ⟨k.val % 128, by omega⟩)
        + flat (k0_pay11 A B C P2 P3) i (half (rowOf 0 (by omega) k)) * V (ix3 i 0 ⟨k.val % 128, by omega⟩) := by
  unfold k0_pay1 k0_pay16 k0_pay17 k0_pay15
  generalize k0_pay11 A B C P2 P3 = T
  generalize k0_pay13 P4 P5 = U
  rw [← partner T i 0 (by omega) k ⟨k.val / 128, by omega⟩ (by show k.val / 128 = 16 * 0 + k.val / 128; omega), ← itself T i 0 (by omega) k ⟨k.val / 128, by omega⟩ (by show k.val / 128 = 16 * 0 + k.val / 128; omega)]
  pointwise []
theorem k_pay (T : FVec Ideal S6144x48x128 .f32) (U V : FVec Ideal S6144x1x128 .f32) (i : Fin 6144) (k : Fin 2048) :
    k0_pay2 T U V (ix2 i k)
      = flat T i (rowOf 1 (by omega) k) * U (ix3 i 0 ⟨k.val % 128, by omega⟩) + flat T i (half (rowOf 1 (by omega) k)) * V (ix3 i 0 ⟨k.val % 128, by omega⟩) := by
  rw [← partner T i 1 (by omega) k ⟨16 + k.val / 128, by omega⟩ (by show 16 + k.val / 128 = 16 * 1 + k.val / 128; omega), ← itself T i 1 (by omega) k ⟨16 + k.val / 128, by omega⟩ (by show 16 + k.val / 128 = 16 * 1 + k.val / 128; omega)]
  pointwise [k0_pay2]
theorem v_pay (T : FVec Ideal S6144x48x128 .f32) (i : Fin 6144) (k : Fin 2048) :
    k0_pay3 T (ix2 i k) = flat T i (rowOf 2 (by omega) k) := by
  rw [← itself T i 2 (by omega) k ⟨32 + k.val / 128, by omega⟩ (by show 32 + k.val / 128 = 16 * 2 + k.val / 128; omega)]
  pointwise [k0_pay3]

/-- The five results, from the reference's arguments. -/
def codeR : Vec Ideal S6144x7168 .fp8e4m3 := fun y =>
  Row.code (Row.yy (tok P0 (y 0)) (wts P1) (y 1)) (Row.iv (Row.gm (tok P0 (y 0)) (wts P1) (grp (y 1))))
def scaleR : Vec Ideal S6144x56 .f32 := fun y => Row.sc (Row.gm (tok P0 (y 0)) (wts P1) (y 1))
def xaR : Vec Ideal S6144x7168 .bf16 := fun y =>
  Row.code (Row.yy (tok P0 (y 0)) (wts P1) (y 1)) (Row.iv (Row.gm (tok P0 (y 0)) (wts P1) (grp (y 1)))) * Row.sc (Row.gm (tok P0 (y 0)) (wts P1) (grp (y 1)))
def angR (i : Fin 6144) (k : Fin 2048) : EReal := FloatOps.sitofp (F := Ideal) FTy.f32 (P4 (ix2 i 0)) * P5 (ix2 0 ⟨k.val % 64, by omega⟩)
def rotR (s : ℕ) (hs : s < 3) : Vec Ideal S6144x2048 .bf16 := fun y =>
  Row.rope (prodA P3 (xaR P0 P1) P2 (y 0) (rowOf s hs (y 1))) (prodA P3 (xaR P0 P1) P2 (y 0) (half (rowOf s hs (y 1)))) (angR P4 P5 (y 0) (y 1)) ((y 1).val % 128)
def valR : Vec Ideal S6144x2048 .bf16 := fun y => prodA P3 (xaR P0 P1) P2 (y 0) (rowOf 2 (by omega) (y 1))

theorem col_grp (x : Fin 7168) : Row.col ⟨x.val / 128, by omega⟩ ⟨x.val % 128, by omega⟩ = x := Fin.ext (by show 128 * (x.val / 128) + x.val % 128 = x.val; omega)

/-- The body's five stored values as these results. -/
theorem codes_eq : k0_pay10 (F := Ideal) (k0_pay7 P0 P1) k0_pay8 = codeR P0 P1 := by
  funext y
  obtain ⟨i, k, rfl⟩ : ∃ (i : Fin 6144) (k : Fin 7168), y = ix2 i k := ⟨y 0, y 1, eq_ix2 y⟩
  refine (codes_pay (k0_pay7 P0 P1) i k).trans ?_
  rw [clip_apply, col_grp]
  rfl
theorem scale_eq : k0_pay6 P0 P1 = scaleR P0 P1 := by
  funext y
  obtain ⟨i, g, rfl⟩ : ∃ (i : Fin 6144) (g : Fin 56), y = ix2 i g := ⟨y 0, y 1, eq_ix2 y⟩
  exact scale_apply P0 P1 i g
theorem prod_eq (i r : Fin 6144) : flat (k0_pay11 (F := Ideal) (k0_pay6 P0 P1) (k0_pay7 P0 P1) k0_pay8 P2 P3) i r = prodA P3 (xaR P0 P1) P2 i r := by
  refine (prod_pay P2 P3 (k0_pay6 P0 P1) (k0_pay7 P0 P1) i ⟨r.val / 128, by omega⟩ ⟨r.val % 128, by omega⟩).trans ?_
  refine Finset.sum_congr rfl fun x _ => ?_
  rw [clip_apply, scale_apply, col_grp]
  have hr : (⟨r.val / 128 * 128 + r.val % 128, by omega⟩ : Fin 6144) = r := Fin.ext (by show r.val / 128 * 128 + r.val % 128 = r.val; omega)
  rw [show (⟨(⟨r.val / 128, by omega⟩ : Fin 48).val * 128 + (⟨r.val % 128, by omega⟩ : Fin 128).val, by show r.val / 128 * 128 + r.val % 128 < 6144; omega⟩ : Fin 6144) = r from hr]
  rfl
theorem v_eq : k0_pay3 (k0_pay11 (F := Ideal) (k0_pay6 P0 P1) (k0_pay7 P0 P1) k0_pay8 P2 P3) = valR P0 P1 P2 P3 := by
  funext y
  obtain ⟨i, k, rfl⟩ : ∃ (i : Fin 6144) (k : Fin 2048), y = ix2 i k := ⟨y 0, y 1, eq_ix2 y⟩
  refine (v_pay _ i k).trans ?_
  exact prod_eq P0 P1 P2 P3 i _
theorem rot_lane (k : Fin 2048) : (⟨(⟨k.val % 128, by omega⟩ : Fin 128).val % 64, by omega⟩ : Fin 64) = ⟨k.val % 64, by omega⟩ := Fin.ext (by show k.val % 128 % 64 = k.val % 64; omega)
theorem k_eq : k0_pay2 (k0_pay11 (F := Ideal) (k0_pay6 P0 P1) (k0_pay7 P0 P1) k0_pay8 P2 P3) (k0_pay13 P4 P5) (k0_pay14 P4 P5) = rotR P0 P1 P2 P3 P4 P5 1 (by omega) := by
  funext y
  obtain ⟨i, k, rfl⟩ : ∃ (i : Fin 6144) (k : Fin 2048), y = ix2 i k := ⟨y 0, y 1, eq_ix2 y⟩
  refine (k_pay _ _ _ i k).trans ?_
  rw [prod_eq, prod_eq, rot_cos, rot_sin, rot_lane]
  rfl
theorem q_eq : k0_pay1 (k0_pay14 P4 P5) (k0_pay16 (F := Ideal) (k0_pay6 P0 P1) (k0_pay7 P0 P1) k0_pay8 P2 P3 P4 P5) (k0_pay17 (k0_pay6 P0 P1) (k0_pay7 P0 P1) k0_pay8 P2 P3)
    = rotR P0 P1 P2 P3 P4 P5 0 (by omega) := by
  funext y
  obtain ⟨i, k, rfl⟩ : ∃ (i : Fin 6144) (k : Fin 2048), y = ix2 i k := ⟨y 0, y 1, eq_ix2 y⟩
  refine (q_pay P2 P3 P4 P5 _ _ _ _ i k).trans ?_
  rw [prod_eq, prod_eq, rot_cos, rot_sin, rot_lane]
  rfl

end Cert.ReferenceIdeal.Hand
-- ==== Proof.ReferenceIdealOut.lean ====
/- The reference's five results, as functions of its arguments. -/
module
public import proofs.«01_k».proof.Proof.ReferenceIdealRow
public import Idealize.ShloMosaic.Lib.Pipeline.ValueKit
public import Idealize.ShloMosaic.Lib.StableHlo.RunHlo
public import Idealize.ShloMosaic.Lib.Claim
public import Idealize.ShloMosaic.Lib.Pointwise
@[expose] public section

set_option maxRecDepth 16384

noncomputable section

namespace Cert.ReferenceIdeal.Hand

open Cert.ReferenceIdeal.Gen
open Idealize.ShloMosaic Idealize.ShloMosaic.TcCoe Idealize.ShloMosaic.Tactic
open Idealize.ShloMosaic.Pipeline (Dat Cfg Window BodyObligation cellOf)

/-- The position of each token, and the inverse frequencies as a row. -/
def posR (p : Vec Ideal S4 .i32) : Vec Ideal S6144x1 .i32 :=
  shapeCast S6144x1
    (addi (broadcastInDim S4x1536 ![0, 1] bcast_S4x1_S4x1536_0_1 (broadcastInDim S4x1 ![0] bcast_S4_S4x1_0 p))
      (broadcastInDim S4x1536 ![0, 1] bcast_S1x1536_S4x1536_0_1 (broadcastInDim S1x1536 ![1] bcast_S1536_S1x1536_1 (iotaInDim S1536 32 0))))
    shapeCasts_S4x1536_S6144x1
def freqR : Vec Ideal S1x64 .f32 := shapeCast S1x64 Cert.KernelIdeal.Hand.invF shapeCasts_S64_S1x64

theorem freqR_apply (l : Fin 64) : freqR (ix2 0 l) = Cert.KernelIdeal.Hand.invF (ix1 l) := by
  unfold freqR
  generalize Cert.KernelIdeal.Hand.invF = X
  pointwise []
theorem posR_apply (p : Vec Ideal S4 .i32) (i : Fin 6144) :
    posR p (ix2 i 0) = p (ix1 ⟨i.val / 1536, by omega⟩) + BitVec.ofNat 32 (i.val % 1536) := by
  unfold posR
  pointwise []
  rfl

variable (m : (ℓ : Loc nD τ sig) → Buf (Elt Ideal) ℓ) (c : Dev nD)

abbrev a0 : Vec Ideal S4x1536x7168 .bf16 := m ((c : Thread nD τ).loc main_arg0)
abbrev a1 : Vec Ideal S7168 .bf16 := m ((c : Thread nD τ).loc main_arg1)
abbrev a2 : Vec Ideal S6144x7168 .fp8e4m3 := m ((c : Thread nD τ).loc main_arg2)
abbrev a3 : Vec Ideal S48x56 .f32 := m ((c : Thread nD τ).loc main_arg3)
abbrev a4 : Vec Ideal S4 .i32 := m ((c : Thread nD τ).loc main_arg4)
open Cert.KernelIdeal.Hand (flatX flatW)

/-- The arrays the host lines hand to the reference's body. -/
theorem V_x : V m c (Pipeline.arrRef spec0 0) = flatX (a0 m c) := by
  show (V m c main_v16 : Vec Ideal S6144x7168 .bf16) = flatX (a0 m c)
  unfold_abbrev_sides
  after_results
  rfl
theorem V_w : V m c (Pipeline.arrRef spec0 1) = flatW (a1 m c) := by
  show (V m c main_v17 : Vec Ideal S1x7168 .bf16) = flatW (a1 m c)
  unfold_abbrev_sides
  after_results
  rfl
theorem V_pos : V m c (Pipeline.arrRef spec0 4) = posR (a4 m c) := by
  show (V m c main_v18 : Vec Ideal S6144x1 .i32) = posR (a4 m c)
  unfold_abbrev_sides
  after_results
  rfl
theorem V_freq : V m c (Pipeline.arrRef spec0 5) = freqR := by
  show (V m c main_v19 : Vec Ideal S1x64 .f32) = freqR
  unfold_abbrev_sides
  after_results
  rfl

theorem idxR : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] := by decide +kernel
theorem idxO : ∀ t : Fin grid0.N, win0_6.index t = ![0, 0] ∧ win0_7.index t = ![0, 0] ∧ win0_8.index t = ![0, 0] ∧ win0_9.index t = ![0, 0]
    ∧ win0_10.index t = ![0, 0] := by decide +kernel

/-- A window's one block is its whole array. -/
theorem blk_x (t : Fin cfg0.N) : iblk m c 0 t = flatX (a0 m c) := by
  rw [← V_x]
  funext y
  obtain ⟨i, k, rfl⟩ : ∃ (i : Fin 6144) (k : Fin 7168), y = ix2 i k := ⟨y 0, y 1, eq_ix2 y⟩
  obtain ⟨e0, e1, e2, e3, e4, e5⟩ := idxR t
  blk_ext [iblk, e0]
theorem blk_w (t : Fin cfg0.N) : iblk m c 1 t = flatW (a1 m c) := by
  rw [← V_w]
  funext y
  obtain ⟨i, k, rfl⟩ : ∃ (i : Fin 1) (k : Fin 7168), y = ix2 i k := ⟨y 0, y 1, eq_ix2 y⟩
  obtain ⟨e0, e1, e2, e3, e4, e5⟩ := idxR t
  blk_ext [iblk, e1]
theorem blk_W (t : Fin cfg0.N) : iblk m c 2 t = a2 m c := by
  refine Eq.trans ?_ (V_main_arg2 m c)
  funext y
  obtain ⟨i, k, rfl⟩ : ∃ (i : Fin 6144) (k : Fin 7168), y = ix2 i k := ⟨y 0, y 1, eq_ix2 y⟩
  obtain ⟨e0, e1, e2, e3, e4, e5⟩ := idxR t
  blk_ext [iblk, e2]
theorem blk_S (t : Fin cfg0.N) : iblk m c 3 t = a3 m c := by
  refine Eq.trans ?_ (V_main_arg3 m c)
  funext y
  obtain ⟨i, k, rfl⟩ : ∃ (i : Fin 48) (k : Fin 56), y = ix2 i k := ⟨y 0, y 1, eq_ix2 y⟩
  obtain ⟨e0, e1, e2, e3, e4, e5⟩ := idxR t
  blk_ext [iblk, e3]
theorem blk_pos (t : Fin cfg0.N) : iblk m c 4 t = posR (a4 m c) := by
  rw [← V_pos]
  funext y
  obtain ⟨i, k, rfl⟩ : ∃ (i : Fin 6144) (k : Fin 1), y = ix2 i k := ⟨y 0, y 1, eq_ix2 y⟩
  obtain ⟨e0, e1, e2, e3, e4, e5⟩ := idxR t
  blk_ext [iblk, e4]
theorem blk_freq (t : Fin cfg0.N) : iblk m c 5 t = freqR := by
  rw [← V_freq]
  funext y
  obtain ⟨i, k, rfl⟩ : ∃ (i : Fin 1) (k : Fin 64), y = ix2 i k := ⟨y 0, y 1, eq_ix2 y⟩
  obtain ⟨e0, e1, e2, e3, e4, e5⟩ := idxR t
  blk_ext [iblk, e5]

variable (x0 : Vec Ideal S6144x7168 .bf16) (x1 : Vec Ideal S1x7168 .bf16) (x2 : Vec Ideal S6144x7168 .fp8e4m3) (x3 : Vec Ideal S48x56 .f32)
  (x4 : Vec Ideal S6144x1 .i32) (x5 : Vec Ideal S1x64 .f32)

/-- What the reference's body stores, result by result. -/
theorem out10 : out0_10 x0 x1 x2 x3 x4 x5 = scaleR x0 x1 := by
  unfold out0_10 k0_pay18
  rw [View.ld_unit_lit _ _ (by decide), View.ld_unit_lit _ _ (by decide), scale_eq]
  exact View.canon_unit_zero (Val := Elt Ideal) (S := S6144x56) (e := .f32) (by decide) _ _
theorem out9 : out0_9 x0 x1 x2 x3 x4 x5 = codeR x0 x1 := by
  unfold out0_9 k0_pay20 k0_pay19
  rw [View.ld_unit_lit _ _ (by decide), View.ld_unit_lit _ _ (by decide), codes_eq]
  exact View.canon_unit_zero (Val := Elt Ideal) (S := S6144x7168) (e := .fp8e4m3) (by decide) _ _
theorem out8 : out0_8 x0 x1 x2 x3 x4 x5 = valR x0 x1 x2 x3 := by
  unfold out0_8 k0_pay21 k0_pay20 k0_pay19 k0_pay18
  rw [View.ld_unit_lit _ x0 (by decide), View.ld_unit_lit _ x1 (by decide), View.ld_unit_lit _ x2 (by decide), View.ld_unit_lit _ x3 (by decide), v_eq]
  exact View.canon_unit_zero (Val := Elt Ideal) (S := S6144x2048) (e := .bf16) (by decide) _ _
theorem out7 : out0_7 x0 x1 x2 x3 x4 x5 = rotR x0 x1 x2 x3 x4 x5 1 (by omega) := by
  unfold out0_7 k0_pay22 k0_pay21 k0_pay20 k0_pay19 k0_pay18
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), k_eq]
  exact View.canon_unit_zero (Val := Elt Ideal) (S := S6144x2048) (e := .bf16) (by decide) _ _
theorem out6 : out0_6 x0 x1 x2 x3 x4 x5 = rotR x0 x1 x2 x3 x4 x5 0 (by omega) := by
  unfold out0_6 k0_pay22 k0_pay20 k0_pay19 k0_pay18
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), q_eq]
  exact View.canon_unit_zero (Val := Elt Ideal) (S := S6144x2048) (e := .bf16) (by decide) _ _

/-- The reference's scales. -/
theorem arr10 : (dats m 0 c).arrAt 10 cfg0.N = scaleR (flatX (a0 m c)) (flatW (a1 m c)) := by
  refine (dats m 0 c).arrAt_eq_of_covers 10 _ (by decide +kernel) fun t hf y => ?_
  obtain ⟨e0, e1, e2, e3, e4⟩ := idxO t
  blk_simp [e4]
  rw [after0_10, out10, blk_x, blk_w]
  obtain ⟨i, k, rfl⟩ : ∃ (i : Fin 6144) (k : Fin 56), y = ix2 i k := ⟨y 0, y 1, eq_ix2 y⟩
  have hemb : (win0_10.blk t).view.emb (ix2 i k) = ix2 i k := by blk_ext [e4]
  rw [hemb]
/-- The reference's codes. -/
theorem arr9 : (dats m 0 c).arrAt 9 cfg0.N = codeR (flatX (a0 m c)) (flatW (a1 m c)) := by
  refine (dats m 0 c).arrAt_eq_of_covers 9 _ (by decide +kernel) fun t hf y => ?_
  obtain ⟨e0, e1, e2, e3, e4⟩ := idxO t
  blk_simp [e3]
  rw [after0_9, out9, blk_x, blk_w]
  obtain ⟨i, k, rfl⟩ : ∃ (i : Fin 6144) (k : Fin 7168), y = ix2 i k := ⟨y 0, y 1, eq_ix2 y⟩
  have hemb : (win0_9.blk t).view.emb (ix2 i k) = ix2 i k := by blk_ext [e3]
  rw [hemb]
/-- The reference's values. -/
theorem arr8 : (dats m 0 c).arrAt 8 cfg0.N = valR (flatX (a0 m c)) (flatW (a1 m c)) (a2 m c) (a3 m c) := by
  refine (dats m 0 c).arrAt_eq_of_covers 8 _ (by decide +kernel) fun t hf y => ?_
  obtain ⟨e0, e1, e2, e3, e4⟩ := idxO t
  blk_simp [e2]
  rw [after0_8, out8, blk_x, blk_w, blk_W, blk_S]
  obtain ⟨i, k, rfl⟩ : ∃ (i : Fin 6144) (k : Fin 2048), y = ix2 i k := ⟨y 0, y 1, eq_ix2 y⟩
  have hemb : (win0_8.blk t).view.emb (ix2 i k) = ix2 i k := by blk_ext [e2]
  rw [hemb]
/-- The reference's rotated keys. -/
theorem arr7 : (dats m 0 c).arrAt 7 cfg0.N = rotR (flatX (a0 m c)) (flatW (a1 m c)) (a2 m c) (a3 m c) (posR (a4 m c)) freqR 1 (by omega) := by
  refine (dats m 0 c).arrAt_eq_of_covers 7 _ (by decide +kernel) fun t hf y => ?_
  obtain ⟨e0, e1, e2, e3, e4⟩ := idxO t
  blk_simp [e1]
  rw [after0_7, out7, blk_x, blk_w, blk_W, blk_S, blk_pos, blk_freq]
  obtain ⟨i, k, rfl⟩ : ∃ (i : Fin 6144) (k : Fin 2048), y = ix2 i k := ⟨y 0, y 1, eq_ix2 y⟩
  have hemb : (win0_7.blk t).view.emb (ix2 i k) = ix2 i k := by blk_ext [e1]
  rw [hemb]
/-- The reference's rotated queries. -/
theorem arr6 : (dats m 0 c).arrAt 6 cfg0.N = rotR (flatX (a0 m c)) (flatW (a1 m c)) (a2 m c) (a3 m c) (posR (a4 m c)) freqR 0 (by omega) := by
  refine (dats m 0 c).arrAt_eq_of_covers 6 _ (by decide +kernel) fun t hf y => ?_
  obtain ⟨e0, e1, e2, e3, e4⟩ := idxO t
  blk_simp [e0]
  rw [after0_6, out6, blk_x, blk_w, blk_W, blk_S, blk_pos, blk_freq]
  obtain ⟨i, k, rfl⟩ : ∃ (i : Fin 6144) (k : Fin 2048), y = ix2 i k := ⟨y 0, y 1, eq_ix2 y⟩
  have hemb : (win0_6.blk t).view.emb (ix2 i k) = ix2 i k := by blk_ext [e0]
  rw [hemb]

end Cert.ReferenceIdeal.Hand
-- ==== Proof.Equal.lean ====
/- In the range of the precondition the kernel's five results are the reference's. -/
module
public import proofs.«01_k».proof.Proof.ReferenceIdealOut
public import proofs.«01_k».proof.Proof.Gen.Pre_in_range
public import Idealize.ShloMosaic.Lib.Pointwise
@[expose] public section

set_option maxRecDepth 16384

noncomputable section

namespace Cert.Equal

open Idealize.ShloMosaic
open Cert.KernelIdeal (S4x1536x7168 S7168 S6144x7168 S1x7168 S48x56 S4 S6144x56 S6144x2048)
open Cert.KernelIdeal.Hand (flatX flatW resQ vArr xaArr codeArr scaleArr posV freqV qArr prodA half rowOf grp)
open Cert.ReferenceIdeal.Hand (codeR scaleR xaR valR rotR posR freqR)

variable (x : Vec Ideal S4x1536x7168 .bf16) (w : Vec Ideal S7168 .bf16) (W : Vec Ideal S6144x7168 .fp8e4m3) (S : Vec Ideal S48x56 .f32) (p : Vec Ideal S4 .i32)

/-- A number whose magnitude is 0 or between `2^-a` and `2^b` is in the range. -/
theorem rng_of (v : EReal) (a b : ℤ) (A B : EReal) (hA : A = (((2 : ℝ) ^ (-a) : ℝ) : EReal)) (hB : B = (((2 : ℝ) ^ b : ℝ) : EReal))
    (h : FloatOps.absf (F := Ideal) (φ := FTy.f32) v = (0 : EReal) ∨ A ≤ FloatOps.absf (F := Ideal) (φ := FTy.f32) v ∧ FloatOps.absf (F := Ideal) (φ := FTy.f32) v ≤ B) : Row.Rng a b v := by
  have habs : FloatOps.absf (F := Ideal) (φ := FTy.f32) v = max v (-v) := rfl
  rw [habs, hA, hB] at h
  induction v with
  | bot =>
    exfalso
    rcases h with h | ⟨-, h⟩
    · simp at h
    · simp at h
  | top =>
    exfalso
    rcases h with h | ⟨-, h⟩
    · simp at h
    · simp at h
  | coe r =>
    refine ⟨r, rfl, ?_⟩
    have e : max (r : EReal) (-(r : EReal)) = ((|r| : ℝ) : EReal) := by
      rw [← EReal.coe_neg, abs_eq_max_neg]; exact ((EReal.coe_strictMono.monotone).map_max (a := r) (b := -r)).symm
    rw [e] at h
    rcases h with h | ⟨h1, h2⟩
    · exact Or.inl (abs_eq_zero.mp (by exact_mod_cast h))
    · exact Or.inr ⟨by exact_mod_cast h1, by exact_mod_cast h2⟩

/-- A bit `a or (b and c)` that is one says so of its parts. -/
theorem or_and (a b c : Bool) : IntOp.ori (BitVec.ofBool a) (IntOp.andi (BitVec.ofBool b) (BitVec.ofBool c)) = 1#1 → a = true ∨ b = true ∧ c = true := by
  revert a b c; decide

/-- A float constant that is a power of two. -/
theorem pow_const (n : ℕ) (h1 : 1 ≤ n) (h2 : n ≤ 254) (b : BitVec 32) (hb : IntOp.shli ArithUnit.vector (BitVec.ofNat 32 n) 23#32 = b) :
    Ideal.ofBits FTy.f32 b = (((2 : ℝ) ^ ((n : ℤ) - 127) : ℝ) : EReal) := hb ▸ Row.bits_pow n h1 h2

/-- The precondition, of one activation. -/
theorem pre_x (h : (Cert.Pre_in_range.fn (F := Ideal) x w W S p).1 = fun _ => 1#1) (i : Fin 4) (j : Fin 1536) (k : Fin 7168) : Row.Rng 40 60 (x (ix3 i j k)) := by
  have := congrFun h (ix3 i j k)
  revert this
  unfold Cert.Pre_in_range.fn Cert.Pre_in_range.fn_part1
  dsimp only
  pointwise []
  intro h
  have h := or_and _ _ _ h
  simp only [decide_eq_true_eq] at h
  exact rng_of _ 40 60 _ _ (pow_const 87 (by omega) (by omega) _ (by decide)) (pow_const 187 (by omega) (by omega) _ (by decide)) h
/-- The precondition, of one norm weight. -/
theorem pre_w (h : (Cert.Pre_in_range.fn (F := Ideal) x w W S p).2 = fun _ => 1#1) (k : Fin 7168) : Row.Rng 10 10 (w (ix1 k)) := by
  have := congrFun h (ix1 k)
  revert this
  unfold Cert.Pre_in_range.fn Cert.Pre_in_range.fn_part1
  dsimp only
  pointwise []
  intro h
  have h := or_and _ _ _ h
  simp only [decide_eq_true_eq] at h
  exact rng_of _ 10 10 _ _ (pow_const 117 (by omega) (by omega) _ (by decide)) (pow_const 137 (by omega) (by omega) _ (by decide)) h

theorem flatX_apply (i : Fin 6144) (k : Fin 7168) : flatX x (ix2 i k) = x (ix3 ⟨i.val / 1536, by omega⟩ ⟨i.val % 1536, by omega⟩ k) := by
  unfold flatX
  pointwise []
theorem flatW_apply (k : Fin 7168) : flatW w (ix2 0 k) = w (ix1 k) := by
  unfold flatW
  pointwise []

/-- Every group's scale and its inverse agree. -/
def Agree (A : Vec Ideal S6144x7168 .bf16) (B : Vec Ideal S1x7168 .bf16) : Prop := ∀ (i : Fin 6144) (g : Fin 56),
  Row.sck (Row.gm (Cert.ReferenceIdeal.Hand.tok A i) (Cert.ReferenceIdeal.Hand.wts B) g) = Row.sc (Row.gm (Cert.ReferenceIdeal.Hand.tok A i) (Cert.ReferenceIdeal.Hand.wts B) g)
  ∧ Row.ivk (Row.gm (Cert.ReferenceIdeal.Hand.tok A i) (Cert.ReferenceIdeal.Hand.wts B) g) = Row.iv (Row.gm (Cert.ReferenceIdeal.Hand.tok A i) (Cert.ReferenceIdeal.Hand.wts B) g)

/-- Under the precondition every group's scale and inverse, built from an exponent's bits, are the powers of two. -/
theorem agree (h1 : (Cert.Pre_in_range.fn (F := Ideal) x w W S p).1 = fun _ => 1#1) (h2 : (Cert.Pre_in_range.fn (F := Ideal) x w W S p).2 = fun _ => 1#1) :
    Agree (flatX x) (flatW w) := fun i g =>
  Row.gm_range _ _ (fun k => cast (congrArg (Row.Rng 40 60) (flatX_apply x i k).symm) (pre_x x w W S p h1 _ _ k)) (fun k => cast (congrArg (Row.Rng 10 10) (flatW_apply w k).symm) (pre_w x w W S p h2 k)) g

variable (A : Vec Ideal S6144x7168 .bf16) (B : Vec Ideal S1x7168 .bf16) (H : Agree A B)
include H

/-- The codes agree. -/
theorem codes_same : codeArr A B = codeR A B := by
  funext y
  exact congrArg (Row.code _) (H (y 0) (grp (y 1))).2
/-- The scales agree. -/
theorem scale_same : scaleArr A B = scaleR A B := by
  funext y
  exact (H (y 0) (y 1)).1
/-- So do the dequantised activations. -/
theorem xa_same : xaArr A B = xaR A B := by
  funext y
  exact congrArg₂ (fun a b : EReal => a * b) (congrArg (Row.code _) (H (y 0) (grp (y 1))).2) (H (y 0) (grp (y 1))).1
omit H

/-- A token's position, counted within its block of 768 from the block's first, is its position in its sequence. -/
theorem pos_same (i : Fin 6144) :
    IntOp.addi (BitVec.ofNat 32 (i.val % 768)) (posV p (ix1 ⟨i.val / 768, by omega⟩)) = posR p (ix2 i 0) := by
  rw [Cert.KernelIdeal.Hand.posV_apply]
  refine Eq.trans ?_ (Cert.ReferenceIdeal.Hand.posR_apply p i).symm
  have e : i.val % 1536 = i.val % 768 + 768 * (i.val / 768 % 2) := by omega
  have e2 : (⟨i.val / 768 / 2, by omega⟩ : Fin 4) = ⟨i.val / 1536, by omega⟩ := Fin.ext (by show i.val / 768 / 2 = i.val / 1536; omega)
  rw [e, BitVec.ofNat_add, BitVec.ofNat_mul]
  show _ + (p (ix1 (⟨i.val / 768 / 2, by omega⟩ : Fin 4)) + _) = _
  rw [e2]
  show BitVec.ofNat 32 (i.val % 768) + (_ + 768#32 * BitVec.ofNat 32 (i.val / 768 % 2)) = _
  generalize p _ = q
  rw [← BitVec.add_assoc, BitVec.add_comm _ q, BitVec.add_assoc]

/-- The rotation's angles agree. -/
theorem ang_same (s : ℕ) (hs : s < 3) (i : Fin 6144) (n : Fin 2048) :
    Cert.KernelIdeal.Hand.angA (posV p) freqV i ⟨(rowOf s hs n).val % 128, by omega⟩ = Cert.ReferenceIdeal.Hand.angR (posR p) freqR i n := by
  refine congrArg₂ (fun a b : EReal => a * b) (congrArg _ (pos_same p i)) ?_
  refine (Cert.KernelIdeal.Hand.freqV_apply _).trans (Eq.trans ?_ (Cert.ReferenceIdeal.Hand.freqR_apply _).symm)
  exact congrArg Cert.KernelIdeal.Hand.invF (congrArg ix1 (Fin.ext (by show (2048 * s + n.val) % 128 % 64 = n.val % 64; omega)))

include H
/-- The rotated queries (`s = 0`) and keys (`s = 1`) agree. -/
theorem rot_same (s : ℕ) (hs : s < 3) : qArr s hs S (posV p) (xaArr A B) W freqV = rotR A B W S (posR p) freqR s hs := by
  rw [xa_same A B H]
  funext y
  obtain ⟨i, n, rfl⟩ : ∃ (i : Fin 6144) (n : Fin 2048), y = ix2 i n := ⟨y 0, y 1, eq_ix2 y⟩
  have hl : (rowOf s hs n).val % 128 = n.val % 128 := by show (2048 * s + n.val) % 128 = n.val % 128; omega
  show Row.rope (prodA S (xaR A B) W i (rowOf s hs n)) (prodA S (xaR A B) W i (half (rowOf s hs n)))
    (Cert.KernelIdeal.Hand.angA (posV p) freqV i ⟨(rowOf s hs n).val % 128, _⟩) ((rowOf s hs n).val % 128) = _
  rw [ang_same, hl]
  rfl
/-- The values agree. -/
theorem val_same : vArr S (xaArr A B) W = valR A B W S := by
  rw [xa_same A B H]
  rfl

end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_in_range
public import proofs.«01_k».proof.Proof.KernelMain
public import proofs.«01_k».proof.Proof.KernelIdealMain
public import proofs.«01_k».proof.Proof.KernelIdealOut
public import proofs.«01_k».proof.Proof.ReferenceIdealOut
public import proofs.«01_k».proof.Proof.Equal

@[expose] public section

noncomputable section

namespace Cert.Proof

open Idealize.ShloMosaic Idealize.SL.Sem

/-- From arguments in range the kernel's five results are the reference's. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c => Cert.KernelIdeal.Hand.W4 m g c (Proc.devRef .tc Cert.KernelIdeal.main_v24_0),
    fun c => Cert.KernelIdeal.Hand.W4 m g c (Proc.devRef .tc Cert.KernelIdeal.main_v24_1),
    fun c => Cert.KernelIdeal.Hand.W4 m g c (Proc.devRef .tc Cert.KernelIdeal.main_v24_2),
    fun c => Cert.KernelIdeal.Hand.W4 m g c (Proc.devRef .tc Cert.KernelIdeal.main_v2_0),
    fun c => Cert.KernelIdeal.Hand.W4 m g c (Proc.devRef .tc Cert.KernelIdeal.main_v2_1), ?_, ?_⟩
  · exact (θ_run _ _ _).mono (fun _ ⟨h, _⟩ c =>
      ⟨h c _ (Cert.KernelIdeal.Hand.mem_uc Cert.KernelIdeal.main_v24_0 (by decide)),
       h c _ (Cert.KernelIdeal.Hand.mem_uc Cert.KernelIdeal.main_v24_1 (by decide)),
       h c _ (Cert.KernelIdeal.Hand.mem_uc Cert.KernelIdeal.main_v24_2 (by decide)),
       h c _ (Cert.KernelIdeal.Hand.mem_uc Cert.KernelIdeal.main_v2_0 (by decide)),
       h c _ (Cert.KernelIdeal.Hand.mem_uc Cert.KernelIdeal.main_v2_1 (by decide)),
       (h c _ (Cert.KernelIdeal.Hand.mem_uc Cert.KernelIdeal.main_arg0 (by decide))).trans (Cert.KernelIdeal.Hand.W4_main_arg0 m g c),
       (h c _ (Cert.KernelIdeal.Hand.mem_uc Cert.KernelIdeal.main_arg1 (by decide))).trans (Cert.KernelIdeal.Hand.W4_main_arg1 m g c),
       (h c _ (Cert.KernelIdeal.Hand.mem_uc Cert.KernelIdeal.main_arg2 (by decide))).trans (Cert.KernelIdeal.Hand.W4_main_arg2 m g c),
       (h c _ (Cert.KernelIdeal.Hand.mem_uc Cert.KernelIdeal.main_arg3 (by decide))).trans (Cert.KernelIdeal.Hand.W4_main_arg3 m g c),
       (h c _ (Cert.KernelIdeal.Hand.mem_uc Cert.KernelIdeal.main_arg4 (by decide))).trans (Cert.KernelIdeal.Hand.W4_main_arg4 m g c)⟩)
      (Cert.KernelIdeal.Hand.run m g)
  · refine (θ_run _ _ _).mono (fun r h c => ?_) (Cert.ReferenceIdeal.Value.run_blocks m' g')
    obtain ⟨h0, h1, h2, h3, h4, hk⟩ := h c
    obtain ⟨p0, p1, p2, p3, p4⟩ := hargs c
    obtain ⟨q1, q2⟩ := hpre c
    have H := Cert.Equal.agree _ _ _ _ _ q1 q2
    have e0 : Cert.ReferenceIdeal.Hand.a0 m' c = Cert.KernelIdeal.Hand.a0 m c := p0
    have e1 : Cert.ReferenceIdeal.Hand.a1 m' c = Cert.KernelIdeal.Hand.a1 m c := p1
    have e2 : Cert.ReferenceIdeal.Hand.a2 m' c = Cert.KernelIdeal.Hand.a2 m c := p2
    have e3 : Cert.ReferenceIdeal.Hand.a3 m' c = Cert.KernelIdeal.Hand.a3 m c := p3
    have e4 : Cert.ReferenceIdeal.Hand.a4 m' c = Cert.KernelIdeal.Hand.a4 m c := p4
    have r6 := Cert.ReferenceIdeal.Hand.arr6 m' c
    have r7 := Cert.ReferenceIdeal.Hand.arr7 m' c
    have r8 := Cert.ReferenceIdeal.Hand.arr8 m' c
    have r9 := Cert.ReferenceIdeal.Hand.arr9 m' c
    have r10 := Cert.ReferenceIdeal.Hand.arr10 m' c
    rw [e0, e1, e2, e3, e4] at r6 r7
    rw [e0, e1, e2, e3] at r8
    rw [e0, e1] at r9 r10
    exact ⟨(h0.trans r6).trans (((Cert.KernelIdeal.Hand.out_q m g c).trans (Cert.Equal.rot_same _ _ _ _ _ H 0 (by omega))).symm),
      (h1.trans r7).trans (((Cert.KernelIdeal.Hand.out_k m g c).trans (Cert.Equal.rot_same _ _ _ _ _ H 1 (by omega))).symm),
      (h2.trans r8).trans (((Cert.KernelIdeal.Hand.out_v m g c).trans (Cert.Equal.val_same _ _ _ _ H)).symm),
      (h3.trans r9).trans (((Cert.KernelIdeal.Hand.out_codes m g c).trans (Cert.Equal.codes_same _ _ H)).symm),
      (h4.trans r10).trans (((Cert.KernelIdeal.Hand.out_scale m g c).trans (Cert.Equal.scale_same _ _ H)).symm), hk⟩

theorem claim : Cert.Claim := ⟨Cert.Kernel.Gen.facts, Cert.KernelIdeal.Gen.facts, Cert.ReferenceIdeal.Gen.facts, Cert.Pre_in_range.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
